-- ==== Defs.lean ====
def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaIdeal_finite [hPre_finite : Cert.Pre_finite.Facts] (m : (ℓ : Loc Cert.DeltaIdeal.nD Cert.DeltaIdeal.τ Cert.DeltaIdeal.sig) → Buf (Elt Ideal) ℓ) : Prop :=
  ∀ c : Dev Cert.DeltaIdeal.nD,
    (Cert.Pre_finite.fn (F := Ideal) (m ((c.tc : Thread Cert.DeltaIdeal.nD Cert.DeltaIdeal.τ).loc Cert.DeltaIdeal.main_arg0)) (m ((c.tc : Thread Cert.DeltaIdeal.nD Cert.DeltaIdeal.τ).loc Cert.DeltaIdeal.main_arg1)) (m ((c.tc : Thread Cert.DeltaIdeal.nD Cert.DeltaIdeal.τ).loc Cert.DeltaIdeal.main_arg2)) (m ((c.tc : Thread Cert.DeltaIdeal.nD Cert.DeltaIdeal.τ).loc Cert.DeltaIdeal.main_arg3)) (m ((c.tc : Thread Cert.DeltaIdeal.nD Cert.DeltaIdeal.τ).loc Cert.DeltaIdeal.main_arg4)) (m ((c.tc : Thread Cert.DeltaIdeal.nD Cert.DeltaIdeal.τ).loc Cert.DeltaIdeal.main_arg5)) (m ((c.tc : Thread Cert.DeltaIdeal.nD Cert.DeltaIdeal.τ).loc Cert.DeltaIdeal.main_arg6))) = (fun _ => 1#1)

def Pre_DeltaRefIdeal (m : (ℓ : Loc Cert.DeltaRefIdeal.nD Cert.DeltaRefIdeal.τ Cert.DeltaRefIdeal.sig) → Buf (Elt Ideal) ℓ) : Prop :=
  True

def Pre_DeltaRefIdeal_finite [hPre_finite : Cert.Pre_finite.Facts] (m : (ℓ : Loc Cert.DeltaRefIdeal.nD Cert.DeltaRefIdeal.τ Cert.DeltaRefIdeal.sig) → Buf (Elt Ideal) ℓ) : Prop :=
  ∀ c : Dev Cert.DeltaRefIdeal.nD,
    (Cert.Pre_finite.fn (F := Ideal) (m ((c.tc : Thread Cert.DeltaRefIdeal.nD Cert.DeltaRefIdeal.τ).loc Cert.DeltaRefIdeal.main_arg0)) (m ((c.tc : Thread Cert.DeltaRefIdeal.nD Cert.DeltaRefIdeal.τ).loc Cert.DeltaRefIdeal.main_arg1)) (m ((c.tc : Thread Cert.DeltaRefIdeal.nD Cert.DeltaRefIdeal.τ).loc Cert.DeltaRefIdeal.main_arg2)) (m ((c.tc : Thread Cert.DeltaRefIdeal.nD Cert.DeltaRefIdeal.τ).loc Cert.DeltaRefIdeal.main_arg3)) (m ((c.tc : Thread Cert.DeltaRefIdeal.nD Cert.DeltaRefIdeal.τ).loc Cert.DeltaRefIdeal.main_arg4)) (m ((c.tc : Thread Cert.DeltaRefIdeal.nD Cert.DeltaRefIdeal.τ).loc Cert.DeltaRefIdeal.main_arg5)) (m ((c.tc : Thread Cert.DeltaRefIdeal.nD Cert.DeltaRefIdeal.τ).loc Cert.DeltaRefIdeal.main_arg6))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1)
      ∧ r.2.mem ((c.tc : Thread Cert.Delta.nD Cert.Delta.τ).loc Cert.Delta.main_arg2) = m ((c.tc : Thread Cert.Delta.nD Cert.Delta.τ).loc Cert.Delta.main_arg2)
      ∧ r.2.mem ((c.tc : Thread Cert.Delta.nD Cert.Delta.τ).loc Cert.Delta.main_arg3) = m ((c.tc : Thread Cert.Delta.nD Cert.Delta.τ).loc Cert.Delta.main_arg3)
      ∧ r.2.mem ((c.tc : Thread Cert.Delta.nD Cert.Delta.τ).loc Cert.Delta.main_arg4) = m ((c.tc : Thread Cert.Delta.nD Cert.Delta.τ).loc Cert.Delta.main_arg4)
      ∧ r.2.mem ((c.tc : Thread Cert.Delta.nD Cert.Delta.τ).loc Cert.Delta.main_arg5) = m ((c.tc : Thread Cert.Delta.nD Cert.Delta.τ).loc Cert.Delta.main_arg5)
      ∧ r.2.mem ((c.tc : Thread Cert.Delta.nD Cert.Delta.τ).loc Cert.Delta.main_arg6) = m ((c.tc : Thread Cert.Delta.nD Cert.Delta.τ).loc Cert.Delta.main_arg6))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
      ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3)
      ∧ r.2.mem ((c.tc : Thread Cert.DeltaIdeal.nD Cert.DeltaIdeal.τ).loc Cert.DeltaIdeal.main_arg4) = m ((c.tc : Thread Cert.DeltaIdeal.nD Cert.DeltaIdeal.τ).loc Cert.DeltaIdeal.main_arg4)
      ∧ r.2.mem ((c.tc : Thread Cert.DeltaIdeal.nD Cert.DeltaIdeal.τ).loc Cert.DeltaIdeal.main_arg5) = m ((c.tc : Thread Cert.DeltaIdeal.nD Cert.DeltaIdeal.τ).loc Cert.DeltaIdeal.main_arg5)
      ∧ r.2.mem ((c.tc : Thread Cert.DeltaIdeal.nD Cert.DeltaIdeal.τ).loc Cert.DeltaIdeal.main_arg6) = m ((c.tc : Thread Cert.DeltaIdeal.nD Cert.DeltaIdeal.τ).loc Cert.DeltaIdeal.main_arg6))
      ∧ r.2.sem = fun _ => 0)

def quiescent_DeltaIdeal_pre_finite [hDeltaIdeal : Cert.DeltaIdeal.Facts] [hPre_finite : Cert.Pre_finite.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal_finite m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
      ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3)
      ∧ r.2.mem ((c.tc : Thread Cert.DeltaIdeal.nD Cert.DeltaIdeal.τ).loc Cert.DeltaIdeal.main_arg4) = m ((c.tc : Thread Cert.DeltaIdeal.nD Cert.DeltaIdeal.τ).loc Cert.DeltaIdeal.main_arg4)
      ∧ r.2.mem ((c.tc : Thread Cert.DeltaIdeal.nD Cert.DeltaIdeal.τ).loc Cert.DeltaIdeal.main_arg5) = m ((c.tc : Thread Cert.DeltaIdeal.nD Cert.DeltaIdeal.τ).loc Cert.DeltaIdeal.main_arg5)
      ∧ r.2.mem ((c.tc : Thread Cert.DeltaIdeal.nD Cert.DeltaIdeal.τ).loc Cert.DeltaIdeal.main_arg6) = m ((c.tc : Thread Cert.DeltaIdeal.nD Cert.DeltaIdeal.τ).loc Cert.DeltaIdeal.main_arg6))
      ∧ r.2.sem = fun _ => 0)

def quiescent_DeltaRefIdeal [hDeltaRefIdeal : Cert.DeltaRefIdeal.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1)
      ∧ r.2.mem ((c.tc : Thread Cert.DeltaRefIdeal.nD Cert.DeltaRefIdeal.τ).loc Cert.DeltaRefIdeal.main_arg2) = m ((c.tc : Thread Cert.DeltaRefIdeal.nD Cert.DeltaRefIdeal.τ).loc Cert.DeltaRefIdeal.main_arg2)
      ∧ r.2.mem ((c.tc : Thread Cert.DeltaRefIdeal.nD Cert.DeltaRefIdeal.τ).loc Cert.DeltaRefIdeal.main_arg3) = m ((c.tc : Thread Cert.DeltaRefIdeal.nD Cert.DeltaRefIdeal.τ).loc Cert.DeltaRefIdeal.main_arg3)
      ∧ r.2.mem ((c.tc : Thread Cert.DeltaRefIdeal.nD Cert.DeltaRefIdeal.τ).loc Cert.DeltaRefIdeal.main_arg4) = m ((c.tc : Thread Cert.DeltaRefIdeal.nD Cert.DeltaRefIdeal.τ).loc Cert.DeltaRefIdeal.main_arg4)
      ∧ r.2.mem ((c.tc : Thread Cert.DeltaRefIdeal.nD Cert.DeltaRefIdeal.τ).loc Cert.DeltaRefIdeal.main_arg5) = m ((c.tc : Thread Cert.DeltaRefIdeal.nD Cert.DeltaRefIdeal.τ).loc Cert.DeltaRefIdeal.main_arg5)
      ∧ r.2.mem ((c.tc : Thread Cert.DeltaRefIdeal.nD Cert.DeltaRefIdeal.τ).loc Cert.DeltaRefIdeal.main_arg6) = m ((c.tc : Thread Cert.DeltaRefIdeal.nD Cert.DeltaRefIdeal.τ).loc Cert.DeltaRefIdeal.main_arg6))
      ∧ r.2.sem = fun _ => 0)

def quiescent_DeltaRefIdeal_pre_finite [hDeltaRefIdeal : Cert.DeltaRefIdeal.Facts] [hPre_finite : Cert.Pre_finite.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal_finite m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1)
      ∧ r.2.mem ((c.tc : Thread Cert.DeltaRefIdeal.nD Cert.DeltaRefIdeal.τ).loc Cert.DeltaRefIdeal.main_arg2) = m ((c.tc : Thread Cert.DeltaRefIdeal.nD Cert.DeltaRefIdeal.τ).loc Cert.DeltaRefIdeal.main_arg2)
      ∧ r.2.mem ((c.tc : Thread Cert.DeltaRefIdeal.nD Cert.DeltaRefIdeal.τ).loc Cert.DeltaRefIdeal.main_arg3) = m ((c.tc : Thread Cert.DeltaRefIdeal.nD Cert.DeltaRefIdeal.τ).loc Cert.DeltaRefIdeal.main_arg3)
      ∧ r.2.mem ((c.tc : Thread Cert.DeltaRefIdeal.nD Cert.DeltaRefIdeal.τ).loc Cert.DeltaRefIdeal.main_arg4) = m ((c.tc : Thread Cert.DeltaRefIdeal.nD Cert.DeltaRefIdeal.τ).loc Cert.DeltaRefIdeal.main_arg4)
      ∧ r.2.mem ((c.tc : Thread Cert.DeltaRefIdeal.nD Cert.DeltaRefIdeal.τ).loc Cert.DeltaRefIdeal.main_arg5) = m ((c.tc : Thread Cert.DeltaRefIdeal.nD Cert.DeltaRefIdeal.τ).loc Cert.DeltaRefIdeal.main_arg5)
      ∧ r.2.mem ((c.tc : Thread Cert.DeltaRefIdeal.nD Cert.DeltaRefIdeal.τ).loc Cert.DeltaRefIdeal.main_arg6) = m ((c.tc : Thread Cert.DeltaRefIdeal.nD Cert.DeltaRefIdeal.τ).loc Cert.DeltaRefIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5)
      ∧ r.2.mem ((c.tc : Thread Cert.Final.nD Cert.Final.τ).loc Cert.Final.main_arg6) = m ((c.tc : Thread Cert.Final.nD Cert.Final.τ).loc Cert.Final.main_arg6))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5)
      ∧ r.2.mem ((c.tc : Thread Cert.FinalRefIdeal.nD Cert.FinalRefIdeal.τ).loc Cert.FinalRefIdeal.main_arg6) = m ((c.tc : Thread Cert.FinalRefIdeal.nD Cert.FinalRefIdeal.τ).loc Cert.FinalRefIdeal.main_arg6))
      ∧ r.2.sem = fun _ => 0)

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0_0)) (v1 : (c : Dev Cert.ExpertsIdeal.nD) → Buf (Elt Ideal) ((c.tc : Thread Cert.ExpertsIdeal.nD Cert.ExpertsIdeal.τ).loc Cert.ExpertsIdeal.main_v0_1)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0_0) = v0 c
          ∧ r.2.mem ((c.tc : Thread Cert.ExpertsIdeal.nD Cert.ExpertsIdeal.τ).loc Cert.ExpertsIdeal.main_v0_1) = v1 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v6) = v0 c
          ∧ r.2.mem ((c.tc : Thread Cert.ExpertsRefIdeal.nD Cert.ExpertsRefIdeal.τ).loc Cert.ExpertsRefIdeal.main_v13) = v1 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Delta_DeltaIdeal : Prop :=
  True

def algebraic_DeltaIdeal_DeltaRefIdeal_pre_finite [hDeltaIdeal : Cert.DeltaIdeal.Facts] [hDeltaRefIdeal : Cert.DeltaRefIdeal.Facts] [hPre_finite : Cert.Pre_finite.Facts] : Prop :=
  ∀ (m : (ℓ : Loc Cert.DeltaIdeal.nD Cert.DeltaIdeal.τ Cert.DeltaIdeal.sig) → Buf (Elt Ideal) ℓ) (g : Dev Cert.DeltaIdeal.nD → PrngReg)
    (m' : (ℓ : Loc Cert.DeltaRefIdeal.nD Cert.DeltaRefIdeal.τ Cert.DeltaRefIdeal.sig) → Buf (Elt Ideal) ℓ) (g' : Dev Cert.DeltaRefIdeal.nD → PrngReg), Pre_DeltaIdeal_finite m →
    (∀ c : Dev Cert.DeltaIdeal.nD,
      m' ((c.tc : Thread Cert.DeltaRefIdeal.nD Cert.DeltaRefIdeal.τ).loc Cert.DeltaRefIdeal.main_arg0) = m ((c.tc : Thread Cert.DeltaIdeal.nD Cert.DeltaIdeal.τ).loc Cert.DeltaIdeal.main_arg0)
      ∧ m' ((c.tc : Thread Cert.DeltaRefIdeal.nD Cert.DeltaRefIdeal.τ).loc Cert.DeltaRefIdeal.main_arg1) = m ((c.tc : Thread Cert.DeltaIdeal.nD Cert.DeltaIdeal.τ).loc Cert.DeltaIdeal.main_arg1)
      ∧ m' ((c.tc : Thread Cert.DeltaRefIdeal.nD Cert.DeltaRefIdeal.τ).loc Cert.DeltaRefIdeal.main_arg2) = m ((c.tc : Thread Cert.DeltaIdeal.nD Cert.DeltaIdeal.τ).loc Cert.DeltaIdeal.main_arg2)
      ∧ m' ((c.tc : Thread Cert.DeltaRefIdeal.nD Cert.DeltaRefIdeal.τ).loc Cert.DeltaRefIdeal.main_arg3) = m ((c.tc : Thread Cert.DeltaIdeal.nD Cert.DeltaIdeal.τ).loc Cert.DeltaIdeal.main_arg3)
      ∧ m' ((c.tc : Thread Cert.DeltaRefIdeal.nD Cert.DeltaRefIdeal.τ).loc Cert.DeltaRefIdeal.main_arg4) = m ((c.tc : Thread Cert.DeltaIdeal.nD Cert.DeltaIdeal.τ).loc Cert.DeltaIdeal.main_arg4)
      ∧ m' ((c.tc : Thread Cert.DeltaRefIdeal.nD Cert.DeltaRefIdeal.τ).loc Cert.DeltaRefIdeal.main_arg5) = m ((c.tc : Thread Cert.DeltaIdeal.nD Cert.DeltaIdeal.τ).loc Cert.DeltaIdeal.main_arg5)
      ∧ m' ((c.tc : Thread Cert.DeltaRefIdeal.nD Cert.DeltaRefIdeal.τ).loc Cert.DeltaRefIdeal.main_arg6) = m ((c.tc : Thread Cert.DeltaIdeal.nD Cert.DeltaIdeal.τ).loc Cert.DeltaIdeal.main_arg6)) →
    ∃ (v0 : (c : Dev Cert.DeltaIdeal.nD) → Buf (Elt Ideal) ((c.tc : Thread Cert.DeltaIdeal.nD Cert.DeltaIdeal.τ).loc Cert.DeltaIdeal.main_v16_0)) (v1 : (c : Dev Cert.DeltaIdeal.nD) → Buf (Elt Ideal) ((c.tc : Thread Cert.DeltaIdeal.nD Cert.DeltaIdeal.τ).loc Cert.DeltaIdeal.main_v16_1)) (v2 : (c : Dev Cert.DeltaIdeal.nD) → Buf (Elt Ideal) ((c.tc : Thread Cert.DeltaIdeal.nD Cert.DeltaIdeal.τ).loc Cert.DeltaIdeal.main_v16_2)),
      θ_run (Cert.DeltaIdeal.defs (F := Ideal)) (onTc (τ := Cert.DeltaIdeal.τ) (Cert.DeltaIdeal.main (F := Ideal))) ⟨m, fun _ => 0, g⟩ (fun r => ∀ c : Dev Cert.DeltaIdeal.nD,
          r.2.mem ((c.tc : Thread Cert.DeltaIdeal.nD Cert.DeltaIdeal.τ).loc Cert.DeltaIdeal.main_v16_0) = v0 c
          ∧ r.2.mem ((c.tc : Thread Cert.DeltaIdeal.nD Cert.DeltaIdeal.τ).loc Cert.DeltaIdeal.main_v16_1) = v1 c
          ∧ r.2.mem ((c.tc : Thread Cert.DeltaIdeal.nD Cert.DeltaIdeal.τ).loc Cert.DeltaIdeal.main_v16_2) = v2 c
          ∧ r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
          ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
          ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
          ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3)
          ∧ r.2.mem ((c.tc : Thread Cert.DeltaIdeal.nD Cert.DeltaIdeal.τ).loc Cert.DeltaIdeal.main_arg4) = m ((c.tc : Thread Cert.DeltaIdeal.nD Cert.DeltaIdeal.τ).loc Cert.DeltaIdeal.main_arg4)
          ∧ r.2.mem ((c.tc : Thread Cert.DeltaIdeal.nD Cert.DeltaIdeal.τ).loc Cert.DeltaIdeal.main_arg5) = m ((c.tc : Thread Cert.DeltaIdeal.nD Cert.DeltaIdeal.τ).loc Cert.DeltaIdeal.main_arg5)
          ∧ r.2.mem ((c.tc : Thread Cert.DeltaIdeal.nD Cert.DeltaIdeal.τ).loc Cert.DeltaIdeal.main_arg6) = m ((c.tc : Thread Cert.DeltaIdeal.nD Cert.DeltaIdeal.τ).loc Cert.DeltaIdeal.main_arg6))
      ∧ θ_run (Cert.DeltaRefIdeal.defs (F := Ideal)) (onTc (τ := Cert.DeltaRefIdeal.τ) (Cert.DeltaRefIdeal.main (F := Ideal))) ⟨m', fun _ => 0, g'⟩ (fun r => ∀ c : Dev Cert.DeltaRefIdeal.nD,
          r.2.mem ((c.tc : Thread Cert.DeltaRefIdeal.nD Cert.DeltaRefIdeal.τ).loc Cert.DeltaRefIdeal.main_v142) = v0 c
          ∧ r.2.mem ((c.tc : Thread Cert.DeltaRefIdeal.nD Cert.DeltaRefIdeal.τ).loc Cert.DeltaRefIdeal.main_v114) = v1 c
          ∧ r.2.mem ((c.tc : Thread Cert.DeltaRefIdeal.nD Cert.DeltaRefIdeal.τ).loc Cert.DeltaRefIdeal.main_v116) = v2 c
          ∧ r.2.mem ((c.tc : Thread Cert.DeltaRefIdeal.nD Cert.DeltaRefIdeal.τ).loc Cert.DeltaRefIdeal.main_arg0) = m' ((c.tc : Thread Cert.DeltaRefIdeal.nD Cert.DeltaRefIdeal.τ).loc Cert.DeltaRefIdeal.main_arg0)
          ∧ r.2.mem ((c.tc : Thread Cert.DeltaRefIdeal.nD Cert.DeltaRefIdeal.τ).loc Cert.DeltaRefIdeal.main_arg1) = m' ((c.tc : Thread Cert.DeltaRefIdeal.nD Cert.DeltaRefIdeal.τ).loc Cert.DeltaRefIdeal.main_arg1)
          ∧ r.2.mem ((c.tc : Thread Cert.DeltaRefIdeal.nD Cert.DeltaRefIdeal.τ).loc Cert.DeltaRefIdeal.main_arg2) = m' ((c.tc : Thread Cert.DeltaRefIdeal.nD Cert.DeltaRefIdeal.τ).loc Cert.DeltaRefIdeal.main_arg2)
          ∧ r.2.mem ((c.tc : Thread Cert.DeltaRefIdeal.nD Cert.DeltaRefIdeal.τ).loc Cert.DeltaRefIdeal.main_arg3) = m' ((c.tc : Thread Cert.DeltaRefIdeal.nD Cert.DeltaRefIdeal.τ).loc Cert.DeltaRefIdeal.main_arg3)
          ∧ r.2.mem ((c.tc : Thread Cert.DeltaRefIdeal.nD Cert.DeltaRefIdeal.τ).loc Cert.DeltaRefIdeal.main_arg4) = m' ((c.tc : Thread Cert.DeltaRefIdeal.nD Cert.DeltaRefIdeal.τ).loc Cert.DeltaRefIdeal.main_arg4)
          ∧ r.2.mem ((c.tc : Thread Cert.DeltaRefIdeal.nD Cert.DeltaRefIdeal.τ).loc Cert.DeltaRefIdeal.main_arg5) = m' ((c.tc : Thread Cert.DeltaRefIdeal.nD Cert.DeltaRefIdeal.τ).loc Cert.DeltaRefIdeal.main_arg5)
          ∧ r.2.mem ((c.tc : Thread Cert.DeltaRefIdeal.nD Cert.DeltaRefIdeal.τ).loc Cert.DeltaRefIdeal.main_arg6) = m' ((c.tc : Thread Cert.DeltaRefIdeal.nD Cert.DeltaRefIdeal.τ).loc Cert.DeltaRefIdeal.main_arg6))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v9_0)) (v1 : (c : Dev Cert.InprojIdeal.nD) → Buf (Elt Ideal) ((c.tc : Thread Cert.InprojIdeal.nD Cert.InprojIdeal.τ).loc Cert.InprojIdeal.main_v9_1)) (v2 : (c : Dev Cert.InprojIdeal.nD) → Buf (Elt Ideal) ((c.tc : Thread Cert.InprojIdeal.nD Cert.InprojIdeal.τ).loc Cert.InprojIdeal.main_v9_2)) (v3 : (c : Dev Cert.InprojIdeal.nD) → Buf (Elt Ideal) ((c.tc : Thread Cert.InprojIdeal.nD Cert.InprojIdeal.τ).loc Cert.InprojIdeal.main_v9_3)) (v4 : (c : Dev Cert.InprojIdeal.nD) → Buf (Elt Ideal) ((c.tc : Thread Cert.InprojIdeal.nD Cert.InprojIdeal.τ).loc Cert.InprojIdeal.main_v9_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v9_0) = v0 c
          ∧ r.2.mem ((c.tc : Thread Cert.InprojIdeal.nD Cert.InprojIdeal.τ).loc Cert.InprojIdeal.main_v9_1) = v1 c
          ∧ r.2.mem ((c.tc : Thread Cert.InprojIdeal.nD Cert.InprojIdeal.τ).loc Cert.InprojIdeal.main_v9_2) = v2 c
          ∧ r.2.mem ((c.tc : Thread Cert.InprojIdeal.nD Cert.InprojIdeal.τ).loc Cert.InprojIdeal.main_v9_3) = v3 c
          ∧ r.2.mem ((c.tc : Thread Cert.InprojIdeal.nD Cert.InprojIdeal.τ).loc Cert.InprojIdeal.main_v9_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v33) = v0 c
          ∧ r.2.mem ((c.tc : Thread Cert.InprojRefIdeal.nD Cert.InprojRefIdeal.τ).loc Cert.InprojRefIdeal.main_v34) = v1 c
          ∧ r.2.mem ((c.tc : Thread Cert.InprojRefIdeal.nD Cert.InprojRefIdeal.τ).loc Cert.InprojRefIdeal.main_v38) = v2 c
          ∧ r.2.mem ((c.tc : Thread Cert.InprojRefIdeal.nD Cert.InprojRefIdeal.τ).loc Cert.InprojRefIdeal.main_v36) = v3 c
          ∧ r.2.mem ((c.tc : Thread Cert.InprojRefIdeal.nD Cert.InprojRefIdeal.τ).loc Cert.InprojRefIdeal.main_v37) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v13_0)) (v1 : (c : Dev Cert.MixIdeal.nD) → Buf (Elt Ideal) ((c.tc : Thread Cert.MixIdeal.nD Cert.MixIdeal.τ).loc Cert.MixIdeal.main_v13_1)) (v2 : (c : Dev Cert.MixIdeal.nD) → Buf (Elt Ideal) ((c.tc : Thread Cert.MixIdeal.nD Cert.MixIdeal.τ).loc Cert.MixIdeal.main_v13_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v13_0) = v0 c
          ∧ r.2.mem ((c.tc : Thread Cert.MixIdeal.nD Cert.MixIdeal.τ).loc Cert.MixIdeal.main_v13_1) = v1 c
          ∧ r.2.mem ((c.tc : Thread Cert.MixIdeal.nD Cert.MixIdeal.τ).loc Cert.MixIdeal.main_v13_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v54) = v0 c
          ∧ r.2.mem ((c.tc : Thread Cert.MixRefIdeal.nD Cert.MixRefIdeal.τ).loc Cert.MixRefIdeal.main_v82) = v1 c
          ∧ r.2.mem ((c.tc : Thread Cert.MixRefIdeal.nD Cert.MixRefIdeal.τ).loc Cert.MixRefIdeal.main_v93) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)
      ∧ m' ((c.tc : Thread Cert.FinalRefIdeal.nD Cert.FinalRefIdeal.τ).loc Cert.FinalRefIdeal.main_arg5) = m ((c.tc : Thread Cert.FinalIdeal.nD Cert.FinalIdeal.τ).loc Cert.FinalIdeal.main_arg5)
      ∧ m' ((c.tc : Thread Cert.FinalRefIdeal.nD Cert.FinalRefIdeal.τ).loc Cert.FinalRefIdeal.main_arg6) = m ((c.tc : Thread Cert.FinalIdeal.nD Cert.FinalIdeal.τ).loc Cert.FinalIdeal.main_arg6)) →
    ∃ (v0 : (c : Dev Cert.FinalIdeal.nD) → Buf (Elt Ideal) ((c.tc : Thread Cert.FinalIdeal.nD Cert.FinalIdeal.τ).loc Cert.FinalIdeal.main_v4)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v4) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
          ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v45) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4)
          ∧ r.2.mem ((c.tc : Thread Cert.FinalRefIdeal.nD Cert.FinalRefIdeal.τ).loc Cert.FinalRefIdeal.main_arg5) = m' ((c.tc : Thread Cert.FinalRefIdeal.nD Cert.FinalRefIdeal.τ).loc Cert.FinalRefIdeal.main_arg5)
          ∧ r.2.mem ((c.tc : Thread Cert.FinalRefIdeal.nD Cert.FinalRefIdeal.τ).loc Cert.FinalRefIdeal.main_arg6) = m' ((c.tc : Thread Cert.FinalRefIdeal.nD Cert.FinalRefIdeal.τ).loc Cert.FinalRefIdeal.main_arg6))

def Claim : Prop :=
  ∃ (hExperts : Cert.Experts.Facts) (hExpertsIdeal : Cert.ExpertsIdeal.Facts) (hExpertsRefIdeal : Cert.ExpertsRefIdeal.Facts) (hDelta : Cert.Delta.Facts) (hDeltaIdeal : Cert.DeltaIdeal.Facts) (hDeltaRefIdeal : Cert.DeltaRefIdeal.Facts) (hInproj : Cert.Inproj.Facts) (hInprojIdeal : Cert.InprojIdeal.Facts) (hInprojRefIdeal : Cert.InprojRefIdeal.Facts) (hMix : Cert.Mix.Facts) (hMixIdeal : Cert.MixIdeal.Facts) (hMixRefIdeal : Cert.MixRefIdeal.Facts) (hFinal : Cert.Final.Facts) (hFinalIdeal : Cert.FinalIdeal.Facts) (hFinalRefIdeal : Cert.FinalRefIdeal.Facts) (hPre_finite : Cert.Pre_finite.Facts),
    quiescent_Experts (hExperts := hExperts)
    ∧ quiescent_ExpertsIdeal (hExpertsIdeal := hExpertsIdeal)
    ∧ quiescent_ExpertsRefIdeal (hExpertsRefIdeal := hExpertsRefIdeal)
    ∧ quiescent_Delta (hDelta := hDelta)
    ∧ quiescent_DeltaIdeal (hDeltaIdeal := hDeltaIdeal)
    ∧ quiescent_DeltaIdeal_pre_finite (hDeltaIdeal := hDeltaIdeal) (hPre_finite := hPre_finite)
    ∧ quiescent_DeltaRefIdeal (hDeltaRefIdeal := hDeltaRefIdeal)
    ∧ quiescent_DeltaRefIdeal_pre_finite (hDeltaRefIdeal := hDeltaRefIdeal) (hPre_finite := hPre_finite)
    ∧ quiescent_Inproj (hInproj := hInproj)
    ∧ quiescent_InprojIdeal (hInprojIdeal := hInprojIdeal)
    ∧ quiescent_InprojRefIdeal (hInprojRefIdeal := hInprojRefIdeal)
    ∧ quiescent_Mix (hMix := hMix)
    ∧ quiescent_MixIdeal (hMixIdeal := hMixIdeal)
    ∧ quiescent_MixRefIdeal (hMixRefIdeal := hMixRefIdeal)
    ∧ quiescent_Final (hFinal := hFinal)
    ∧ quiescent_FinalIdeal (hFinalIdeal := hFinalIdeal)
    ∧ quiescent_FinalRefIdeal (hFinalRefIdeal := hFinalRefIdeal)
    ∧ preserves_Experts_ExpertsIdeal
    ∧ algebraic_ExpertsIdeal_ExpertsRefIdeal (hExpertsIdeal := hExpertsIdeal) (hExpertsRefIdeal := hExpertsRefIdeal)
    ∧ preserves_Delta_DeltaIdeal
    ∧ algebraic_DeltaIdeal_DeltaRefIdeal_pre_finite (hDeltaIdeal := hDeltaIdeal) (hDeltaRefIdeal := hDeltaRefIdeal) (hPre_finite := hPre_finite)
    ∧ preserves_Inproj_InprojIdeal
    ∧ algebraic_InprojIdeal_InprojRefIdeal (hInprojIdeal := hInprojIdeal) (hInprojRefIdeal := hInprojRefIdeal)
    ∧ preserves_Mix_MixIdeal
    ∧ algebraic_MixIdeal_MixRefIdeal (hMixIdeal := hMixIdeal) (hMixRefIdeal := hMixRefIdeal)
    ∧ preserves_Final_FinalIdeal
    ∧ algebraic_FinalIdeal_FinalRefIdeal (hFinalIdeal := hFinalIdeal) (hFinalRefIdeal := hFinalRefIdeal)
-- ==== Pre_finite.lean ====
abbrev S8192x1536 : Shape := ⟨2, ![8192, 1536]⟩
abbrev S8192x512 : Shape := ⟨2, ![8192, 512]⟩
abbrev S8192x128 : Shape := ⟨2, ![8192, 128]⟩
abbrev S1x3x1536 : Shape := ⟨3, ![1, 3, 1536]⟩
abbrev S1x2x4 : Shape := ⟨3, ![1, 2, 4]⟩
abbrev S1x128 : Shape := ⟨2, ![1, 128]⟩
abbrev S_ : Shape := ⟨0, ![]⟩

class Facts : Prop where
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S1x3x1536 : S_.BroadcastsInDim S1x3x1536 (![] : Fin 0 → Fin S1x3x1536.rank)
  reducesTo_S1x3x1536_S_d0_1_2 : S1x3x1536.ReducesTo [0, 1, 2] S_
  bcast_S_S1x2x4 : S_.BroadcastsInDim S1x2x4 (![] : Fin 0 → Fin S1x2x4.rank)
  reducesTo_S1x2x4_S_d0_1_2 : S1x2x4.ReducesTo [0, 1, 2] S_

variable [Facts]

def fn_part1 {F : FTy → Type} [FloatOps F] (main_arg5 : FVec F S1x2x4 .f32) (main_v13 : IVec S_ 1) (main_v16 : IVec S1x2x4 1) : IVec S_ 1 :=
  let main_c_5 : IVec S_ 1 := constantI S_ 1 1#1
  let main_v17 : IVec S_ 1 := (fun x v => Host.reduce IntOp.andi x v reducesTo_S1x2x4_S_d0_1_2 h_S_) main_v16 main_c_5
  let main_v18 : IVec S_ 1 := andi main_v13 main_v17
  let main_v19 : FVec F S1x2x4 .f32 := Host.absf main_arg5
  let main_cst_6 : FVec F S_ .f32 := constant S_ .f32 0x7F800000#32
  let main_v20 : FVec F S1x2x4 .f32 := broadcastInDim S1x2x4 ![] bcast_S_S1x2x4 main_cst_6
  let main_v21 : IVec S1x2x4 1 := cmpf .olt main_v19 main_v20
  let main_c_7 : IVec S_ 1 := constantI S_ 1 1#1
  let main_v22 : IVec S_ 1 := (fun x v => Host.reduce IntOp.andi x v reducesTo_S1x2x4_S_d0_1_2 h_S_) main_v21 main_c_7
  let main_v23 : IVec S_ 1 := andi main_v18 main_v22
  main_v23

def fn {F : FTy → Type} [FloatOps F] (main_arg0 : FVec F S8192x1536 .f32) (main_arg1 : FVec F S8192x512 .f32) (main_arg2 : FVec F S8192x128 .f32) (main_arg3 : FVec F S1x3x1536 .f32) (main_arg4 : FVec F S1x2x4 .f32) (main_arg5 : FVec F S1x2x4 .f32) (main_arg6 : FVec F S1x128 .f32) : IVec S_ 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  let main_c : IVec S_ 1 := constantI S_ 1 1#1
  let main_v3 : IVec S_ 1 := (fun x v => Host.reduce IntOp.andi x v reducesTo_S8192x1536_S_d0_1 h_S_) main_v2 main_c
  let main_v4 : FVec F S8192x128 .f32 := Host.absf main_arg2
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S1x3x1536 .f32 := Host.absf main_arg3
  let main_cst_2 : FVec F S_ .f32 := constant S_ .f32 0x7F800000#32
  let main_v10 : FVec F S1x3x1536 .f32 := broadcastInDim S1x3x1536 ![] bcast_S_S1x3x1536 main_cst_2
  let main_v11 : IVec S1x3x1536 1 := cmpf .olt main_v9 main_v10
  let main_c_3 : IVec S_ 1 := constantI S_ 1 1#1
  let main_v12 : IVec S_ 1 := (fun x v => Host.reduce IntOp.andi x v reducesTo_S1x3x1536_S_d0_1_2 h_S_) main_v11 main_c_3
  let main_v13 : IVec S_ 1 := andi main_v8 main_v12
  let main_v14 : FVec F S1x2x4 .f32 := Host.absf main_arg4
  let main_cst_4 : FVec F S_ .f32 := constant S_ .f32 0x7F800000#32
  let main_v15 : FVec F S1x2x4 .f32 := broadcastInDim S1x2x4 ![] bcast_S_S1x2x4 main_cst_4
  let main_v16 : IVec S1x2x4 1 := cmpf .olt main_v14 main_v15
  fn_part1 (F := F) main_arg5 main_v13 main_v16
-- ==== Experts.lean ====
abbrev S16x1024x1024 : Shape := ⟨3, ![16, 1024, 1024]⟩
abbrev S16x256x1024 : Shape := ⟨3, ![16, 256, 1024]⟩
abbrev S1x1024x1024 : Shape := ⟨3, ![1, 1024, 1024]⟩
abbrev S1x256x1024 : Shape := ⟨3, ![1, 256, 1024]⟩
abbrev S1x1024x512 : Shape := ⟨3, ![1, 1024, 512]⟩
abbrev S1x512x1024 : Shape := ⟨3, ![1, 512, 1024]⟩
abbrev S1024x1024 : Shape := ⟨2, ![1024, 1024]⟩
abbrev S256x1024 : Shape := ⟨2, ![256, 1024]⟩
abbrev S1024x512 : Shape := ⟨2, ![1024, 512]⟩
abbrev S512x1024 : Shape := ⟨2, ![512, 1024]⟩
abbrev S256x512 : Shape := ⟨2, ![256, 512]⟩

abbrev nBuf : Space → Nat
  | .hbm => 7
  | .vmem => 16
  | .smem => 0
  | _ => 0

abbrev bufTy : (tb : Table) → Fin (tcTables nBuf tb) → BufTy
  | .hbm, ⟨0, _⟩ => ⟨S16x1024x1024, .bf16⟩
  | .hbm, ⟨1, _⟩ => ⟨S16x256x1024, .bf16⟩
  | .hbm, ⟨2, _⟩ => ⟨S16x1024x1024, .f32⟩
  | .hbm, ⟨3, _⟩ => ⟨S16x1024x1024, .f32⟩
  | .hbm, ⟨4, _⟩ => ⟨S16x1024x1024, .f32⟩
  | .hbm, ⟨5, _⟩ => ⟨S16x1024x1024, .bf16⟩
  | .hbm, ⟨6, _⟩ => ⟨S16x256x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1x512x1024, .f32⟩
  | .local _ .vmem, ⟨9, _⟩ => ⟨S1x512x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1024x1024, .f32⟩
  | .local _ .vmem, ⟨15, _⟩ => ⟨S256x1024, .f32⟩
  | _, _ => ⟨S16x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v30 : BitVec 1 := Scalar.cmpi .eq arg1 c1_i32
  let v31 : BitVec 32 := Scalar.extui v30
  let c0_i32_19 : BitVec 32 := 0#32
  let v32 : BitVec 1 := Scalar.cmpi .ne v31 c0_i32_19
  v32

def k0_cond6 (i : grid0.Coords) : BitVec 1 :=
  let arg1 : BitVec 32 := BitVec.ofNat 32 (i 1).val
  let c1_i32_33 : BitVec 32 := 1#32
  let v54 : BitVec 1 := Scalar.cmpi .eq arg1 c1_i32_33
  let v55 : BitVec 32 := Scalar.extui v54
  let c0_i32_34 : BitVec 32 := 0#32
  let v56 : BitVec 1 := Scalar.cmpi .ne v55 c0_i32_34
  v56

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ExpertsRefIdeal.lean ====
abbrev S16x1024x1024 : Shape := ⟨3, ![16, 1024, 1024]⟩
abbrev S16x256x1024 : Shape := ⟨3, ![16, 256, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S16x1024x1024, .bf16⟩
  | .hbm, ⟨1, _⟩ => ⟨S16x256x1024, .bf16⟩
  | .hbm, ⟨2, _⟩ => ⟨S16x1024x1024, .f32⟩
  | .hbm, ⟨3, _⟩ => ⟨S16x1024x1024, .f32⟩
  | .hbm, ⟨4, _⟩ => ⟨S16x1024x1024, .f32⟩
  | .hbm, ⟨5, _⟩ => ⟨S16x1024x1024, .f32⟩
  | .hbm, ⟨6, _⟩ => ⟨S16x1024x1024, .f32⟩
  | .hbm, ⟨7, _⟩ => ⟨S16x1024x1024, .f32⟩
  | .hbm, ⟨8, _⟩ => ⟨S16x1024x1024, .f32⟩
  | .hbm, ⟨9, _⟩ => ⟨S_, .f32⟩
  | .hbm, ⟨10, _⟩ => ⟨S16x1024x1024, .f32⟩
  | .hbm, ⟨11, _⟩ => ⟨S16x1024x1024, .f32⟩
  | .hbm, ⟨12, _⟩ => ⟨S_, .f32⟩
  | .hbm, ⟨13, _⟩ => ⟨S16x1024x1024, .f32⟩
  | .hbm, ⟨14, _⟩ => ⟨S16x1024x1024, .f32⟩
  | .hbm, ⟨15, _⟩ => ⟨S16x1024x1024, .f32⟩
  | .hbm, ⟨16, _⟩ => ⟨S16x1024x1024, .f32⟩
  | .hbm, ⟨17, _⟩ => ⟨S16x1024x1024, .f32⟩
  | .hbm, ⟨18, _⟩ => ⟨S16x1024x1024, .f32⟩
  | .hbm, ⟨19, _⟩ => ⟨S16x1024x1024, .bf16⟩
  | .hbm, ⟨20, _⟩ => ⟨S16x256x1024, .f32⟩
  | .hbm, ⟨21, _⟩ => ⟨S16x256x1024, .f32⟩
  | .hbm, ⟨22, _⟩ => ⟨S16x256x1024, .f32⟩
  | .hbm, ⟨23, _⟩ => ⟨S16x256x1024, .f32⟩
  | .hbm, ⟨24, _⟩ => ⟨S_, .f32⟩
  | .hbm, ⟨25, _⟩ => ⟨S16x256x1024, .f32⟩
  | .hbm, ⟨26, _⟩ => ⟨S16x256x1024, .f32⟩
  | .hbm, ⟨27, _⟩ => ⟨S_, .f32⟩
  | .hbm, ⟨28, _⟩ => ⟨S16x256x1024, .f32⟩
  | .hbm, ⟨29, _⟩ => ⟨S16x256x1024, .f32⟩
  | .hbm, ⟨30, _⟩ => ⟨S16x256x1024, .f32⟩
  | .hbm, ⟨31, _⟩ => ⟨S16x256x1024, .f32⟩
  | .hbm, ⟨32, _⟩ => ⟨S16x256x1024, .f32⟩
  | .hbm, ⟨33, _⟩ => ⟨S16x256x1024, .f32⟩
  | .hbm, ⟨34, _⟩ => ⟨S16x256x1024, .bf16⟩
  | _, _ => ⟨S16x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩

abbrev nD : Nat := 1
abbrev τ : Topo := Topo.v7x

variable {F : FTy → Type} [FloatOps F]
-- ==== Delta.lean ====
abbrev S8192x1536 : Shape := ⟨2, ![8192, 1536]⟩
abbrev S8192x512 : Shape := ⟨2, ![8192, 512]⟩
abbrev S8192x128 : Shape := ⟨2, ![8192, 128]⟩
abbrev S1x3x1536 : Shape := ⟨3, ![1, 3, 1536]⟩
abbrev S1x2x4 : Shape := ⟨3, ![1, 2, 4]⟩
abbrev S1x128 : Shape := ⟨2, ![1, 128]⟩
abbrev S_ : Shape := ⟨0, ![]⟩
abbrev S8x128 : Shape := ⟨2, ![8, 128]⟩
abbrev S2x4 : Shape := ⟨2, ![2, 4]⟩
abbrev S8 : Shape := ⟨1, ![8]⟩
abbrev S1 : Shape := ⟨1, ![1]⟩
abbrev S2 : Shape := ⟨1, ![2]⟩
abbrev S128 : Shape := ⟨1, ![128]⟩
abbrev S3x1536 : Shape := ⟨2, ![3, 1536]⟩
abbrev S32x4x128x128 : Shape := ⟨4, ![32, 4, 128, 128]⟩
abbrev S256x128 : Shape := ⟨2, ![256, 128]⟩
abbrev S3x128 : Shape := ⟨2, ![3, 128]⟩
abbrev S1x1x128x128 : Shape := ⟨4, ![1, 1, 128, 128]⟩
abbrev S2x128x128 : Shape := ⟨3, ![2, 128, 128]⟩
abbrev S256 : Shape := ⟨1, ![256]⟩
abbrev S256x1 : Shape := ⟨2, ![256, 1]⟩
abbrev S256x256 : Shape := ⟨2, ![256, 256]⟩
abbrev S128x256 : Shape := ⟨2, ![128, 256]⟩
abbrev S1x256 : Shape := ⟨2, ![1, 256]⟩
abbrev S1x1 : Shape := ⟨2, ![1, 1]⟩
abbrev S128x128 : Shape := ⟨2, ![128, 128]⟩

abbrev nBuf : Space → Nat
  | .hbm => 31
  | .vmem => 31
  | .smem => 0
  | _ => 0

abbrev bufTy : (tb : Table) → Fin (tcTables nBuf tb) → BufTy
  | .hbm, ⟨0, _⟩ => ⟨S8192x1536, .f32⟩
  | .hbm, ⟨1, _⟩ => ⟨S8192x512, .f32⟩
  | .hbm, ⟨2, _⟩ => ⟨S8192x128, .f32⟩
  | .hbm, ⟨3, _⟩ => ⟨S1x3x1536, .f32⟩
  | .hbm, ⟨4, _⟩ => ⟨S1x2x4, .f32⟩
  | .hbm, ⟨5, _⟩ => ⟨S1x2x4, .f32⟩
  | .hbm, ⟨6, _⟩ => ⟨S1x128, .f32⟩
  | .hbm, ⟨7, _⟩ => ⟨S_, .f32⟩
  | .hbm, ⟨8, _⟩ => ⟨S8x128, .f32⟩
  | .hbm, ⟨9, _⟩ => ⟨S2x4, .f32⟩
  | .hbm, ⟨10, _⟩ => ⟨S8, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S8x128, .f32⟩
  | .hbm, ⟨17, _⟩ => ⟨S2x4, .f32⟩
  | .hbm, ⟨18, _⟩ => ⟨S8, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S8x128, .f32⟩
  | .hbm, ⟨25, _⟩ => ⟨S128, .f32⟩
  | .hbm, ⟨26, _⟩ => ⟨S1x128, .f32⟩
  | .hbm, ⟨27, _⟩ => ⟨S3x1536, .f32⟩
  | .hbm, ⟨28, _⟩ => ⟨S8192x512, .f32⟩
  | .hbm, ⟨29, _⟩ => ⟨S32x4x128x128, .f32⟩
  | .hbm, ⟨30, _⟩ => ⟨S32x4x128x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S3x128, .f32⟩
  | .local _ .vmem, ⟨7, _⟩ => ⟨S3x128, .f32⟩
  | .local _ .vmem, ⟨8, _⟩ => ⟨S3x128, .f32⟩
  | .local _ .vmem, ⟨9, _⟩ => ⟨S3x128, .f32⟩
  | .local _ .vmem, ⟨10, _⟩ => ⟨S3x128, .f32⟩
  | .local _ .vmem, ⟨11, _⟩ => ⟨S3x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S8x128, .f32⟩
  | .local _ .vmem, ⟨17, _⟩ => ⟨S1x128, .f32⟩
  | .local _ .vmem, ⟨18, _⟩ => ⟨S256x128, .f32⟩
  | .local _ .vmem, ⟨19, _⟩ => ⟨S256x128, .f32⟩
  | .local _ .vmem, ⟨20, _⟩ => ⟨S1x1x128x128, .f32⟩
  | .local _ .vmem, ⟨21, _⟩ => ⟨S1x1x128x128, .f32⟩
  | .local _ .vmem, ⟨22, _⟩ => ⟨S1x1x128x128, .f32⟩
  | .local _ .vmem, ⟨23, _⟩ => ⟨S1x1x128x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S2x128x128, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== DeltaRefIdeal.lean ====
abbrev S8192x1536 : Shape := ⟨2, ![8192, 1536]⟩
abbrev S8192x512 : Shape := ⟨2, ![8192, 512]⟩
abbrev S8192x128 : Shape := ⟨2, ![8192, 128]⟩
abbrev S1x3x1536 : Shape := ⟨3, ![1, 3, 1536]⟩
abbrev S1x2x4 : Shape := ⟨3, ![1, 2, 4]⟩
abbrev S1x128 : Shape := ⟨2, ![1, 128]⟩
abbrev S3x1536 : Shape := ⟨2, ![3, 1536]⟩
abbrev S2x4 : Shape := ⟨2, ![2, 4]⟩
abbrev S32x256x1536 : Shape := ⟨3, ![32, 256, 1536]⟩
abbrev S_ : Shape := ⟨0, ![]⟩
abbrev S32x258x1536 : Shape := ⟨3, ![32, 258, 1536]⟩
abbrev S1x1536 : Shape := ⟨2, ![1, 1536]⟩
abbrev S1536 : Shape := ⟨1, ![1536]⟩
abbrev S1x1x1536 : Shape := ⟨3, ![1, 1, 1536]⟩
abbrev S32x256x512 : Shape := ⟨3, ![32, 256, 512]⟩
abbrev S32x256x4x128 : Shape := ⟨4, ![32, 256, 4, 128]⟩
abbrev S32x4x256x128 : Shape := ⟨4, ![32, 4, 256, 128]⟩
abbrev S32x4x256 : Shape := ⟨3, ![32, 4, 256]⟩
abbrev S32x4x256x1 : Shape := ⟨4, ![32, 4, 256, 1]⟩
abbrev S8192x8 : Shape := ⟨2, ![8192, 8]⟩
abbrev S32x256x2x4 : Shape := ⟨4, ![32, 256, 2, 4]⟩
abbrev S2x32x4x256 : Shape := ⟨4, ![2, 32, 4, 256]⟩
abbrev S2x1x4x1 : Shape := ⟨4, ![2, 1, 4, 1]⟩
abbrev S1x32x4x256x128 : Shape := ⟨5, ![1, 32, 4, 256, 128]⟩
abbrev S2x32x4x256x128 : Shape := ⟨5, ![2, 32, 4, 256, 128]⟩
abbrev S1x32x4x256 : Shape := ⟨4, ![1, 32, 4, 256]⟩
abbrev S2x32x4x128x128 : Shape := ⟨5, ![2, 32, 4, 128, 128]⟩
abbrev S256x2x32x4x128 : Shape := ⟨5, ![256, 2, 32, 4, 128]⟩
abbrev S256x2x32x4 : Shape := ⟨4, ![256, 2, 32, 4]⟩
abbrev S1x2x32x4x128 : Shape := ⟨5, ![1, 2, 32, 4, 128]⟩
abbrev S2x32x4x128 : Shape := ⟨4, ![2, 32, 4, 128]⟩
abbrev S1x2x32x4 : Shape := ⟨4, ![1, 2, 32, 4]⟩
abbrev S2x32x4 : Shape := ⟨3, ![2, 32, 4]⟩
abbrev S2x32x4x1x1 : Shape := ⟨5, ![2, 32, 4, 1, 1]⟩
abbrev S2x32x4x1 : Shape := ⟨4, ![2, 32, 4, 1]⟩
abbrev S2x32x4x128x1 : Shape := ⟨5, ![2, 32, 4, 128, 1]⟩
abbrev S2x32x4x1x128 : Shape := ⟨5, ![2, 32, 4, 1, 128]⟩
abbrev S1x32x4x128x128 : Shape := ⟨5, ![1, 32, 4, 128, 128]⟩
abbrev S32x4x128x128 : Shape := ⟨4, ![32, 4, 128, 128]⟩
abbrev S128 : Shape := ⟨1, ![128]⟩
abbrev S1x1x1x128 : Shape := ⟨4, ![1, 1, 1, 128]⟩

abbrev nBuf : Space → Nat
  | .hbm => 256
  | .vmem => 0
  | .smem => 0
  | _ => 0

abbrev hbmTy0_0 (i : Nat) : BufTy := match i % 128 with
  | 0 => ⟨S8192x1536, .f32⟩
  | 1 => ⟨S8192x512, .f32⟩
  | 2 => ⟨S8192x128, .f32⟩
  | 3 => ⟨S1x3x1536, .f32⟩
  | 4 => ⟨S1x2x4, .f32⟩
  | 5 => ⟨S1x2x4, .f32⟩
  | 6 => ⟨S1x128, .f32⟩
  | 7 => ⟨S3x1536, .f32⟩
  | 8 => ⟨S2x4, .f32⟩
  | 9 => ⟨S2x4, .f32⟩
  | 10 => ⟨S32x256x1536, .f32⟩
  | 11 => ⟨S_, .i32⟩
  | 12 => ⟨S_, .f32⟩
  | 13 => ⟨S32x258x1536, .f32⟩
  | 14 => ⟨S1x1536, .f32⟩
  | 15 => ⟨S1536, .f32⟩
  | 16 => ⟨S32x256x1536, .f32⟩
  | 17 => ⟨S1x1x1536, .f32⟩
  | 18 => ⟨S32x256x1536, .f32⟩
  | 19 => ⟨S32x256x1536, .f32⟩
  | 20 => ⟨S_, .f32⟩
  | 21 => ⟨S32x256x1536, .f32⟩
  | 22 => ⟨S32x256x1536, .f32⟩
  | 23 => ⟨S1x1536, .f32⟩
  | 24 => ⟨S1536, .f32⟩
  | 25 => ⟨S32x256x1536, .f32⟩
  | 26 => ⟨S1x1x1536, .f32⟩
  | 27 => ⟨S32x256x1536, .f32⟩
  | 28 => ⟨S32x256x1536, .f32⟩
  | 29 => ⟨S32x256x1536, .f32⟩
  | 30 => ⟨S1x1536, .f32⟩
  | 31 => ⟨S1536, .f32⟩
  | 32 => ⟨S32x256x1536, .f32⟩
  | 33 => ⟨S1x1x1536, .f32⟩
  | 34 => ⟨S32x256x1536, .f32⟩
  | 35 => ⟨S32x256x1536, .f32⟩
  | 36 => ⟨S32x256x1536, .f32⟩
  | 37 => ⟨S32x256x1536, .f32⟩
  | 38 => ⟨S32x256x1536, .f32⟩
  | 39 => ⟨S_, .f32⟩
  | 40 => ⟨S32x256x1536, .f32⟩
  | 41 => ⟨S32x256x1536, .f32⟩
  | 42 => ⟨S_, .f32⟩
  | 43 => ⟨S32x256x1536, .f32⟩
  | 44 => ⟨S32x256x1536, .f32⟩
  | 45 => ⟨S32x256x1536, .f32⟩
  | 46 => ⟨S32x256x512, .f32⟩
  | 47 => ⟨S32x256x512, .f32⟩
  | 48 => ⟨S32x256x512, .f32⟩
  | 49 => ⟨S32x256x4x128, .f32⟩
  | 50 => ⟨S32x4x256x128, .f32⟩
  | 51 => ⟨S32x4x256x128, .f32⟩
  | 52 => ⟨S_, .f32⟩
  | 53 => ⟨S32x4x256, .f32⟩
  | 54 => ⟨S32x4x256x1, .f32⟩
  | 55 => ⟨S_, .f32⟩
  | 56 => ⟨S32x4x256x1, .f32⟩
  | 57 => ⟨S32x4x256x1, .f32⟩
  | 58 => ⟨S32x4x256x1, .f32⟩
  | 59 => ⟨S32x4x256x128, .f32⟩
  | 60 => ⟨S32x4x256x128, .f32⟩
  | 61 => ⟨S_, .f32⟩
  | 62 => ⟨S32x4x256x128, .f32⟩
  | 63 => ⟨S32x4x256x128, .f32⟩
  | 64 => ⟨S32x256x4x128, .f32⟩
  | 65 => ⟨S32x4x256x128, .f32⟩
  | 66 => ⟨S32x4x256x128, .f32⟩
  | 67 => ⟨S_, .f32⟩
  | 68 => ⟨S32x4x256, .f32⟩
  | 69 => ⟨S32x4x256x1, .f32⟩
  | 70 => ⟨S_, .f32⟩
  | 71 => ⟨S32x4x256x1, .f32⟩
  | 72 => ⟨S32x4x256x1, .f32⟩
  | 73 => ⟨S32x4x256x1, .f32⟩
  | 74 => ⟨S32x4x256x128, .f32⟩
  | 75 => ⟨S32x4x256x128, .f32⟩
  | 76 => ⟨S32x256x4x128, .f32⟩
  | 77 => ⟨S32x4x256x128, .f32⟩
  | 78 => ⟨S8192x8, .f32⟩
  | 79 => ⟨S32x256x2x4, .f32⟩
  | 80 => ⟨S2x32x4x256, .f32⟩
  | 81 => ⟨S2x32x4x256, .f32⟩
  | 82 => ⟨S2x32x4x256, .f32⟩
  | 83 => ⟨S_, .f32⟩
  | 84 => ⟨S2x32x4x256, .f32⟩
  | 85 => ⟨S2x32x4x256, .f32⟩
  | 86 => ⟨S_, .f32⟩
  | 87 => ⟨S2x32x4x256, .f32⟩
  | 88 => ⟨S2x32x4x256, .f32⟩
  | 89 => ⟨S2x4, .f32⟩
  | 90 => ⟨S2x1x4x1, .f32⟩
  | 91 => ⟨S2x1x4x1, .f32⟩
  | 92 => ⟨S8192x8, .f32⟩
  | 93 => ⟨S32x256x2x4, .f32⟩
  | 94 => ⟨S2x32x4x256, .f32⟩
  | 95 => ⟨S2x1x4x1, .f32⟩
  | 96 => ⟨S2x32x4x256, .f32⟩
  | 97 => ⟨S2x32x4x256, .f32⟩
  | 98 => ⟨S_, .f32⟩
  | 99 => ⟨S2x32x4x256, .f32⟩
  | 100 => ⟨S2x32x4x256, .f32⟩
  | 101 => ⟨S2x32x4x256, .f32⟩
  | 102 => ⟨S2x32x4x256, .f32⟩
  | 103 => ⟨S2x32x4x256, .i1⟩
  | 104 => ⟨S2x32x4x256, .f32⟩
  | 105 => ⟨S2x32x4x256, .f32⟩
  | 106 => ⟨S2x32x4x256, .f32⟩
  | 107 => ⟨S2x32x4x256, .f32⟩
  | 108 => ⟨S2x32x4x256, .f32⟩
  | 109 => ⟨S2x32x4x256, .f32⟩
  | 110 => ⟨S2x32x4x256, .f32⟩
  | 111 => ⟨S2x32x4x256, .f32⟩
  | 112 => ⟨S2x32x4x256, .f32⟩
  | 113 => ⟨S2x32x4x256, .f32⟩
  | 114 => ⟨S32x4x256x128, .f32⟩
  | 115 => ⟨S1x32x4x256x128, .f32⟩
  | 116 => ⟨S1x32x4x256x128, .f32⟩
  | 117 => ⟨S2x32x4x256x128, .f32⟩
  | 118 => ⟨S32x4x256x128, .f32⟩
  | 119 => ⟨S1x32x4x256x128, .f32⟩
  | 120 => ⟨S1x32x4x256x128, .f32⟩
  | 121 => ⟨S2x32x4x256x128, .f32⟩
  | 122 => ⟨S32x4x256x128, .f32⟩
  | 123 => ⟨S1x32x4x256x128, .f32⟩
  | 124 => ⟨S1x32x4x256x128, .f32⟩
  | 125 => ⟨S2x32x4x256x128, .f32⟩
  | 126 => ⟨S1x32x4x256, .f32⟩
  | 127 => ⟨S32x4x256, .f32⟩
  | _ => ⟨S8192x1536, .f32⟩

abbrev hbmTy0_1 (i : Nat) : BufTy := match i % 128 with
  | 0 => ⟨S1x32x4x256, .f32⟩
  | 1 => ⟨S32x4x256, .f32⟩
  | 2 => ⟨S32x4x256, .f32⟩
  | 3 => ⟨S1x32x4x256, .f32⟩
  | 4 => ⟨S1x32x4x256, .f32⟩
  | 5 => ⟨S2x32x4x256, .f32⟩
  | 6 => ⟨S1x32x4x256, .f32⟩
  | 7 => ⟨S32x4x256, .f32⟩
  | 8 => ⟨S1x32x4x256, .f32⟩
  | 9 => ⟨S32x4x256, .f32⟩
  | 10 => ⟨S32x4x256, .f32⟩
  | 11 => ⟨S1x32x4x256, .f32⟩
  | 12 => ⟨S1x32x4x256, .f32⟩
  | 13 => ⟨S2x32x4x256, .f32⟩
  | 14 => ⟨S_, .f32⟩
  | 15 => ⟨S2x32x4x128x128, .f32⟩
  | 16 => ⟨S256x2x32x4x128, .f32⟩
  | 17 => ⟨S256x2x32x4x128, .f32⟩
  | 18 => ⟨S256x2x32x4x128, .f32⟩
  | 19 => ⟨S256x2x32x4, .f32⟩
  | 20 => ⟨S256x2x32x4, .f32⟩
  | 21 => ⟨S_, .f32⟩
  | 22 => ⟨S256x2x32x4x128, .f32⟩
  | 23 => ⟨S_, .i32⟩
  | 24 => ⟨S256x2x32x4x128, .f32⟩
  | 25 => ⟨S256x2x32x4x128, .f32⟩
  | 26 => ⟨S256x2x32x4x128, .f32⟩
  | 27 => ⟨S256x2x32x4, .f32⟩
  | 28 => ⟨S256x2x32x4, .f32⟩
  | 29 => ⟨S_, .i32⟩
  | 30 => ⟨S2x32x4x128x128, .f32⟩
  | 31 => ⟨S256x2x32x4x128, .f32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S1x2x32x4x128, .f32⟩
  | 39 => ⟨S2x32x4x128, .f32⟩
  | 40 => ⟨S_, .i32⟩
  | 41 => ⟨S_, .i32⟩
  | 42 => ⟨S_, .i32⟩
  | 43 => ⟨S_, .i32⟩
  | 44 => ⟨S1x2x32x4x128, .f32⟩
  | 45 => ⟨S2x32x4x128, .f32⟩
  | 46 => ⟨S_, .i32⟩
  | 47 => ⟨S_, .i32⟩
  | 48 => ⟨S_, .i32⟩
  | 49 => ⟨S_, .i32⟩
  | 50 => ⟨S1x2x32x4x128, .f32⟩
  | 51 => ⟨S2x32x4x128, .f32⟩
  | 52 => ⟨S_, .i32⟩
  | 53 => ⟨S_, .i32⟩
  | 54 => ⟨S_, .i32⟩
  | 55 => ⟨S1x2x32x4, .f32⟩
  | 56 => ⟨S2x32x4, .f32⟩
  | 57 => ⟨S_, .i32⟩
  | 58 => ⟨S_, .i32⟩
  | 59 => ⟨S_, .i32⟩
  | 60 => ⟨S1x2x32x4, .f32⟩
  | 61 => ⟨S2x32x4, .f32⟩
  | 62 => ⟨S2x32x4, .f32⟩
  | 63 => ⟨S2x32x4x1x1, .f32⟩
  | 64 => ⟨S2x32x4x128x128, .f32⟩
  | 65 => ⟨S2x32x4x128x128, .f32⟩
  | 66 => ⟨S2x32x4x128, .f32⟩
  | 67 => ⟨S2x32x4x128, .f32⟩
  | 68 => ⟨S2x32x4x1, .f32⟩
  | 69 => ⟨S2x32x4x128, .f32⟩
  | 70 => ⟨S2x32x4x128, .f32⟩
  | 71 => ⟨S2x32x4x128x1, .f32⟩
  | 72 => ⟨S2x32x4x1x128, .f32⟩
  | 73 => ⟨S2x32x4x128x128, .f32⟩
  | 74 => ⟨S2x32x4x128x128, .f32⟩
  | 75 => ⟨S2x32x4x128x128, .f32⟩
  | 76 => ⟨S2x32x4x128x128, .f32⟩
  | 77 => ⟨S2x32x4x128, .f32⟩
  | 78 => ⟨S1x2x32x4x128, .f32⟩
  | 79 => ⟨S_, .i32⟩
  | 80 => ⟨S_, .i32⟩
  | 81 => ⟨S_, .i32⟩
  | 82 => ⟨S_, .i32⟩
  | 83 => ⟨S256x2x32x4x128, .f32⟩
  | 84 => ⟨S_, .i32⟩
  | 85 => ⟨S_, .i32⟩
  | 86 => ⟨S2x32x4x256x128, .f32⟩
  | 87 => ⟨S1x32x4x128x128, .f32⟩
  | 88 => ⟨S32x4x128x128, .f32⟩
  | 89 => ⟨S1x32x4x128x128, .f32⟩
  | 90 => ⟨S32x4x128x128, .f32⟩
  | 91 => ⟨S1x32x4x256x128, .f32⟩
  | 92 => ⟨S32x4x256x128, .f32⟩
  | 93 => ⟨S1x32x4x256x128, .f32⟩
  | 94 => ⟨S32x4x256x128, .f32⟩
  | 95 => ⟨S32x4x256x128, .f32⟩
  | 96 => ⟨S32x4x256x128, .f32⟩
  | 97 => ⟨S32x4x256x128, .f32⟩
  | 98 => ⟨S_, .f32⟩
  | 99 => ⟨S32x4x256, .f32⟩
  | 100 => ⟨S32x4x256x1, .f32⟩
  | 101 => ⟨S_, .f32⟩
  | 102 => ⟨S32x4x256x1, .f32⟩
  | 103 => ⟨S32x4x256x1, .f32⟩
  | 104 => ⟨S_, .f32⟩
  | 105 => ⟨S32x4x256x1, .f32⟩
  | 106 => ⟨S32x4x256x1, .f32⟩
  | 107 => ⟨S32x4x256x1, .f32⟩
  | 108 => ⟨S32x4x256x128, .f32⟩
  | 109 => ⟨S32x4x256x128, .f32⟩
  | 110 => ⟨S128, .f32⟩
  | 111 => ⟨S1x1x1x128, .f32⟩
  | 112 => ⟨S32x4x256x128, .f32⟩
  | 113 => ⟨S32x4x256x128, .f32⟩
  | 114 => ⟨S32x256x4x128, .f32⟩
  | 115 => ⟨S32x4x256x128, .f32⟩
  | 116 => ⟨S32x4x256x128, .f32⟩
  | 117 => ⟨S32x4x256x128, .f32⟩
  | 118 => ⟨S_, .f32⟩
  | 119 => ⟨S32x4x256x128, .f32⟩
  | 120 => ⟨S32x4x256x128, .f32⟩
  | 121 => ⟨S_, .f32⟩
  | 122 => ⟨S32x4x256x128, .f32⟩
  | 123 => ⟨S32x4x256x128, .f32⟩
  | 124 => ⟨S32x4x256x128, .f32⟩
  | 125 => ⟨S32x4x256x128, .f32⟩
  | 126 => ⟨S32x256x4x128, .f32⟩
  | 127 => ⟨S8192x512, .f32⟩
  | _ => ⟨S8192x1536, .f32⟩

abbrev hbmTy (i : Nat) : BufTy := match i / 128 with
  | 0 => hbmTy0_0 i
  | 1 => hbmTy0_1 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_0 : Ref sig .tc := ⟨.hbm, 52, rfl⟩
abbrev main_v34 : Ref sig .tc := ⟨.hbm, 53, rfl⟩
abbrev main_v35 : Ref sig .tc := ⟨.hbm, 54, rfl⟩
abbrev main_cst_1 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_2 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_5 : Ref sig .tc := ⟨.hbm, 83, rfl⟩
abbrev main_v60 : Ref sig .tc := ⟨.hbm, 84, rfl⟩
abbrev main_v61 : Ref sig .tc := ⟨.hbm, 85, rfl⟩
abbrev main_cst_6 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_call2_cst : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_v6 : Ref sig .tc := ⟨.hbm, 105, rfl⟩
abbrev main_call2_v7 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_7 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_8 : Ref sig .tc := ⟨.hbm, 149, rfl⟩
abbrev main_v110 : Ref sig .tc := ⟨.hbm, 150, rfl⟩
abbrev main_c_9 : Ref sig .tc := ⟨.hbm, 151, rfl⟩
abbrev main_v111_0 : Ref sig .tc := ⟨.hbm, 152, rfl⟩
abbrev main_v111_1 : Ref sig .tc := ⟨.hbm, 153, rfl⟩
abbrev main_v111_2 : Ref sig .tc := ⟨.hbm, 154, rfl⟩
abbrev main_v111_3 : Ref sig .tc := ⟨.hbm, 155, rfl⟩
abbrev main_v111_4 : Ref sig .tc := ⟨.hbm, 156, rfl⟩
abbrev main_v111_5 : Ref sig .tc := ⟨.hbm, 157, rfl⟩
abbrev main_v111_6 : Ref sig .tc := ⟨.hbm, 158, rfl⟩
abbrev main_v111_7 : Ref sig .tc := ⟨.hbm, 159, rfl⟩
abbrev main_while0c_c_20 : Ref sig .tc := ⟨.hbm, 160, rfl⟩
abbrev main_while0c_v143 : Ref sig .tc := ⟨.hbm, 161, rfl⟩
abbrev main_while0b_call8_c : Ref sig .tc := ⟨.hbm, 162, rfl⟩
abbrev main_while0b_call8_c_0 : Ref sig .tc := ⟨.hbm, 163, rfl⟩
abbrev main_while0b_call8_c_1 : Ref sig .tc := ⟨.hbm, 164, rfl⟩
abbrev main_while0b_call8_c_2 : Ref sig .tc := ⟨.hbm, 165, rfl⟩
abbrev main_while0b_call8_v0 : Ref sig .tc := ⟨.hbm, 166, rfl⟩
abbrev main_while0b_v143 : Ref sig .tc := ⟨.hbm, 167, rfl⟩
abbrev main_while0b_call9_c : Ref sig .tc := ⟨.hbm, 168, rfl⟩
abbrev main_while0b_call9_c_0 : Ref sig .tc := ⟨.hbm, 169, rfl⟩
abbrev main_while0b_call9_c_1 : Ref sig .tc := ⟨.hbm, 170, rfl⟩
abbrev main_while0b_call9_c_2 : Ref sig .tc := ⟨.hbm, 171, rfl⟩
abbrev main_while0b_call9_v0 : Ref sig .tc := ⟨.hbm, 172, rfl⟩
abbrev main_while0b_v144 : Ref sig .tc := ⟨.hbm, 173, rfl⟩
abbrev main_while0b_call10_c : Ref sig .tc := ⟨.hbm, 174, rfl⟩
abbrev main_while0b_call10_c_0 : Ref sig .tc := ⟨.hbm, 175, rfl⟩
abbrev main_while0b_call10_c_1 : Ref sig .tc := ⟨.hbm, 176, rfl⟩
abbrev main_while0b_call10_c_2 : Ref sig .tc := ⟨.hbm, 177, rfl⟩
abbrev main_while0b_call10_v0 : Ref sig .tc := ⟨.hbm, 178, rfl⟩
abbrev main_while0b_v145 : Ref sig .tc := ⟨.hbm, 179, rfl⟩
abbrev main_while0b_call11_c : Ref sig .tc := ⟨.hbm, 180, rfl⟩
abbrev main_while0b_call11_c_0 : Ref sig .tc := ⟨.hbm, 181, rfl⟩
abbrev main_while0b_call11_c_1 : Ref sig .tc := ⟨.hbm, 182, rfl⟩
abbrev main_while0b_call11_v0 : Ref sig .tc := ⟨.hbm, 183, rfl⟩
abbrev main_while0b_v146 : Ref sig .tc := ⟨.hbm, 184, rfl⟩
abbrev main_while0b_call12_c : Ref sig .tc := ⟨.hbm, 185, rfl⟩
abbrev main_while0b_call12_c_0 : Ref sig .tc := ⟨.hbm, 186, rfl⟩
abbrev main_while0b_call12_c_1 : Ref sig .tc := ⟨.hbm, 187, rfl⟩
abbrev main_while0b_call12_v0 : Ref sig .tc := ⟨.hbm, 188, rfl⟩
abbrev main_while0b_v147 : Ref sig .tc := ⟨.hbm, 189, rfl⟩
abbrev main_while0b_v148 : Ref sig .tc := ⟨.hbm, 190, rfl⟩
abbrev main_while0b_v149 : Ref sig .tc := ⟨.hbm, 191, rfl⟩
abbrev main_while0b_v150 : Ref sig .tc := ⟨.hbm, 192, rfl⟩
abbrev main_while0b_v151 : Ref sig .tc := ⟨.hbm, 193, rfl⟩
abbrev main_while0b_v152 : Ref sig .tc := ⟨.hbm, 194, rfl⟩
abbrev main_while0b_v153 : Ref sig .tc := ⟨.hbm, 195, rfl⟩
abbrev main_while0b_v154 : Ref sig .tc := ⟨.hbm, 196, rfl⟩
abbrev main_while0b_v155 : Ref sig .tc := ⟨.hbm, 197, rfl⟩
abbrev main_while0b_v156 : Ref sig .tc := ⟨.hbm, 198, rfl⟩
abbrev main_while0b_v157 : Ref sig .tc := ⟨.hbm, 199, rfl⟩
abbrev main_while0b_v158 : Ref sig .tc := ⟨.hbm, 200, rfl⟩
abbrev main_while0b_v159 : Ref sig .tc := ⟨.hbm, 201, rfl⟩
abbrev main_while0b_v160 : Ref sig .tc := ⟨.hbm, 202, rfl⟩
abbrev main_while0b_v161 : Ref sig .tc := ⟨.hbm, 203, rfl⟩
abbrev main_while0b_v162 : Ref sig .tc := ⟨.hbm, 204, rfl⟩
abbrev main_while0b_v163 : Ref sig .tc := ⟨.hbm, 205, rfl⟩
abbrev main_while0b_call13_v0 : Ref sig .tc := ⟨.hbm, 206, rfl⟩
abbrev main_while0b_call13_c : Ref sig .tc := ⟨.hbm, 207, rfl⟩
abbrev main_while0b_call13_c_0 : Ref sig .tc := ⟨.hbm, 208, rfl⟩
abbrev main_while0b_call13_c_1 : Ref sig .tc := ⟨.hbm, 209, rfl⟩
abbrev main_while0b_call13_c_2 : Ref sig .tc := ⟨.hbm, 210, rfl⟩
abbrev main_while0b_v164 : Ref sig .tc := ⟨.hbm, 211, rfl⟩
abbrev main_while0b_c_20 : Ref sig .tc := ⟨.hbm, 212, rfl⟩
abbrev main_while0b_v165 : Ref sig .tc := ⟨.hbm, 213, rfl⟩
abbrev main_v112 : Ref sig .tc := ⟨.hbm, 214, rfl⟩
abbrev main_v113 : Ref sig .tc := ⟨.hbm, 215, rfl⟩
abbrev main_v114 : Ref sig .tc := ⟨.hbm, 216, rfl⟩
abbrev main_v115 : Ref sig .tc := ⟨.hbm, 217, rfl⟩
abbrev main_v116 : Ref sig .tc := ⟨.hbm, 218, rfl⟩
abbrev main_v117 : Ref sig .tc := ⟨.hbm, 219, rfl⟩
abbrev main_v118 : Ref sig .tc := ⟨.hbm, 220, rfl⟩
abbrev main_v119 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_v123 : Ref sig .tc := ⟨.hbm, 225, rfl⟩
abbrev main_cst_10 : Ref sig .tc := ⟨.hbm, 226, rfl⟩
abbrev main_v124 : Ref sig .tc := ⟨.hbm, 227, rfl⟩
abbrev main_v125 : Ref sig .tc := ⟨.hbm, 228, rfl⟩
abbrev main_cst_11 : Ref sig .tc := ⟨.hbm, 229, rfl⟩
abbrev main_v126 : Ref sig .tc := ⟨.hbm, 230, rfl⟩
abbrev main_v127 : Ref sig .tc := ⟨.hbm, 231, rfl⟩
abbrev main_cst_12 : Ref sig .tc := ⟨.hbm, 232, rfl⟩
abbrev main_v128 : Ref sig .tc := ⟨.hbm, 233, rfl⟩
abbrev main_v129 : Ref sig .tc := ⟨.hbm, 234, rfl⟩
abbrev main_v130 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_call15_v0 : Ref sig .tc := ⟨.hbm, 244, rfl⟩
abbrev main_call15_v1 : Ref sig .tc := ⟨.hbm, 245, rfl⟩
abbrev main_call15_cst : Ref sig .tc := ⟨.hbm, 246, rfl⟩
abbrev main_call15_v2 : Ref sig .tc := ⟨.hbm, 247, rfl⟩
abbrev main_call15_v3 : Ref sig .tc := ⟨.hbm, 248, rfl⟩
abbrev main_call15_cst_0 : Ref sig .tc := ⟨.hbm, 249, rfl⟩
abbrev main_call15_v4 : Ref sig .tc := ⟨.hbm, 250, rfl⟩
abbrev main_call15_v5 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_v142 : Ref sig .tc := ⟨.hbm, 255, rfl⟩

abbrev nD : Nat := 1
abbrev τ : Topo := Topo.v7x

variable {F : FTy → Type} [FloatOps F]

abbrev main_while0_count : Scf.Loop 32 := ⟨0#32, 256#32, 1#32⟩
-- ==== Inproj.lean ====
abbrev S32x256x1024 : Shape := ⟨3, ![32, 256, 1024]⟩
abbrev S8x6x1x1024 : Shape := ⟨4, ![8, 6, 1, 1024]⟩
abbrev S1x1024x5648 : Shape := ⟨3, ![1, 1024, 5648]⟩
abbrev S1024x5648 : Shape := ⟨2, ![1024, 5648]⟩
abbrev S1024x16 : Shape := ⟨2, ![1024, 16]⟩
abbrev S_ : Shape := ⟨0, ![]⟩
abbrev S1024x128 : Shape := ⟨2, ![1024, 128]⟩
abbrev S1024x1536 : Shape := ⟨2, ![1024, 1536]⟩
abbrev S1024x512 : Shape := ⟨2, ![1024, 512]⟩
abbrev S1024x2048 : Shape := ⟨2, ![1024, 2048]⟩
abbrev S8192x1024 : Shape := ⟨2, ![8192, 1024]⟩
abbrev S8192x1536 : Shape := ⟨2, ![8192, 1536]⟩
abbrev S8192x512 : Shape := ⟨2, ![8192, 512]⟩
abbrev S8192x128 : Shape := ⟨2, ![8192, 128]⟩
abbrev S8192x2048 : Shape := ⟨2, ![8192, 2048]⟩
abbrev S256x1024 : Shape := ⟨2, ![256, 1024]⟩
abbrev S1x6x1x1024 : Shape := ⟨4, ![1, 6, 1, 1024]⟩
abbrev S256x1536 : Shape := ⟨2, ![256, 1536]⟩
abbrev S256x512 : Shape := ⟨2, ![256, 512]⟩
abbrev S256x128 : Shape := ⟨2, ![256, 128]⟩
abbrev S256x2048 : Shape := ⟨2, ![256, 2048]⟩
abbrev S1x1x1x1024 : Shape := ⟨4, ![1, 1, 1, 1024]⟩
abbrev S1x1024 : Shape := ⟨2, ![1, 1024]⟩
abbrev S256 : Shape := ⟨1, ![256]⟩
abbrev S256x1 : Shape := ⟨2, ![256, 1]⟩

abbrev nBuf : Space → Nat
  | .hbm => 19
  | .vmem => 18
  | .smem => 0
  | _ => 0

abbrev bufTy : (tb : Table) → Fin (tcTables nBuf tb) → BufTy
  | .hbm, ⟨0, _⟩ => ⟨S32x256x1024, .f32⟩
  | .hbm, ⟨1, _⟩ => ⟨S8x6x1x1024, .f32⟩
  | .hbm, ⟨2, _⟩ => ⟨S1x1024x5648, .f32⟩
  | .hbm, ⟨3, _⟩ => ⟨S1024x5648, .f32⟩
  | .hbm, ⟨4, _⟩ => ⟨S1024x5648, .bf16⟩
  | .hbm, ⟨5, _⟩ => ⟨S1024x16, .bf16⟩
  | .hbm, ⟨6, _⟩ => ⟨S_, .i32⟩
  | .hbm, ⟨7, _⟩ => ⟨S_, .bf16⟩
  | .hbm, ⟨8, _⟩ => ⟨S1024x128, .bf16⟩
  | .hbm, ⟨9, _⟩ => ⟨S1024x1536, .bf16⟩
  | .hbm, ⟨10, _⟩ => ⟨S1024x512, .bf16⟩
  | .hbm, ⟨11, _⟩ => ⟨S1024x1536, .bf16⟩
  | .hbm, ⟨12, _⟩ => ⟨S1024x2048, .bf16⟩
  | .hbm, ⟨13, _⟩ => ⟨S8192x1024, .f32⟩
  | .hbm, ⟨14, _⟩ => ⟨S8192x1536, .f32⟩
  | .hbm, ⟨15, _⟩ => ⟨S8192x512, .f32⟩
  | .hbm, ⟨16, _⟩ => ⟨S8192x128, .f32⟩
  | .hbm, ⟨17, _⟩ => ⟨S8192x1536, .f32⟩
  | .hbm, ⟨18, _⟩ => ⟨S8192x2048, .f32⟩
  | .local _ .vmem, ⟨0, _⟩ => ⟨S256x1024, .f32⟩
  | .local _ .vmem, ⟨1, _⟩ => ⟨S256x1024, .f32⟩
  | .local _ .vmem, ⟨2, _⟩ => ⟨S1x6x1x1024, .f32⟩
  | .local _ .vmem, ⟨3, _⟩ => ⟨S1024x1536, .bf16⟩
  | .local _ .vmem, ⟨4, _⟩ => ⟨S1024x512, .bf16⟩
  | .local _ .vmem, ⟨5, _⟩ => ⟨S1024x128, .bf16⟩
  | .local _ .vmem, ⟨6, _⟩ => ⟨S1024x1536, .bf16⟩
  | .local _ .vmem, ⟨7, _⟩ => ⟨S1024x2048, .bf16⟩
  | .local _ .vmem, ⟨8, _⟩ => ⟨S256x1536, .f32⟩
  | .local _ .vmem, ⟨9, _⟩ => ⟨S256x1536, .f32⟩
  | .local _ .vmem, ⟨10, _⟩ => ⟨S256x512, .f32⟩
  | .local _ .vmem, ⟨11, _⟩ => ⟨S256x512, .f32⟩
  | .local _ .vmem, ⟨12, _⟩ => ⟨S256x128, .f32⟩
  | .local _ .vmem, ⟨13, _⟩ => ⟨S256x128, .f32⟩
  | .local _ .vmem, ⟨14, _⟩ => ⟨S256x1536, .f32⟩
  | .local _ .vmem, ⟨15, _⟩ => ⟨S256x1536, .f32⟩
  | .local _ .vmem, ⟨16, _⟩ => ⟨S256x2048, .f32⟩
  | .local _ .vmem, ⟨17, _⟩ => ⟨S256x2048, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v9_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InprojRefIdeal.lean ====
abbrev S32x256x1024 : Shape := ⟨3, ![32, 256, 1024]⟩
abbrev S8x6x1x1024 : Shape := ⟨4, ![8, 6, 1, 1024]⟩
abbrev S1x1024x5648 : Shape := ⟨3, ![1, 1024, 5648]⟩
abbrev S1x1x1x1024 : Shape := ⟨4, ![1, 1, 1, 1024]⟩
abbrev S1x1024 : Shape := ⟨2, ![1, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1024x5648 : Shape := ⟨2, ![1024, 5648]⟩
abbrev S32x256x5648 : Shape := ⟨3, ![32, 256, 5648]⟩
abbrev S8192x5648 : Shape := ⟨2, ![8192, 5648]⟩
abbrev S8192x1536 : Shape := ⟨2, ![8192, 1536]⟩
abbrev S8192x512 : Shape := ⟨2, ![8192, 512]⟩
abbrev S8192x16 : Shape := ⟨2, ![8192, 16]⟩
abbrev S8192x2048 : Shape := ⟨2, ![8192, 2048]⟩
abbrev S8192x128 : Shape := ⟨2, ![8192, 128]⟩

abbrev nBuf : Space → Nat
  | .hbm => 50
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S8x6x1x1024, .f32⟩
  | .hbm, ⟨2, _⟩ => ⟨S1x1024x5648, .f32⟩
  | .hbm, ⟨3, _⟩ => ⟨S1x1x1x1024, .f32⟩
  | .hbm, ⟨4, _⟩ => ⟨S1x1024, .f32⟩
  | .hbm, ⟨5, _⟩ => ⟨S1x1x1x1024, .f32⟩
  | .hbm, ⟨6, _⟩ => ⟨S1x1024, .f32⟩
  | .hbm, ⟨7, _⟩ => ⟨S_, .f32⟩
  | .hbm, ⟨8, _⟩ => ⟨S32x256, .f32⟩
  | .hbm, ⟨9, _⟩ => ⟨S32x256x1, .f32⟩
  | .hbm, ⟨10, _⟩ => ⟨S_, .f32⟩
  | .hbm, ⟨11, _⟩ => ⟨S32x256x1, .f32⟩
  | .hbm, ⟨12, _⟩ => ⟨S32x256x1, .f32⟩
  | .hbm, ⟨13, _⟩ => ⟨S32x256x1024, .f32⟩
  | .hbm, ⟨14, _⟩ => ⟨S32x256x1024, .f32⟩
  | .hbm, ⟨15, _⟩ => ⟨S32x256x1024, .f32⟩
  | .hbm, ⟨16, _⟩ => ⟨S_, .f32⟩
  | .hbm, ⟨17, _⟩ => ⟨S32x256, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S32x256x1024, .f32⟩
  | .hbm, ⟨23, _⟩ => ⟨S32x256x1024, .f32⟩
  | .hbm, ⟨24, _⟩ => ⟨S_, .f32⟩
  | .hbm, ⟨25, _⟩ => ⟨S32x256x1, .f32⟩
  | .hbm, ⟨26, _⟩ => ⟨S32x256x1, .f32⟩
  | .hbm, ⟨27, _⟩ => ⟨S32x256x1, .f32⟩
  | .hbm, ⟨28, _⟩ => ⟨S32x256x1024, .f32⟩
  | .hbm, ⟨29, _⟩ => ⟨S32x256x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1x1024, .f32⟩
  | .hbm, ⟨34, _⟩ => ⟨S32x256x1024, .f32⟩
  | .hbm, ⟨35, _⟩ => ⟨S32x256x1024, .f32⟩
  | .hbm, ⟨36, _⟩ => ⟨S1x1x1024, .f32⟩
  | .hbm, ⟨37, _⟩ => ⟨S32x256x1024, .f32⟩
  | .hbm, ⟨38, _⟩ => ⟨S32x256x1024, .f32⟩
  | .hbm, ⟨39, _⟩ => ⟨S1024x5648, .f32⟩
  | .hbm, ⟨40, _⟩ => ⟨S32x256x5648, .f32⟩
  | .hbm, ⟨41, _⟩ => ⟨S8192x5648, .f32⟩
  | .hbm, ⟨42, _⟩ => ⟨S8192x1536, .f32⟩
  | .hbm, ⟨43, _⟩ => ⟨S8192x512, .f32⟩
  | .hbm, ⟨44, _⟩ => ⟨S8192x16, .f32⟩
  | .hbm, ⟨45, _⟩ => ⟨S8192x1536, .f32⟩
  | .hbm, ⟨46, _⟩ => ⟨S8192x2048, .f32⟩
  | .hbm, ⟨47, _⟩ => ⟨S_, .i32⟩
  | .hbm, ⟨48, _⟩ => ⟨S_, .f32⟩
  | .hbm, ⟨49, _⟩ => ⟨S8192x128, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c : Ref sig .tc := ⟨.hbm, 47, rfl⟩
abbrev main_call0_v0 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Mix.lean ====
abbrev S32x256x1024 : Shape := ⟨3, ![32, 256, 1024]⟩
abbrev S8192x512 : Shape := ⟨2, ![8192, 512]⟩
abbrev S8192x2048 : Shape := ⟨2, ![8192, 2048]⟩
abbrev S8x6x1x1024 : Shape := ⟨4, ![8, 6, 1, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x16 : Shape := ⟨3, ![1, 1024, 16]⟩
abbrev S512x1024 : Shape := ⟨2, ![512, 1024]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S1024 : Shape := ⟨1, ![1024]⟩
abbrev S8192x1024 : Shape := ⟨2, ![8192, 1024]⟩
abbrev S8192x128 : Shape := ⟨2, ![8192, 128]⟩
abbrev S256x1024 : Shape := ⟨2, ![256, 1024]⟩
abbrev S256x512 : Shape := ⟨2, ![256, 512]⟩
abbrev S256x2048 : Shape := ⟨2, ![256, 2048]⟩
abbrev S1x6x1x1024 : Shape := ⟨4, ![1, 6, 1, 1024]⟩
abbrev S256x128 : Shape := ⟨2, ![256, 128]⟩
abbrev S1x1x1x1024 : Shape := ⟨4, ![1, 1, 1, 1024]⟩
abbrev S256 : Shape := ⟨1, ![256]⟩
abbrev S256x1 : Shape := ⟨2, ![256, 1]⟩

abbrev nBuf : Space → Nat
  | .hbm => 29
  | .vmem => 21
  | .smem => 0
  | _ => 0

abbrev bufTy : (tb : Table) → Fin (tcTables nBuf tb) → BufTy
  | .hbm, ⟨0, _⟩ => ⟨S32x256x1024, .f32⟩
  | .hbm, ⟨1, _⟩ => ⟨S8192x512, .f32⟩
  | .hbm, ⟨2, _⟩ => ⟨S8192x512, .f32⟩
  | .hbm, ⟨3, _⟩ => ⟨S8192x2048, .f32⟩
  | .hbm, ⟨4, _⟩ => ⟨S8x6x1x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1x1024x16, .f32⟩
  | .hbm, ⟨11, _⟩ => ⟨S512x1024, .f32⟩
  | .hbm, ⟨12, _⟩ => ⟨S512x1024, .bf16⟩
  | .hbm, ⟨13, _⟩ => ⟨S512x1024, .f32⟩
  | .hbm, ⟨14, _⟩ => ⟨S512x1024, .bf16⟩
  | .hbm, ⟨15, _⟩ => ⟨S1024x1024, .f32⟩
  | .hbm, ⟨16, _⟩ => ⟨S1024x1024, .bf16⟩
  | .hbm, ⟨17, _⟩ => ⟨S1024x16, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S8192x128, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x2048, .f32⟩
  | .local _ .vmem, ⟨7, _⟩ => ⟨S256x2048, .f32⟩
  | .local _ .vmem, ⟨8, _⟩ => ⟨S1x6x1x1024, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x128, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x128, .f32⟩
  | .local _ .vmem, ⟨20, _⟩ => ⟨S256x128, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixRefIdeal.lean ====
abbrev S32x256x1024 : Shape := ⟨3, ![32, 256, 1024]⟩
abbrev S8192x512 : Shape := ⟨2, ![8192, 512]⟩
abbrev S8192x2048 : Shape := ⟨2, ![8192, 2048]⟩
abbrev S8x6x1x1024 : Shape := ⟨4, ![8, 6, 1, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x16 : Shape := ⟨3, ![1, 1024, 16]⟩
abbrev S1x1x1x1024 : Shape := ⟨4, ![1, 1, 1, 1024]⟩
abbrev S_ : Shape := ⟨0, ![]⟩
abbrev S8192x1024 : Shape := ⟨2, ![8192, 1024]⟩
abbrev S512x1024 : Shape := ⟨2, ![512, 1024]⟩
abbrev S1024x1024 : Shape := ⟨2, ![1024, 1024]⟩
abbrev S8192 : Shape := ⟨1, ![8192]⟩
abbrev S8192x1 : Shape := ⟨2, ![8192, 1]⟩
abbrev S1024 : Shape := ⟨1, ![1024]⟩
abbrev S1024x16 : Shape := ⟨2, ![1024, 16]⟩
abbrev S8192x16 : Shape := ⟨2, ![8192, 16]⟩
abbrev S8192x128 : Shape := ⟨2, ![8192, 128]⟩

abbrev nBuf : Space → Nat
  | .hbm => 124
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S8192x512, .f32⟩
  | .hbm, ⟨2, _⟩ => ⟨S8192x512, .f32⟩
  | .hbm, ⟨3, _⟩ => ⟨S8192x2048, .f32⟩
  | .hbm, ⟨4, _⟩ => ⟨S8x6x1x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1x1024x16, .f32⟩
  | .hbm, ⟨11, _⟩ => ⟨S1x1x1x1024, .f32⟩
  | .hbm, ⟨12, _⟩ => ⟨S1x1024, .f32⟩
  | .hbm, ⟨13, _⟩ => ⟨S1x1x1x1024, .f32⟩
  | .hbm, ⟨14, _⟩ => ⟨S1x1024, .f32⟩
  | .hbm, ⟨15, _⟩ => ⟨S1x1x1x1024, .f32⟩
  | .hbm, ⟨16, _⟩ => ⟨S1x1024, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x1024, .f32⟩
  | .hbm, ⟨26, _⟩ => ⟨S8192x1024, .f32⟩
  | .hbm, ⟨27, _⟩ => ⟨S512x1024, .f32⟩
  | .hbm, ⟨28, _⟩ => ⟨S8192x1024, .f32⟩
  | .hbm, ⟨29, _⟩ => ⟨S8192x1024, .f32⟩
  | .hbm, ⟨30, _⟩ => ⟨S512x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S1024x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S8192x1, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S1x1024, .f32⟩
  | .hbm, ⟨99, _⟩ => ⟨S1x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S1024x16, .f32⟩
  | .hbm, ⟨105, _⟩ => ⟨S8192x16, .f32⟩
  | .hbm, ⟨106, _⟩ => ⟨S_, .f32⟩
  | .hbm, ⟨107, _⟩ => ⟨S_, .f32⟩
  | .hbm, ⟨108, _⟩ => ⟨S8192x128, .f32⟩
  | .hbm, ⟨109, _⟩ => ⟨S8192x1024, .bf16⟩
  | .hbm, ⟨110, _⟩ => ⟨S_, .f32⟩
  | .hbm, ⟨111, _⟩ => ⟨S8192, .f32⟩
  | .hbm, ⟨112, _⟩ => ⟨S_, .f32⟩
  | .hbm, ⟨113, _⟩ => ⟨S8192, .f32⟩
  | .hbm, ⟨114, _⟩ => ⟨S8192, .f32⟩
  | .hbm, ⟨115, _⟩ => ⟨S8192x1, .f32⟩
  | .hbm, ⟨116, _⟩ => ⟨S8192x128, .f32⟩
  | .hbm, ⟨117, _⟩ => ⟨S8192x128, .f32⟩
  | .hbm, ⟨118, _⟩ => ⟨S8192x128, .f32⟩
  | .hbm, ⟨119, _⟩ => ⟨S_, .f32⟩
  | .hbm, ⟨120, _⟩ => ⟨S8192, .f32⟩
  | .hbm, ⟨121, _⟩ => ⟨S8192x1, .f32⟩
  | .hbm, ⟨122, _⟩ => ⟨S8192x128, .f32⟩
  | .hbm, ⟨123, _⟩ => ⟨S8192x128, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_9 : Ref sig .tc := ⟨.hbm, 83, rfl⟩
abbrev main_v62 : Ref sig .tc := ⟨.hbm, 84, rfl⟩
abbrev main_v63 : Ref sig .tc := ⟨.hbm, 85, rfl⟩
abbrev main_cst_10 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_12 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_13 : Ref sig .tc := ⟨.hbm, 106, rfl⟩
abbrev main_call0_v0 : Ref sig .tc := ⟨.hbm, 107, rfl⟩
abbrev main_v81 : Ref sig .tc := ⟨.hbm, 108, rfl⟩
abbrev main_v82 : Ref sig .tc := ⟨.hbm, 109, rfl⟩
abbrev main_cst_14 : Ref sig .tc := ⟨.hbm, 110, rfl⟩
abbrev main_v83 : Ref sig .tc := ⟨.hbm, 111, rfl⟩
abbrev main_cst_15 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_16 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩

abbrev nD : Nat := 1
abbrev τ : Topo := Topo.v7x

variable {F : FTy → Type} [FloatOps F]
-- ==== Final.lean ====
abbrev S8192x1024 : Shape := ⟨2, ![8192, 1024]⟩
abbrev S16x1024x1024 : Shape := ⟨3, ![16, 1024, 1024]⟩
abbrev S32x512x256 : Shape := ⟨3, ![32, 512, 256]⟩
abbrev S32x16x256 : Shape := ⟨3, ![32, 16, 256]⟩
abbrev S8x6x1x1024 : Shape := ⟨4, ![8, 6, 1, 1024]⟩
abbrev S1x1024 : Shape := ⟨2, ![1, 1024]⟩
abbrev S1024 : Shape := ⟨1, ![1024]⟩
abbrev S256x1024 : Shape := ⟨2, ![256, 1024]⟩
abbrev S16x32x1024 : Shape := ⟨3, ![16, 32, 1024]⟩
abbrev S1x512x256 : Shape := ⟨3, ![1, 512, 256]⟩
abbrev S1x16x256 : Shape := ⟨3, ![1, 16, 256]⟩
abbrev S1x6x1x1024 : Shape := ⟨4, ![1, 6, 1, 1024]⟩
abbrev S512x1024 : Shape := ⟨2, ![512, 1024]⟩
abbrev S16x256 : Shape := ⟨2, ![16, 256]⟩
abbrev S1x32x256 : Shape := ⟨3, ![1, 32, 256]⟩
abbrev S32x256 : Shape := ⟨2, ![32, 256]⟩
abbrev S1x256 : Shape := ⟨2, ![1, 256]⟩
abbrev S32 : Shape := ⟨1, ![32]⟩
abbrev S32x1 : Shape := ⟨2, ![32, 1]⟩
abbrev S1x32x1024 : Shape := ⟨3, ![1, 32, 1024]⟩
abbrev S32x1024 : Shape := ⟨2, ![32, 1024]⟩
abbrev S512x256 : Shape := ⟨2, ![512, 256]⟩
abbrev S1x1x1x1024 : Shape := ⟨4, ![1, 1, 1, 1024]⟩
abbrev S256 : Shape := ⟨1, ![256]⟩
abbrev S256x1 : Shape := ⟨2, ![256, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S16x1024x1024, .bf16⟩
  | .hbm, ⟨2, _⟩ => ⟨S32x512x256, .bf16⟩
  | .hbm, ⟨3, _⟩ => ⟨S32x16x256, .f32⟩
  | .hbm, ⟨4, _⟩ => ⟨S8x6x1x1024, .f32⟩
  | .hbm, ⟨5, _⟩ => ⟨S1x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S16x32x1024, .bf16⟩
  | .local _ .vmem, ⟨3, _⟩ => ⟨S16x32x1024, .bf16⟩
  | .local _ .vmem, ⟨4, _⟩ => ⟨S1x512x256, .bf16⟩
  | .local _ .vmem, ⟨5, _⟩ => ⟨S1x512x256, .bf16⟩
  | .local _ .vmem, ⟨6, _⟩ => ⟨S1x16x256, .f32⟩
  | .local _ .vmem, ⟨7, _⟩ => ⟨S1x16x256, .f32⟩
  | .local _ .vmem, ⟨8, _⟩ => ⟨S1x6x1x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FinalRefIdeal.lean ====
abbrev S8192x1024 : Shape := ⟨2, ![8192, 1024]⟩
abbrev S16x1024x1024 : Shape := ⟨3, ![16, 1024, 1024]⟩
abbrev S32x512x256 : Shape := ⟨3, ![32, 512, 256]⟩
abbrev S32x16x256 : Shape := ⟨3, ![32, 16, 256]⟩
abbrev S8x6x1x1024 : Shape := ⟨4, ![8, 6, 1, 1024]⟩
abbrev S1x1024 : Shape := ⟨2, ![1, 1024]⟩
abbrev S32x16x32x256 : Shape := ⟨4, ![32, 16, 32, 256]⟩
abbrev S32x16x32 : Shape := ⟨3, ![32, 16, 32]⟩
abbrev S16x32x32x1024 : Shape := ⟨4, ![16, 32, 32, 1024]⟩
abbrev S32x16x32x1024 : Shape := ⟨4, ![32, 16, 32, 1024]⟩
abbrev S32x16x32x1 : Shape := ⟨4, ![32, 16, 32, 1]⟩
abbrev S32x256x1024 : Shape := ⟨3, ![32, 256, 1024]⟩
abbrev S_ : Shape := ⟨0, ![]⟩
abbrev S1x1x1x1024 : Shape := ⟨4, ![1, 1, 1, 1024]⟩
abbrev S1x1x1024 : Shape := ⟨3, ![1, 1, 1024]⟩
abbrev S32x256 : Shape := ⟨2, ![32, 256]⟩
abbrev S32x256x1 : Shape := ⟨3, ![32, 256, 1]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x1024x1024, .bf16⟩
  | .hbm, ⟨2, _⟩ => ⟨S32x512x256, .bf16⟩
  | .hbm, ⟨3, _⟩ => ⟨S32x16x256, .f32⟩
  | .hbm, ⟨4, _⟩ => ⟨S8x6x1x1024, .f32⟩
  | .hbm, ⟨5, _⟩ => ⟨S1x1024, .f32⟩
  | .hbm, ⟨6, _⟩ => ⟨S1x1024, .f32⟩
  | .hbm, ⟨7, _⟩ => ⟨S32x512x256, .f32⟩
  | .hbm, ⟨8, _⟩ => ⟨S32x16x32x256, .f32⟩
  | .hbm, ⟨9, _⟩ => ⟨S32x16x32, .f32⟩
  | .hbm, ⟨10, _⟩ => ⟨S16x1024x1024, .f32⟩
  | .hbm, ⟨11, _⟩ => ⟨S16x32x32x1024, .f32⟩
  | .hbm, ⟨12, _⟩ => ⟨S32x16x32x1024, .f32⟩
  | .hbm, ⟨13, _⟩ => ⟨S32x16x32x1, .f32⟩
  | .hbm, ⟨14, _⟩ => ⟨S32x16x32x1024, .f32⟩
  | .hbm, ⟨15, _⟩ => ⟨S32x16x32x1024, .f32⟩
  | .hbm, ⟨16, _⟩ => ⟨S32x256x1024, .f32⟩
  | .hbm, ⟨17, _⟩ => ⟨S32x256x1024, .f32⟩
  | .hbm, ⟨18, _⟩ => ⟨S_, .f32⟩
  | .hbm, ⟨19, _⟩ => ⟨S32x256x1024, .f32⟩
  | .hbm, ⟨20, _⟩ => ⟨S32x256x1024, .f32⟩
  | .hbm, ⟨21, _⟩ => ⟨S1x1x1x1024, .f32⟩
  | .hbm, ⟨22, _⟩ => ⟨S1x1024, .f32⟩
  | .hbm, ⟨23, _⟩ => ⟨S1x1x1024, .f32⟩
  | .hbm, ⟨24, _⟩ => ⟨S32x256x1024, .f32⟩
  | .hbm, ⟨25, _⟩ => ⟨S32x256x1024, .f32⟩
  | .hbm, ⟨26, _⟩ => ⟨S32x256x1024, .f32⟩
  | .hbm, ⟨27, _⟩ => ⟨S_, .f32⟩
  | .hbm, ⟨28, _⟩ => ⟨S32x256, .f32⟩
  | .hbm, ⟨29, _⟩ => ⟨S32x256x1, .f32⟩
  | .hbm, ⟨30, _⟩ => ⟨S_, .f32⟩
  | .hbm, ⟨31, _⟩ => ⟨S32x256x1, .f32⟩
  | .hbm, ⟨32, _⟩ => ⟨S32x256x1, .f32⟩
  | .hbm, ⟨33, _⟩ => ⟨S32x256x1024, .f32⟩
  | .hbm, ⟨34, _⟩ => ⟨S32x256x1024, .f32⟩
  | .hbm, ⟨35, _⟩ => ⟨S32x256x1024, .f32⟩
  | .hbm, ⟨36, _⟩ => ⟨S_, .f32⟩
  | .hbm, ⟨37, _⟩ => ⟨S32x256, .f32⟩
  | .hbm, ⟨38, _⟩ => ⟨S32x256x1, .f32⟩
  | .hbm, ⟨39, _⟩ => ⟨S_, .f32⟩
  | .hbm, ⟨40, _⟩ => ⟨S32x256x1, .f32⟩
  | .hbm, ⟨41, _⟩ => ⟨S32x256x1, .f32⟩
  | .hbm, ⟨42, _⟩ => ⟨S32x256x1024, .f32⟩
  | .hbm, ⟨43, _⟩ => ⟨S32x256x1024, .f32⟩
  | .hbm, ⟨44, _⟩ => ⟨S_, .f32⟩
  | .hbm, ⟨45, _⟩ => ⟨S32x256x1, .f32⟩
  | .hbm, ⟨46, _⟩ => ⟨S32x256x1, .f32⟩
  | .hbm, ⟨47, _⟩ => ⟨S32x256x1, .f32⟩
  | .hbm, ⟨48, _⟩ => ⟨S32x256x1024, .f32⟩
  | .hbm, ⟨49, _⟩ => ⟨S32x256x1024, .f32⟩
  | .hbm, ⟨50, _⟩ => ⟨S1024, .f32⟩
  | .hbm, ⟨51, _⟩ => ⟨S1x1x1024, .f32⟩
  | .hbm, ⟨52, _⟩ => ⟨S32x256x1024, .f32⟩
  | .hbm, ⟨53, _⟩ => ⟨S32x256x1024, .f32⟩
  | .hbm, ⟨54, _⟩ => ⟨S1024, .f32⟩
  | .hbm, ⟨55, _⟩ => ⟨S1x1x1024, .f32⟩
  | .hbm, ⟨56, _⟩ => ⟨S32x256x1024, .f32⟩
  | .hbm, ⟨57, _⟩ => ⟨S32x256x1024, .f32⟩
  | .hbm, ⟨58, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Proof.ExpertsBody.lean ====
/-
  What one visit of the expert kernel leaves in its buffers, read back from the stores that the visit makes: the first
  half of an expert's hidden columns is stored in the scratch, the second half is added to it, and the sum is
  written out.
-/
module

public import proofs.«01_k».proof.Proof.Gen.ExpertsIdeal.Value

@[expose] public section

noncomputable section

open Idealize.ShloMosaic Idealize.ShloMosaic.TcCoe Idealize.SL.Sem

namespace Cert.ExpertsIdeal.Body

open Cert.ExpertsIdeal Cert.ExpertsIdeal.Gen

variable {F : FTy → Type} [FloatOps F]

theorem z2 : (![0, 0] : Fin 2 → Nat) = fun _ => 0 := funext fun a => by fin_cases a <;> rfl
theorem z3 : (![0, 0, 0] : Fin 3 → Nat) = fun _ => 0 := funext fun a => by fin_cases a <;> rfl

/-- The first half of an expert's hidden columns: the scratch of the large batch holds that half's product. -/
theorem scrC_first (c : Dev nD) (i : grid0.Coords) (arg2 : Memref sig .tc .vmem S1x1024x1024 .bf16) (harg2 : arg2.IsWhole) (arg3 : Memref sig .tc .vmem S1x256x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S1x1024x1024 .bf16) (harg7 : arg7.IsWhole) (arg8 : Memref sig .tc .vmem S1x256x1024 .bf16) (harg8 : arg8.IsWhole) (arg9 : Memref sig .tc .vmem S1024x1024 .f32) (harg9 : arg9.IsWhole) (arg10 : Memref sig .tc .vmem S256x1024 .f32) (harg10 : arg10.IsWhole) (hc0 : cond0_0 i) (hc1 : ¬cond0_1 i) (hc2 : ¬cond0_2 i) (hc3 : cond0_3 i) (hc4 : ¬cond0_4 i) (hc5 : ¬cond0_5 i) (x0 : Vec F S1x1024x1024 .bf16) (x1 : Vec F S1x256x1024 .bf16) (x2 : Vec F S1x1024x512 .f32) (x3 : Vec F S1x1024x512 .f32) (x4 : Vec F S1x512x1024 .f32) :
    sout0_A_0 c i arg2 harg2 arg3 harg3 arg4 harg4 arg5 harg5 arg6 harg6 arg7 harg7 arg8 harg8 arg9 harg9 arg10 harg10 hc0 hc1 hc2 hc3 hc4 hc5 x0 x1 x2 x3 x4 = k0_pay9 x2 x3 x4 x0 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 hc2 hc3 hc4 hc5 x0 x1 x2 x3 x4)]
  unfold kernelRun0_A
  dsimp only
  rw [View.canon_unit_zero z2]
  unfold k0_pay10
  simp only [View.readAt_eq_ld, harg2.read_unread, harg3.read_unread, harg4.read_unread, harg5.read_unread, harg6.read_unread, harg7.read_unread, harg8.read_unread, harg9.read_unread, harg10.read_unread, View.ld_unit_zero (S := S1x1024x1024) z3, View.ld_unit_zero (S := S1x256x1024) z3, View.ld_unit_zero (S := S1x1024x512) z3, View.ld_unit_zero (S := S1x512x1024) z3, View.ld_unit_zero (S := S1024x1024) z2, View.ld_unit_zero (S := S256x1024) z2, shapeCast_self]

/-- The first half of an expert's hidden columns: the scratch of the small batch holds that half's product. -/
theorem scrD_first (c : Dev nD) (i : grid0.Coords) (arg2 : Memref sig .tc .vmem S1x1024x1024 .bf16) (harg2 : arg2.IsWhole) (arg3 : Memref sig .tc .vmem S1x256x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S1x1024x1024 .bf16) (harg7 : arg7.IsWhole) (arg8 : Memref sig .tc .vmem S1x256x1024 .bf16) (harg8 : arg8.IsWhole) (arg9 : Memref sig .tc .vmem S1024x1024 .f32) (harg9 : arg9.IsWhole) (arg10 : Memref sig .tc .vmem S256x1024 .f32) (harg10 : arg10.IsWhole) (hc0 : cond0_0 i) (hc1 : ¬cond0_1 i) (hc2 : ¬cond0_2 i) (hc3 : cond0_3 i) (hc4 : ¬cond0_4 i) (hc5 : ¬cond0_5 i) (x0 : Vec F S1x1024x1024 .bf16) (x1 : Vec F S1x256x1024 .bf16) (x2 : Vec F S1x1024x512 .f32) (x3 : Vec F S1x1024x512 .f32) (x4 : Vec F S1x512x1024 .f32) :
    sout0_A_1 c i arg2 harg2 arg3 harg3 arg4 harg4 arg5 harg5 arg6 harg6 arg7 harg7 arg8 harg8 arg9 harg9 arg10 harg10 hc0 hc1 hc2 hc3 hc4 hc5 x0 x1 x2 x3 x4 = k0_pay2 (k0_pay6 x2) (k0_pay7 x3) (k0_pay8 x4) x1 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 hc2 hc3 hc4 hc5 x0 x1 x2 x3 x4)]
  unfold kernelRun0_A
  dsimp only
  sl_unfold_words
  rw [View.canon_unit_zero z2]
  unfold k0_pay3
  simp only [View.readAt_eq_ld, harg2.read_unread, harg3.read_unread, harg4.read_unread, harg5.read_unread, harg6.read_unread, harg7.read_unread, harg8.read_unread, harg9.read_unread, harg10.read_unread, View.ld_unit_zero (S := S1x1024x1024) z3, View.ld_unit_zero (S := S1x256x1024) z3, View.ld_unit_zero (S := S1x1024x512) z3, View.ld_unit_zero (S := S1x512x1024) z3, View.ld_unit_zero (S := S1024x1024) z2, View.ld_unit_zero (S := S256x1024) z2, shapeCast_self]

/-- The second half: the large batch's block is the scratch plus that half's product, rounded. -/
theorem outC_last (c : Dev nD) (i : grid0.Coords) (arg2 : Memref sig .tc .vmem S1x1024x1024 .bf16) (harg2 : arg2.IsWhole) (arg3 : Memref sig .tc .vmem S1x256x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S1x1024x1024 .bf16) (harg7 : arg7.IsWhole) (arg8 : Memref sig .tc .vmem S1x256x1024 .bf16) (harg8 : arg8.IsWhole) (arg9 : Memref sig .tc .vmem S1024x1024 .f32) (harg9 : arg9.IsWhole) (arg10 : Memref sig .tc .vmem S256x1024 .f32) (harg10 : arg10.IsWhole) (hc0 : ¬cond0_0 i) (hc1 : cond0_1 i) (hc2 : cond0_2 i) (hc3 : ¬cond0_3 i) (hc4 : cond0_4 i) (hc5 : cond0_5 i) (x0 : Vec F S1x1024x1024 .bf16) (x1 : Vec F S1x256x1024 .bf16) (x2 : Vec F S1x1024x512 .f32) (x3 : Vec F S1x1024x512 .f32) (x4 : Vec F S1x512x1024 .f32) (s0 : Vec F S1024x1024 .f32) (s1 : Vec F S256x1024 .f32) :
    out0_B_5 c i arg2 harg2 arg3 harg3 arg4 harg4 arg5 harg5 arg6 harg6 arg7 harg7 arg8 harg8 arg9 harg9 arg10 harg10 hc0 hc1 hc2 hc3 hc4 hc5 x0 x1 x2 x3 x4 s0 s1 = k0_pay1 (addf s0 (k0_pay9 x2 x3 x4 x0)) := by
  unfold out0_B_5
  rw [View.read_writes_eq_canon _ _ _ (cover0_B_5 c i arg2 harg2 arg3 harg3 arg4 harg4 arg5 harg5 arg6 harg6 arg7 harg7 arg8 harg8 arg9 harg9 arg10 harg10 hc0 hc1 hc2 hc3 hc4 hc5 x0 x1 x2 x3 x4 s0 s1)]
  unfold kernelRun0_B
  dsimp only
  sl_unfold_words
  rw [View.canon_unit_zero z3]
  rw [View.readCov_unit_zero (S := S1024x1024) _ z2]
  unfold k0_pay11
  simp only [View.readAt_eq_ld, harg2.read_unread, harg3.read_unread, harg4.read_unread, harg5.read_unread, harg6.read_unread, harg7.read_unread, harg8.read_unread, harg9.read_unread, harg10.read_unread, View.ld_unit_zero (S := S1x1024x1024) z3, View.ld_unit_zero (S := S1x256x1024) z3, View.ld_unit_zero (S := S1x1024x512) z3, View.ld_unit_zero (S := S1x512x1024) z3, View.ld_unit_zero (S := S1024x1024) z2, View.ld_unit_zero (S := S256x1024) z2, shapeCast_self]

/-- The second half: the small batch's block is the scratch plus that half's product, rounded. -/
theorem outD_last (c : Dev nD) (i : grid0.Coords) (arg2 : Memref sig .tc .vmem S1x1024x1024 .bf16) (harg2 : arg2.IsWhole) (arg3 : Memref sig .tc .vmem S1x256x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S1x1024x1024 .bf16) (harg7 : arg7.IsWhole) (arg8 : Memref sig .tc .vmem S1x256x1024 .bf16) (harg8 : arg8.IsWhole) (arg9 : Memref sig .tc .vmem S1024x1024 .f32) (harg9 : arg9.IsWhole) (arg10 : Memref sig .tc .vmem S256x1024 .f32) (harg10 : arg10.IsWhole) (hc0 : ¬cond0_0 i) (hc1 : cond0_1 i) (hc2 : cond0_2 i) (hc3 : ¬cond0_3 i) (hc4 : cond0_4 i) (hc5 : cond0_5 i) (x0 : Vec F S1x1024x1024 .bf16) (x1 : Vec F S1x256x1024 .bf16) (x2 : Vec F S1x1024x512 .f32) (x3 : Vec F S1x1024x512 .f32) (x4 : Vec F S1x512x1024 .f32) (s0 : Vec F S1024x1024 .f32) (s1 : Vec F S256x1024 .f32) :
    out0_B_6 c i arg2 harg2 arg3 harg3 arg4 harg4 arg5 harg5 arg6 harg6 arg7 harg7 arg8 harg8 arg9 harg9 arg10 harg10 hc0 hc1 hc2 hc3 hc4 hc5 x0 x1 x2 x3 x4 s0 s1 = k0_pay5 (addf s1 (k0_pay2 (k0_pay6 x2) (k0_pay7 x3) (k0_pay8 x4) x1)) := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 hc2 hc3 hc4 hc5 x0 x1 x2 x3 x4 s0 s1)]
  unfold kernelRun0_B
  dsimp only
  sl_unfold_words
  rw [View.canon_unit_zero z3]
  rw [View.readCov_unit_zero (S := S256x1024) _ z2]
  unfold k0_pay4
  simp only [View.readAt_eq_ld, harg2.read_unread, harg3.read_unread, harg4.read_unread, harg5.read_unread, harg6.read_unread, harg7.read_unread, harg8.read_unread, harg9.read_unread, harg10.read_unread, View.ld_unit_zero (S := S1x1024x1024) z3, View.ld_unit_zero (S := S1x256x1024) z3, View.ld_unit_zero (S := S1x1024x512) z3, View.ld_unit_zero (S := S1x512x1024) z3, View.ld_unit_zero (S := S1024x1024) z2, View.ld_unit_zero (S := S256x1024) z2, shapeCast_self]

end Cert.ExpertsIdeal.Body

end
-- ==== Proof.ExpertsValue.lean ====
/-
  The expert kernel's two results at an index, as sums over an expert's hidden columns.
-/
module

public import proofs.«01_k».proof.Proof.ExpertsBody
public import proofs.«01_k».proof.Proof.Gen.ExpertsRefIdeal.Read
public import proofs.«01_k».proof.Proof.Gen.ExpertsRefIdeal.Run
public import Idealize.ShloMosaic.Lib.Pointwise

@[expose] public section

set_option maxRecDepth 16384

noncomputable section

open Idealize.ShloMosaic Idealize.ShloMosaic.TcCoe Idealize.SL.Sem

/-! ## The hidden columns and their sum -/

namespace Cert.ExpertsIdeal.Val

open Cert.ExpertsIdeal Cert.ExpertsIdeal.Gen

/-- The gate `y · σ(y)` over the extended reals, the sigmoid written as a quotient. -/
def gate (y : EReal) : EReal := y * Ideal.div 1 (1 + Ideal.exp (-y))

/-- One half's product for the large batch at row `r` and model column `n`. -/
theorem partC_apply (g u : Vec Ideal S1x1024x512 .f32) (w : Vec Ideal S1x512x1024 .f32) (x : Vec Ideal S1x1024x1024 .bf16)
    (r n : Fin 1024) :
    k0_pay9 (F := Ideal) g u w x (ix2 r n) = ∑ k : Fin 512, gate (∑ d : Fin 1024, x (ix3 0 r d) * g (ix3 0 d k))
      * (∑ d : Fin 1024, x (ix3 0 r d) * u (ix3 0 d k)) * w (ix3 0 k n) := by
  pointwise [k0_pay9, k0_pay8, k0_pay7, k0_pay6, gate]
  simp only [zero_sub]

/-- One half's product for the small batch at row `r` and model column `n`. -/
theorem partD_apply (g u : Vec Ideal S1x1024x512 .f32) (w : Vec Ideal S1x512x1024 .f32) (x : Vec Ideal S1x256x1024 .bf16)
    (r : Fin 256) (n : Fin 1024) :
    k0_pay2 (F := Ideal) (k0_pay6 g) (k0_pay7 u) (k0_pay8 w) x (ix2 r n)
      = ∑ k : Fin 512, gate (∑ d : Fin 1024, x (ix3 0 r d) * g (ix3 0 d k))
      * (∑ d : Fin 1024, x (ix3 0 r d) * u (ix3 0 d k)) * w (ix3 0 k n) := by
  pointwise [k0_pay2, k0_pay8, k0_pay7, k0_pay6, gate]
  simp only [zero_sub]

theorem outC_apply (s : Vec Ideal S1024x1024 .f32) (r n : Fin 1024) :
    k0_pay1 (F := Ideal) s (ix3 0 r n) = s (ix2 r n) := by
  pointwise [k0_pay1]

theorem outD_apply (s : Vec Ideal S256x1024 .f32) (r : Fin 256) (n : Fin 1024) :
    k0_pay5 (F := Ideal) s (ix3 0 r n) = s (ix2 r n) := by
  pointwise [k0_pay5]

/-! ## The blocks the windows hand over -/

variable (m : (ℓ : Loc nD τ sig) → Buf (Elt Ideal) ℓ)

theorem idx0 : ∀ t : Fin cfg0.N, win0_0.index t 0 = t.val / 2 ∧ win0_0.index t 1 = 0 ∧ win0_0.index t 2 = 0 := by decide +kernel
theorem idx1 : ∀ t : Fin cfg0.N, win0_1.index t 0 = t.val / 2 ∧ win0_1.index t 1 = 0 ∧ win0_1.index t 2 = 0 := by decide +kernel
theorem idx2 : ∀ t : Fin cfg0.N, win0_2.index t 0 = t.val / 2 ∧ win0_2.index t 1 = 0 ∧ win0_2.index t 2 = t.val % 2 := by decide +kernel
theorem idx3 : ∀ t : Fin cfg0.N, win0_3.index t 0 = t.val / 2 ∧ win0_3.index t 1 = 0 ∧ win0_3.index t 2 = t.val % 2 := by decide +kernel
theorem idx4 : ∀ t : Fin cfg0.N, win0_4.index t 0 = t.val / 2 ∧ win0_4.index t 1 = t.val % 2 ∧ win0_4.index t 2 = 0 := by decide +kernel

theorem blk0 (c : Dev nD) (t : Fin cfg0.N) (e : Fin 16) (he : t.val / 2 = e.val) (r d : Fin 1024) :
    (iblk m c 0 t : Vec Ideal S1x1024x1024 .bf16) (ix3 0 r d) = m ((c : Thread nD τ).loc main_arg0) (ix3 e r d) := by
  have hi := idx0 t
  unfold iblk
  rw [View.read_apply]
  show V m c main_arg0 _ = m (c.tc.loc main_arg0) _
  unfold V
  congr 1
  funext a
  apply Fin.ext
  match a with
  | ⟨0, _⟩ => show win0_0.index t 0 * 1 + 1 * 0 = e.val; omega
  | ⟨1, _⟩ => show win0_0.index t 1 * 1024 + 1 * (r).val = r.val; omega
  | ⟨2, _⟩ => show win0_0.index t 2 * 1024 + 1 * (d).val = d.val; omega

theorem blk1 (c : Dev nD) (t : Fin cfg0.N) (e : Fin 16) (he : t.val / 2 = e.val) (r : Fin 256) (d : Fin 1024) :
    (iblk m c 1 t : Vec Ideal S1x256x1024 .bf16) (ix3 0 r d) = m ((c : Thread nD τ).loc main_arg1) (ix3 e r d) := by
  have hi := idx1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = e.val; omega
  | ⟨1, _⟩ => show win0_1.index t 1 * 256 + 1 * (r).val = r.val; omega
  | ⟨2, _⟩ => show win0_1.index t 2 * 1024 + 1 * (d).val = d.val; omega

theorem blk2 (c : Dev nD) (t : Fin cfg0.N) (e : Fin 16) (he : t.val / 2 = e.val) (d : Fin 1024) (k : Fin 512) :
    (iblk m c 2 t : Vec Ideal S1x1024x512 .f32) (ix3 0 d k) = m ((c : Thread nD τ).loc main_arg2) (ix3 e d ⟨512 * (t.val % 2) + k.val, by omega⟩) := by
  have hi := idx2 t
  unfold iblk
  rw [View.read_apply]
  show V m c main_arg2 _ = m (c.tc.loc main_arg2) _
  unfold V
  congr 1
  funext a
  apply Fin.ext
  match a with
  | ⟨0, _⟩ => show win0_2.index t 0 * 1 + 1 * 0 = e.val; omega
  | ⟨1, _⟩ => show win0_2.index t 1 * 1024 + 1 * (d).val = d.val; omega
  | ⟨2, _⟩ => show win0_2.index t 2 * 512 + 1 * (k).val = 512 * (t.val % 2) + k.val; omega

theorem blk3 (c : Dev nD) (t : Fin cfg0.N) (e : Fin 16) (he : t.val / 2 = e.val) (d : Fin 1024) (k : Fin 512) :
    (iblk m c 3 t : Vec Ideal S1x1024x512 .f32) (ix3 0 d k) = m ((c : Thread nD τ).loc main_arg3) (ix3 e d ⟨512 * (t.val % 2) + k.val, by omega⟩) := by
  have hi := idx3 t
  unfold iblk
  rw [View.read_apply]
  show V m c main_arg3 _ = m (c.tc.loc main_arg3) _
  unfold V
  congr 1
  funext a
  apply Fin.ext
  match a with
  | ⟨0, _⟩ => show win0_3.index t 0 * 1 + 1 * 0 = e.val; omega
  | ⟨1, _⟩ => show win0_3.index t 1 * 1024 + 1 * (d).val = d.val; omega
  | ⟨2, _⟩ => show win0_3.index t 2 * 512 + 1 * (k).val = 512 * (t.val % 2) + k.val; omega

theorem blk4 (c : Dev nD) (t : Fin cfg0.N) (e : Fin 16) (he : t.val / 2 = e.val) (k : Fin 512) (n : Fin 1024) :
    (iblk m c 4 t : Vec Ideal S1x512x1024 .f32) (ix3 0 k n) = m ((c : Thread nD τ).loc main_arg4) (ix3 e ⟨512 * (t.val % 2) + k.val, by omega⟩ n) := by
  have hi := idx4 t
  unfold iblk
  rw [View.read_apply]
  show V m c main_arg4 _ = m (c.tc.loc main_arg4) _
  unfold V
  congr 1
  funext a
  apply Fin.ext
  match a with
  | ⟨0, _⟩ => show win0_4.index t 0 * 1 + 1 * 0 = e.val; omega
  | ⟨1, _⟩ => show win0_4.index t 1 * 512 + 1 * (k).val = 512 * (t.val % 2) + k.val; omega
  | ⟨2, _⟩ => show win0_4.index t 2 * 1024 + 1 * (n).val = n.val; omega

/-! ## The result arrays at an index -/

/-- One hidden column's contribution to row `r`, model column `n` of expert `e`, for a batch `x` of `R` rows. -/
def term {R : ℕ} (x : (⟨3, ![16, R, 1024]⟩ : Shape).Idx → EReal) (g u w : S16x1024x1024.Idx → EReal)
    (e : Fin 16) (r : Fin R) (n : Fin 1024) (k : Fin 1024) : EReal :=
  gate (∑ d : Fin 1024, x (ix3 e r d) * g (ix3 e d k)) * (∑ d : Fin 1024, x (ix3 e r d) * u (ix3 e d k)) * w (ix3 e k n)

/-- The scratch and the result after an expert's second visit, in terms of the two visits' products. -/
theorem outs_last (c : Dev nD) (t₀ t₁ : Fin cfg0.N) (h₀ : t₀.val % 2 = 0) (h₁ : t₁.val = t₀.val + 1) :
    (outsAt0 m c t₁.val t₁.isLt).1 = k0_pay1 (addf
        (k0_pay9 (iblk m c 2 t₀) (iblk m c 3 t₀) (iblk m c 4 t₀) (iblk m c 0 t₀))
        (k0_pay9 (iblk m c 2 t₁) (iblk m c 3 t₁) (iblk m c 4 t₁) (iblk m c 0 t₁)))
    ∧ (outsAt0 m c t₁.val t₁.isLt).2.1 = k0_pay5 (addf
        (k0_pay2 (k0_pay6 (iblk m c 2 t₀)) (k0_pay7 (iblk m c 3 t₀)) (k0_pay8 (iblk m c 4 t₀)) (iblk m c 1 t₀))
        (k0_pay2 (k0_pay6 (iblk m c 2 t₁)) (k0_pay7 (iblk m c 3 t₁)) (k0_pay8 (iblk m c 4 t₁)) (iblk m c 1 t₁))) := by
  obtain ⟨n₀, hn₀⟩ := t₀
  obtain ⟨n₁, hn₁⟩ := t₁
  dsimp only at h₀ h₁
  subst h₁
  rw [outsAt0_B m c ⟨n₀ + 1, hn₁⟩ (by dsimp only; omega) (by dsimp only; omega) (by dsimp only; omega) (by dsimp only; omega)
    (by dsimp only; omega) (by dsimp only; omega)]
  dsimp only
  rw [Body.outC_last, Body.outD_last]
  have hA := outsAt0_A m c ⟨n₀, hn₀⟩ h₀ (by dsimp only; omega) (by dsimp only; omega) h₀
    (by dsimp only; omega) (by dsimp only; omega)
  rw [Body.scrC_first, Body.scrD_first] at hA
  simp only [Nat.add_sub_cancel]
  dsimp only at hA
  rw [hA]
  exact ⟨rfl, rfl⟩

theorem resC (c : Dev nD) (e : Fin 16) (r n : Fin 1024) :
    Value.G5 m c (ix3 e r n) = ∑ k : Fin 1024, term (m ((c : Thread nD τ).loc main_arg0)) (m ((c : Thread nD τ).loc main_arg2))
      (m ((c : Thread nD τ).loc main_arg3)) (m ((c : Thread nD τ).loc main_arg4)) e r n k := by
  have hN : cfg0.N = 32 := N_0
  have hp : Value.pt5Of (ix3 e r n) = 2 * e.val + 1 := by
    show 2 * (1 * (e.val / 1 - 0) + 1 * (r.val / 1024 - 0) + 1 * (n.val / 1024 - 0)) + 1 = _
    omega
  have hl : Value.loc5Of (ix3 e r n) = ix3 0 r n := by
    funext a
    apply Fin.ext
    match a with
    | ⟨0, _⟩ => show e.val % 1 = 0; omega
    | ⟨1, _⟩ => show r.val % 1024 = r.val; omega
    | ⟨2, _⟩ => show n.val % 1024 = n.val; omega
  have ho := (outs_last m c ⟨2 * e.val, by omega⟩ ⟨2 * e.val + 1, by omega⟩ (by dsimp only; omega) rfl).1
  unfold Value.G5
  rw [dif_pos (by omega), hl]
  simp only [hp]
  rw [← Value.outsAt0_sweep m c (2 * e.val + 1) (by omega), ho, outC_apply]
  show _ + _ = _
  rw [partC_apply, partC_apply, Fin.sum_univ_two_halves 512 512 rfl]
  simp only [blk0 m c ⟨2 * e.val, by omega⟩ e (by dsimp only; omega), blk0 m c ⟨2 * e.val + 1, by omega⟩ e (by dsimp only; omega),
    blk2 m c ⟨2 * e.val, by omega⟩ e (by dsimp only; omega), blk2 m c ⟨2 * e.val + 1, by omega⟩ e (by dsimp only; omega),
    blk3 m c ⟨2 * e.val, by omega⟩ e (by dsimp only; omega), blk3 m c ⟨2 * e.val + 1, by omega⟩ e (by dsimp only; omega),
    blk4 m c ⟨2 * e.val, by omega⟩ e (by dsimp only; omega), blk4 m c ⟨2 * e.val + 1, by omega⟩ e (by dsimp only; omega)]
  simp only [show 512 * (2 * e.val % 2) = 0 by omega, show 512 * ((2 * e.val + 1) % 2) = 512 by omega, Nat.zero_add]
  rfl

theorem resD (c : Dev nD) (e : Fin 16) (r : Fin 256) (n : Fin 1024) :
    Value.G6 m c (ix3 e r n) = ∑ k : Fin 1024, term (m ((c : Thread nD τ).loc main_arg1)) (m ((c : Thread nD τ).loc main_arg2))
      (m ((c : Thread nD τ).loc main_arg3)) (m ((c : Thread nD τ).loc main_arg4)) e r n k := by
  have hN : cfg0.N = 32 := N_0
  have hp : Value.pt6Of (ix3 e r n) = 2 * e.val + 1 := by
    show 2 * (1 * (e.val / 1 - 0) + 1 * (r.val / 256 - 0) + 1 * (n.val / 1024 - 0)) + 1 = _
    omega
  have hl : Value.loc6Of (ix3 e r n) = ix3 0 r n := by
    funext a
    apply Fin.ext
    match a with
    | ⟨0, _⟩ => show e.val % 1 = 0; omega
    | ⟨1, _⟩ => show r.val % 256 = r.val; omega
    | ⟨2, _⟩ => show n.val % 1024 = n.val; omega
  have ho := (outs_last m c ⟨2 * e.val, by omega⟩ ⟨2 * e.val + 1, by omega⟩ (by dsimp only; omega) rfl).2
  unfold Value.G6
  rw [dif_pos (by omega), hl]
  simp only [hp]
  rw [← Value.outsAt0_sweep m c (2 * e.val + 1) (by omega), ho, outD_apply]
  show _ + _ = _
  rw [partD_apply, partD_apply, Fin.sum_univ_two_halves 512 512 rfl]
  simp only [blk1 m c ⟨2 * e.val, by omega⟩ e (by dsimp only; omega), blk1 m c ⟨2 * e.val + 1, by omega⟩ e (by dsimp only; omega),
    blk2 m c ⟨2 * e.val, by omega⟩ e (by dsimp only; omega), blk2 m c ⟨2 * e.val + 1, by omega⟩ e (by dsimp only; omega),
    blk3 m c ⟨2 * e.val, by omega⟩ e (by dsimp only; omega), blk3 m c ⟨2 * e.val + 1, by omega⟩ e (by dsimp only; omega),
    blk4 m c ⟨2 * e.val, by omega⟩ e (by dsimp only; omega), blk4 m c ⟨2 * e.val + 1, by omega⟩ e (by dsimp only; omega)]
  simp only [show 512 * (2 * e.val % 2) = 0 by omega, show 512 * ((2 * e.val + 1) % 2) = 512 by omega, Nat.zero_add]
  rfl

end Cert.ExpertsIdeal.Val

/-! ## The reference's results at an index -/

namespace Cert.ExpertsRefIdeal.Val

open Cert.ExpertsRefIdeal Cert.ExpertsRefIdeal.Gen Cert.ExpertsRefIdeal.Read

theorem refC (x g u w) (e : Fin 16) (r n : Fin 1024) :
    val_main_v6 (F := Ideal) x g u w (ix3 e r n) = ∑ k : Fin 1024, Cert.ExpertsIdeal.Val.term x g u w e r n k := by
  pointwise [val_main_v6, val_main_v5, val_main_v4, val_main_v3, val_main_v2, val_main_v1, val_main_v0, val_main_call0_v0, val_main_call0_v1,
    val_main_call0_v2, val_main_call0_v3, val_main_call0_v4, val_main_call0_v5, val_main_call0_cst, val_main_call0_cst_0,
    Cert.ExpertsIdeal.Val.term, Cert.ExpertsIdeal.Val.gate]

theorem refD (x g u w) (e : Fin 16) (r : Fin 256) (n : Fin 1024) :
    val_main_v13 (F := Ideal) x g u w (ix3 e r n) = ∑ k : Fin 1024, Cert.ExpertsIdeal.Val.term x g u w e r n k := by
  pointwise [val_main_v13, val_main_v12, val_main_v11, val_main_v10, val_main_v9, val_main_v8, val_main_v7, val_main_call1_v0, val_main_call1_v1,
    val_main_call1_v2, val_main_call1_v3, val_main_call1_v4, val_main_call1_v5, val_main_call1_cst, val_main_call1_cst_0,
    Cert.ExpertsIdeal.Val.term, Cert.ExpertsIdeal.Val.gate]

end Cert.ExpertsRefIdeal.Val

end
-- ==== Proof.ExpertsClaim.lean ====
/-
  The claims about the expert kernel: the three frames, and the equality of the kernel's results with the reference's.
-/
module

public import proofs.«01_k».proof.Defs
public import proofs.«01_k».proof.Proof.Gen.Experts.Frame
public import proofs.«01_k».proof.Proof.ExpertsValue

@[expose] public section

noncomputable section

open Idealize.ShloMosaic Idealize.ShloMosaic.TcCoe Idealize.SL.Sem

namespace Cert.ExpertsClaim

/-- The kernel at the machine's formats ends with its arguments unchanged and its counters at zero. -/
theorem frame_p : Cert.quiescent_Experts := fun m ρ _ => Cert.Experts.Gen.frame m ρ

/-- The same of the kernel over the extended reals. -/
theorem frame_pi : Cert.quiescent_ExpertsIdeal := fun m ρ _ => Cert.ExpertsIdeal.Gen.frame m ρ

/-- The same of the reference over the extended reals. -/
theorem frame_ri : Cert.quiescent_ExpertsRefIdeal := fun m ρ _ =>
  (θ_run Cert.ExpertsRefIdeal.defs _ _).mono
    (fun r h => ⟨fun c => (h c).2.2, Idealize.ShloMosaic.sem_eq_zero_of_no_sems (by decide) r.2⟩)
    (Cert.ExpertsRefIdeal.Value.run (F := Ideal) m ρ)

/-- No operation is replaced between the kernel and its reading over the extended reals. -/
theorem preserves : Cert.preserves_Experts_ExpertsIdeal := trivial

/-- The kernel's two results are the reference's: every entry is the sum of an expert's hidden columns, which the
    kernel takes in two halves. -/
theorem algebraic : Cert.algebraic_ExpertsIdeal_ExpertsRefIdeal := by
  intro m ρ m' ρ' _ hagree
  refine ⟨fun c => Cert.ExpertsIdeal.Value.G5 m c, fun c => Cert.ExpertsIdeal.Value.G6 m c,
    Cert.ExpertsIdeal.Value.run m ρ, ?_⟩
  refine (θ_run Cert.ExpertsRefIdeal.defs _ _).mono (fun _ h c => ?_) (Cert.ExpertsRefIdeal.Value.run (F := Ideal) m' ρ')
  obtain ⟨a0, a1, a2, a3, a4⟩ := hagree c
  refine ⟨(h c).1.trans ?_, (h c).2.1.trans ?_, (h c).2.2⟩
  · rw [a0, a2, a3, a4]
    refine (Cert.ExpertsRefIdeal.Read.val_main_v6_eq _ _ _ _).trans ?_
    funext i
    obtain ⟨e, r, n, rfl⟩ : ∃ (e : Fin 16) (r n : Fin 1024), i = ix3 e r n := ⟨i 0, i 1, i 2, eq_ix3 i⟩
    exact (Cert.ExpertsRefIdeal.Val.refC _ _ _ _ e r n).trans (Cert.ExpertsIdeal.Val.resC m c e r n).symm
  · rw [a1, a2, a3, a4]
    refine (Cert.ExpertsRefIdeal.Read.val_main_v13_eq _ _ _ _).trans ?_
    funext i
    obtain ⟨e, r, n, rfl⟩ : ∃ (e : Fin 16) (r : Fin 256) (n : Fin 1024), i = ix3 e r n := ⟨i 0, i 1, i 2, eq_ix3 i⟩
    exact (Cert.ExpertsRefIdeal.Val.refD _ _ _ _ e r n).trans (Cert.ExpertsIdeal.Val.resD m c e r n).symm

end Cert.ExpertsClaim

end
-- ==== Proof.DeltaMath.lean ====
/-
  The delta rule over the reals. A sequence of 256 tokens is read in one of two orders; the recurrence that visits one
  token after the other has a closed form: the vectors that are written into the state solve one triangular system, and
  the state and the outputs are sums over the tokens already seen. The system's inverse is built block by block.
-/
module

public import Mathlib.Data.Matrix.Mul
public import Mathlib.Tactic.NoncommRing
public import Mathlib.Tactic.Linarith
public import Mathlib.Analysis.SpecialFunctions.Exp

@[expose] public section

noncomputable section

namespace Cert.DeltaMath

/-- Square matrices over the tokens. -/
abbrev Mat := Matrix (Fin 256) (Fin 256) ℝ

/-- The place of a token in the sequence read forwards (`false`) or backwards (`true`). -/
def pos (o : Bool) (i : Fin 256) : ℕ := if o then 255 - i.val else i.val

/-- The token at a place of the sequence. -/
def tok (o : Bool) (n : Fin 256) : Fin 256 := if o then ⟨255 - n.val, by omega⟩ else n

theorem pos_tok (o : Bool) (n : Fin 256) : pos o (tok o n) = n.val := by
  cases o
  · simp [pos, tok]
  · simp only [pos, tok, if_true]; omega

theorem pos_inj (o : Bool) {i j : Fin 256} (h : pos o i = pos o j) : i = j := by
  cases o <;> simp only [pos, if_true, Bool.false_eq_true, if_false] at h <;> apply Fin.ext <;> omega

theorem pos_lt (o : Bool) (i : Fin 256) : pos o i < 256 := by
  cases o <;> simp only [pos, if_true, Bool.false_eq_true, if_false] <;> omega

theorem tok_pos (o : Bool) (i : Fin 256) : tok o ⟨pos o i, pos_lt o i⟩ = i :=
  pos_inj o (pos_tok o _)

/-! ## The inverse of a triangular matrix, by blocks -/

/-- Every nonzero entry lies strictly before the row's token. -/
def Below (o : Bool) (L : Mat) : Prop := ∀ i j, L i j ≠ 0 → pos o j < pos o i

/-- The entries inside the diagonal blocks of side `s`, negated. -/
def negBlk (s : ℕ) (L : Mat) : Mat := fun i j => if i.val / s = j.val / s then 0 - L i j else 0

/-- The entries inside the diagonal blocks of side `s`. -/
def blk (s : ℕ) (L : Mat) : Mat := fun i j => if i.val / s = j.val / s then L i j else 0

/-- The entries inside the diagonal blocks of side `2 s` and outside those of side `s`. -/
def off (s : ℕ) (L : Mat) : Mat :=
  fun i j => if i.val / (2 * s) = j.val / (2 * s) ∧ ¬ i.val / s = j.val / s then L i j else 0

/-- The inverse of one plus the diagonal blocks of side 16: a product of four factors. -/
def inv16 (L : Mat) : Mat :=
  let n := negBlk 16 L
  let n2 := n * n
  let n4 := n2 * n2
  let n8 := n4 * n4
  let t0 := 1 + n
  let t1 := t0 + t0 * n2
  let t2 := t1 + t1 * n4
  t2 + t2 * n8

/-- From the inverse for the blocks of side `s` to the one for the blocks of side `2 s`. -/
def inv2 (s : ℕ) (L t : Mat) : Mat := t - t * (off s L * t)

/-- The inverse of one plus a strictly triangular matrix. -/
def inv (L : Mat) : Mat := inv2 128 L (inv2 64 L (inv2 32 L (inv2 16 L (inv16 L))))

/-- A matrix whose nonzero entries lie in the diagonal blocks of side `s`. -/
def Diag (s : ℕ) (t : Mat) : Prop := ∀ i j, t i j ≠ 0 → i.val / s = j.val / s

theorem Diag.add {s : ℕ} {a b : Mat} (ha : Diag s a) (hb : Diag s b) : Diag s (a + b) := fun i j h => by
  by_contra hc
  exact h (by
    have h1 : a i j = 0 := by by_contra h; exact hc (ha i j h)
    have h2 : b i j = 0 := by by_contra h; exact hc (hb i j h)
    rw [Matrix.add_apply, h1, h2, add_zero])

theorem Diag.sub {s : ℕ} {a b : Mat} (ha : Diag s a) (hb : Diag s b) : Diag s (a - b) := fun i j h => by
  by_contra hc
  exact h (by
    have h1 : a i j = 0 := by by_contra h; exact hc (ha i j h)
    have h2 : b i j = 0 := by by_contra h; exact hc (hb i j h)
    rw [Matrix.sub_apply, h1, h2, sub_zero])

theorem exists_of_mul_ne {a b : Mat} {i j : Fin 256} (h : (a * b) i j ≠ 0) : ∃ k, a i k ≠ 0 ∧ b k j ≠ 0 := by
  rw [Matrix.mul_apply] at h
  obtain ⟨k, -, hk⟩ := Finset.exists_ne_zero_of_sum_ne_zero h
  exact ⟨k, left_ne_zero_of_mul hk, right_ne_zero_of_mul hk⟩

theorem Diag.mul {s : ℕ} {a b : Mat} (ha : Diag s a) (hb : Diag s b) : Diag s (a * b) := fun i j h => by
  obtain ⟨k, h1, h2⟩ := exists_of_mul_ne h
  exact (ha i k h1).trans (hb k j h2)

theorem Diag.one (s : ℕ) : Diag s (1 : Mat) := fun i j h => by
  by_cases hij : i = j
  · rw [hij]
  · exact absurd (Matrix.one_apply_ne hij) h

theorem Diag.double {s : ℕ} {a : Mat} (ha : Diag s a) : Diag (2 * s) a := fun i j h => by
  rw [Nat.mul_comm, ← Nat.div_div_eq_div_mul, ← Nat.div_div_eq_div_mul, ha i j h]

theorem negBlk_diag (s : ℕ) (L : Mat) : Diag s (negBlk s L) := fun i j h => by
  by_contra hc; exact h (if_neg hc)

theorem off_diag (s : ℕ) (L : Mat) : Diag (2 * s) (off s L) := fun i j h => by
  by_contra hc; exact h (if_neg fun hh => hc hh.1)

theorem inv16_diag (L : Mat) : Diag 16 (inv16 L) := by
  have hn := negBlk_diag 16 L
  have h0 := (Diag.one 16).add hn
  have h1 := h0.add (h0.mul (hn.mul hn))
  have h2 := h1.add (h1.mul ((hn.mul hn).mul (hn.mul hn)))
  exact h2.add (h2.mul (((hn.mul hn).mul (hn.mul hn)).mul ((hn.mul hn).mul (hn.mul hn))))

theorem inv2_diag {s : ℕ} {L t : Mat} (ht : Diag s t) : Diag (2 * s) (inv2 s L t) :=
  ht.double.sub (ht.double.mul ((off_diag s L).mul ht.double))

/-- A strictly triangular matrix inside blocks of side 16 has a vanishing sixteenth power. -/
theorem pow_entry (o : Bool) {L : Mat} (hL : Below o L) (k : ℕ) (i j : Fin 256) (h : (negBlk 16 L ^ k) i j ≠ 0) :
    pos o j + k ≤ pos o i ∧ i.val / 16 = j.val / 16 := by
  induction k generalizing j with
  | zero =>
    by_cases hij : i = j
    · subst hij; exact ⟨le_refl _, rfl⟩
    · rw [pow_zero] at h; exact absurd (Matrix.one_apply_ne hij) h
  | succ k ih =>
    rw [pow_succ] at h
    obtain ⟨l, h1, h2⟩ := exists_of_mul_ne h
    obtain ⟨ha, hb⟩ := ih l h1
    have hc := negBlk_diag 16 L l j h2
    have hd : L l j ≠ 0 := by
      intro h0; apply h2; unfold negBlk; rw [h0, sub_zero, ite_self]
    have he := hL l j hd
    exact ⟨by omega, hb.trans hc⟩

theorem pow16 (o : Bool) {L : Mat} (hL : Below o L) : negBlk 16 L ^ 16 = 0 := by
  ext i j
  by_contra h
  obtain ⟨h1, h2⟩ := pow_entry o hL 16 i j h
  cases o <;> simp only [pos, if_true, Bool.false_eq_true, if_false] at h1 <;> omega

theorem blk_eq (s : ℕ) (L : Mat) : 1 + blk s L = 1 - negBlk s L := by
  ext i j
  simp only [Matrix.add_apply, Matrix.sub_apply, blk, negBlk]
  split_ifs <;> ring

theorem inv16_mul (o : Bool) {L : Mat} (hL : Below o L) : (1 + blk 16 L) * inv16 L = 1 := by
  rw [blk_eq]
  have h : (1 - negBlk 16 L) * inv16 L = 1 - negBlk 16 L ^ 16 := by
    unfold inv16
    dsimp only
    noncomm_ring
  rw [h, pow16 o hL, sub_zero]

theorem blk_double {s : ℕ} (L : Mat) : blk (2 * s) L = blk s L + off s L := by
  ext i j
  simp only [Matrix.add_apply, blk, off]
  by_cases h : i.val / s = j.val / s
  · have h2 : i.val / (2 * s) = j.val / (2 * s) := by
      rw [Nat.mul_comm, ← Nat.div_div_eq_div_mul, ← Nat.div_div_eq_div_mul, h]
    simp [h, h2]
  · simp [h]

/-- Between the halves of a block the triangular matrix only leads one way. -/
theorem off_off (o : Bool) {s : ℕ} {L t : Mat} (hL : Below o L) (ht : Diag s t) : off s L * (t * off s L) = 0 := by
  ext i l
  by_contra h
  obtain ⟨j, h1, h2⟩ := exists_of_mul_ne h
  obtain ⟨k, h3, h4⟩ := exists_of_mul_ne h2
  have hjk := ht j k h3
  have key : ∀ a b : Fin 256, off s L a b ≠ 0 →
      a.val / s / 2 = b.val / s / 2 ∧ ¬ a.val / s = b.val / s ∧ pos o b < pos o a := by
    intro a b hab
    have hc : a.val / (2 * s) = b.val / (2 * s) ∧ ¬ a.val / s = b.val / s := by
      by_contra hc; exact hab (if_neg hc)
    have hd : L a b ≠ 0 := by
      intro h0; apply hab; unfold off; rw [h0, ite_self]
    refine ⟨?_, hc.2, hL a b hd⟩
    have := hc.1
    rwa [Nat.mul_comm, ← Nat.div_div_eq_div_mul, ← Nat.div_div_eq_div_mul] at this
  obtain ⟨a1, a2, a3⟩ := key i j h1
  obtain ⟨b1, b2, b3⟩ := key k l h4
  cases o <;> simp only [pos, if_true, Bool.false_eq_true, if_false] at a3 b3
  · have c1 : j.val / s ≤ i.val / s := Nat.div_le_div_right (by omega)
    have c2 : l.val / s ≤ k.val / s := Nat.div_le_div_right (by omega)
    omega
  · have c1 : i.val / s ≤ j.val / s := Nat.div_le_div_right (by omega)
    have c2 : k.val / s ≤ l.val / s := Nat.div_le_div_right (by omega)
    omega

theorem inv2_mul (o : Bool) {s : ℕ} {L t : Mat} (hL : Below o L) (ht : Diag s t) (h : (1 + blk s L) * t = 1) :
    (1 + blk (2 * s) L) * inv2 s L t = 1 := by
  have e : (1 + blk (2 * s) L) * inv2 s L t
      = (1 + blk s L) * t + off s L * t - ((1 + blk s L) * t) * (off s L * t)
        - (off s L * (t * off s L)) * t := by
    rw [blk_double, inv2]
    noncomm_ring
  rw [e, h, off_off o hL ht]
  noncomm_ring

/-- The matrix built block by block is the inverse. -/
theorem inv_mul (o : Bool) {L : Mat} (hL : Below o L) : (1 + L) * inv L = 1 := by
  have d0 := inv16_diag L
  have d1 := inv2_diag (L := L) d0
  have d2 := inv2_diag (L := L) d1
  have d3 := inv2_diag (L := L) d2
  have h := inv2_mul o hL d3 (inv2_mul o hL d2 (inv2_mul o hL d1 (inv2_mul o hL d0 (inv16_mul o hL))))
  have hb : blk (2 * (2 * (2 * (2 * 16)))) L = L := by
    ext i j
    unfold blk
    rw [if_pos]
    omega
  rw [hb] at h
  exact h

/-! ## The recurrence and its closed form -/

section

variable (o : Bool) (q k v : Fin 256 → Fin 128 → ℝ) (g β : Fin 256 → ℝ)

/-- The logarithm of the decay up to and with token `i`. -/
def cum (i : Fin 256) : ℝ := ∑ j, if pos o j ≤ pos o i then g j else 0

/-- The logarithm of the decay over the first `n` places. -/
def cumN (n : ℕ) : ℝ := ∑ j, if pos o j < n then g j else 0

/-- The triangular system's matrix: the decayed products of keys, scaled by the row's writing strength. -/
def low : Mat := fun i j => if pos o j < pos o i then β i * (∑ e, k i e * k j e) * Real.exp (cum o g i - cum o g j) else 0

/-- The decayed products of a query with the keys seen so far. -/
def att : Mat := fun i j => if pos o j ≤ pos o i then (∑ e, q i e * k j e) * Real.exp (cum o g i - cum o g j) else 0

/-- The vectors written into the state, from the inverse of the system. -/
def upd (i : Fin 256) (d : Fin 128) : ℝ := ∑ j, inv (low o k g β) i j * (v j d * β j)

/-- The outputs in closed form. -/
def outc (i : Fin 256) (d : Fin 128) : ℝ := ∑ j, att o q k g i j * upd o k v g β j d

/-- The last state in closed form. -/
def fin (e d : Fin 128) : ℝ := ∑ i, k i e * Real.exp (cumN o g 256 - cum o g i) * upd o k v g β i d

/-- The state before place `n`, token after token: it decays, is read at the key, and the scaled difference to the value
    is written at the key. -/
def st : ℕ → Fin 128 → Fin 128 → ℝ
  | 0 => fun _ _ => 0
  | n + 1 => fun e d =>
    if h : n < 256 then
      let i := tok o ⟨n, h⟩
      st n e d * Real.exp (g i)
        + k i e * ((v i d - ∑ e', k i e' * (st n e' d * Real.exp (g i))) * β i)
    else 0

theorem low_below : Below o (low o k g β) := fun i j h => by
  by_contra hc; exact h (if_neg hc)

theorem upd_eq (i : Fin 256) (d : Fin 128) :
    upd o k v g β i d = v i d * β i - ∑ j, low o k g β i j * upd o k v g β j d := by
  have h := inv_mul o (low_below o k g β)
  let w : Matrix (Fin 256) (Fin 128) ℝ := fun j d => v j d * β j
  have h2 : ((1 + low o k g β) * inv (low o k g β) * w : Matrix (Fin 256) (Fin 128) ℝ) i d = v i d * β i := by rw [h, Matrix.one_mul]
  rw [Matrix.mul_assoc, Matrix.add_mul, Matrix.one_mul, Matrix.add_apply] at h2
  have e1 : ∀ a b, (inv (low o k g β) * w) a b = upd o k v g β a b := fun a b => rfl
  rw [Matrix.mul_apply (M := low o k g β)] at h2
  simp only [e1] at h2
  linarith

theorem cum_eq (i : Fin 256) : cum o g i = cumN o g (pos o i + 1) := by
  unfold cum cumN
  exact Finset.sum_congr rfl fun j _ => by simp only [Nat.lt_succ_iff]

/-- A sum over the places before `n + 1` is the sum over those before `n` and the term at place `n`. -/
theorem sum_place (n : ℕ) (h : n < 256) (f : Fin 256 → ℝ) :
    (∑ j, if pos o j < n + 1 then f j else 0) = (∑ j, if pos o j < n then f j else 0) + f (tok o ⟨n, h⟩) := by
  have hp := pos_tok o ⟨n, h⟩
  have e : ∀ j, (if pos o j < n + 1 then f j else 0)
      = (if pos o j < n then f j else 0) + (if j = tok o ⟨n, h⟩ then f j else 0) := by
    intro j
    by_cases hj : j = tok o ⟨n, h⟩
    · subst hj; rw [hp]; simp
    · have hne : pos o j ≠ n := fun hh => hj (pos_inj o (hh.trans hp.symm))
      by_cases h1 : pos o j < n
      · rw [if_pos (by omega), if_pos h1, if_neg hj, add_zero]
      · rw [if_neg (by omega), if_neg h1, if_neg hj, add_zero]
  rw [Finset.sum_congr rfl fun j _ => e j, Finset.sum_add_distrib, Finset.sum_ite_eq' Finset.univ, if_pos (Finset.mem_univ _)]

theorem cumN_succ (n : ℕ) (h : n < 256) : cumN o g (n + 1) = cumN o g n + g (tok o ⟨n, h⟩) := sum_place o n h g

/-- The state in closed form: the decayed outer products of the keys with the vectors written. -/
theorem st_eq (n : ℕ) (hn : n ≤ 256) (e d : Fin 128) :
    st o k v g β n e d
      = ∑ j, if pos o j < n then Real.exp (cumN o g n - cum o g j) * (k j e * upd o k v g β j d) else 0 := by
  induction n generalizing e d with
  | zero => simp [st]
  | succ n ih =>
    have h : n < 256 := hn
    have hp : pos o (tok o ⟨n, h⟩) = n := pos_tok o ⟨n, h⟩
    have hc : cum o g (tok o ⟨n, h⟩) = cumN o g (n + 1) := by rw [cum_eq, hp]
    have hdec : ∀ e', st o k v g β n e' d * Real.exp (g (tok o ⟨n, h⟩))
        = ∑ j, if pos o j < n then Real.exp (cumN o g (n + 1) - cum o g j) * (k j e' * upd o k v g β j d) else 0 := by
      intro e'
      rw [ih (by omega) e' d, Finset.sum_mul]
      refine Finset.sum_congr rfl fun j _ => ?_
      by_cases hj : pos o j < n
      · rw [if_pos hj, if_pos hj, cumN_succ o g n h, add_sub_right_comm, Real.exp_add]; ring
      · rw [if_neg hj, if_neg hj, zero_mul]
    have hu : (v (tok o ⟨n, h⟩) d - ∑ e', k (tok o ⟨n, h⟩) e' * (st o k v g β n e' d * Real.exp (g (tok o ⟨n, h⟩))))
          * β (tok o ⟨n, h⟩) = upd o k v g β (tok o ⟨n, h⟩) d := by
      rw [upd_eq, sub_mul]
      congr 1
      rw [Finset.sum_congr rfl fun e' _ => by rw [hdec e', Finset.mul_sum], Finset.sum_comm, Finset.sum_mul]
      refine Finset.sum_congr rfl fun j _ => ?_
      unfold low
      rw [hp]
      by_cases hj : pos o j < n
      · simp only [if_pos hj]
        rw [hc, Finset.mul_sum, Finset.sum_mul, Finset.sum_mul, Finset.sum_mul]
        exact Finset.sum_congr rfl fun e' _ => by ring
      · simp only [if_neg hj, mul_zero, Finset.sum_const_zero, zero_mul]
    rw [st]
    dsimp only
    rw [dif_pos h]
    rw [hu, hdec e, sum_place o n h, hc, sub_self, Real.exp_zero, one_mul]

/-- The last state of the recurrence is the closed form's. -/
theorem st_last (e d : Fin 128) : st o k v g β 256 e d = fin o k v g β e d := by
  rw [st_eq o k v g β 256 (le_refl _)]
  unfold fin
  refine Finset.sum_congr rfl fun j _ => ?_
  rw [if_pos (pos_lt o j)]; ring

/-- The output read from the state after a token is the closed form's. -/
theorem out_eq (n : ℕ) (h : n < 256) (d : Fin 128) :
    (∑ e, q (tok o ⟨n, h⟩) e * st o k v g β (n + 1) e d) = outc o q k v g β (tok o ⟨n, h⟩) d := by
  have hp : pos o (tok o ⟨n, h⟩) = n := pos_tok o ⟨n, h⟩
  have hc : cum o g (tok o ⟨n, h⟩) = cumN o g (n + 1) := by rw [cum_eq, hp]
  unfold outc
  rw [Finset.sum_congr rfl fun e _ => by rw [st_eq o k v g β (n + 1) h, Finset.mul_sum], Finset.sum_comm]
  refine Finset.sum_congr rfl fun j _ => ?_
  unfold att
  rw [hp, hc]
  by_cases hj : pos o j ≤ n
  · simp only [if_pos (Nat.lt_succ_of_le hj), if_pos hj]
    rw [Finset.sum_mul, Finset.sum_mul]
    exact Finset.sum_congr rfl fun e _ => by ring
  · simp only [if_neg (fun hh => hj (Nat.lt_succ_iff.mp hh)), if_neg hj, mul_zero, Finset.sum_const_zero, zero_mul]

end

end Cert.DeltaMath

end
-- ==== Proof.DeltaForm.lean ====
/-
  The kernel's chunk of 256 tokens, read as real matrices: masks on token numbers, and the vector operations on
  matrices whose entries are real numbers.
-/
module

public import proofs.«01_k».proof.Proof.Gen.DeltaIdeal.Skeleton
public import proofs.«01_k».proof.Proof.DeltaMath
public import Idealize.ShloMosaic.Lib.Pointwise

@[expose] public section

noncomputable section

open Idealize.ShloMosaic Idealize.ShloMosaic.TcCoe Idealize.SL.Sem

namespace Cert.DeltaIdeal.Form

open Cert.DeltaIdeal Cert.DeltaIdeal.Gen Cert.DeltaMath

/-- A finite sum of real numbers, as extended real numbers. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## Masks on token numbers -/

theorem toInt_small (n : ℕ) (h : n < 256) : (BitVec.ofNat 32 n).toInt = (n : ℤ) := by
  have h1 : (BitVec.ofNat 32 n).toNat = n := by rw [BitVec.toNat_ofNat]; omega
  rw [BitVec.toInt_eq_toNat_of_lt (by rw [h1]; omega), h1]

theorem shr_tok (i : Fin 256) (s : ℕ) :
    (BitVec.ofNat 32 i.val).sshiftRight s = BitVec.ofNat 32 (i.val / 2 ^ s) := by
  apply BitVec.eq_of_toInt_eq
  have h1 : i.val / 2 ^ s < 256 := lt_of_le_of_lt (Nat.div_le_self _ _) i.isLt
  rw [BitVec.toInt_sshiftRight, toInt_small _ i.isLt, toInt_small _ h1, Int.shiftRight_eq_div_pow]
  exact (Int.natCast_div _ _).symm

theorem ofNat_eq {a b : ℕ} (ha : a < 256) (hb : b < 256) : (BitVec.ofNat 32 a = BitVec.ofNat 32 b) ↔ a = b := by
  constructor
  · intro h
    have := congrArg BitVec.toNat h
    simp only [BitVec.toNat_ofNat] at this
    omega
  · intro h; rw [h]

theorem sel_ofBool {p : Prop} [Decidable p] (b : Bool) (h : b = true ↔ p) {α : Type} (x y : α) :
    Scalar.select (BitVec.ofBool b) x y = if p then x else y := by
  unfold Scalar.select
  by_cases hp : p
  · rw [if_pos hp, h.mpr hp]; rfl
  · have : b = false := by simpa using fun hb => hp (h.mp hb)
    rw [if_neg hp, this]; rfl

section

variable {α : Type} (i j : Fin 256) (x y : α)

theorem sel_sge : Scalar.select (IntOp.cmpi CmpIPredicate.sge (BitVec.ofNat 32 i.val) (BitVec.ofNat 32 j.val)) x y
    = if j.val ≤ i.val then x else y :=
  sel_ofBool _ (by rw [BitVec.sle_iff_toInt_le, toInt_small _ i.isLt, toInt_small _ j.isLt]; omega) x y

theorem sel_sgt : Scalar.select (IntOp.cmpi CmpIPredicate.sgt (BitVec.ofNat 32 i.val) (BitVec.ofNat 32 j.val)) x y
    = if j.val < i.val then x else y :=
  sel_ofBool _ (by rw [BitVec.slt_iff_toInt_lt, toInt_small _ i.isLt, toInt_small _ j.isLt]; omega) x y

theorem sel_sle : Scalar.select (IntOp.cmpi CmpIPredicate.sle (BitVec.ofNat 32 i.val) (BitVec.ofNat 32 j.val)) x y
    = if i.val ≤ j.val then x else y :=
  sel_ofBool _ (by rw [BitVec.sle_iff_toInt_le, toInt_small _ i.isLt, toInt_small _ j.isLt]; omega) x y

theorem sel_slt : Scalar.select (IntOp.cmpi CmpIPredicate.slt (BitVec.ofNat 32 i.val) (BitVec.ofNat 32 j.val)) x y
    = if i.val < j.val then x else y :=
  sel_ofBool _ (by rw [BitVec.slt_iff_toInt_lt, toInt_small _ i.isLt, toInt_small _ j.isLt]; omega) x y

theorem sel_eq : Scalar.select (IntOp.cmpi CmpIPredicate.eq (BitVec.ofNat 32 i.val) (BitVec.ofNat 32 j.val)) x y
    = if i = j then x else y :=
  sel_ofBool _ (by rw [beq_iff_eq, ofNat_eq i.isLt j.isLt, Fin.ext_iff]) x y

theorem shr_val (u : ArithUnit) (s : ℕ) (hs : s < 32) :
    IntOp.shrsi u (BitVec.ofNat 32 i.val) (BitVec.ofNat 32 s) = BitVec.ofNat 32 (i.val / 2 ^ s) := by
  have h1 : (BitVec.ofNat 32 s).toNat = s := by rw [BitVec.toNat_ofNat]; omega
  unfold IntOp.shrsi
  rw [h1, if_pos hs, BitVec.sshiftRight', h1, shr_tok]

theorem div_lt (s : ℕ) : i.val / s < 256 := lt_of_le_of_lt (Nat.div_le_self _ _) i.isLt

theorem sel_blk (u u' : ArithUnit) (s : ℕ) (hs : s < 32) :
    Scalar.select (IntOp.cmpi CmpIPredicate.eq (IntOp.shrsi u (BitVec.ofNat 32 i.val) (BitVec.ofNat 32 s))
      (IntOp.shrsi u' (BitVec.ofNat 32 j.val) (BitVec.ofNat 32 s))) x y
    = if i.val / 2 ^ s = j.val / 2 ^ s then x else y := by
  rw [shr_val i u s hs, shr_val j u' s hs]
  exact sel_ofBool _ (by rw [beq_iff_eq, ofNat_eq (div_lt i _) (div_lt j _)]) x y

theorem sel_off (u u' w w' : ArithUnit) (s r : ℕ) (hs : s < 32) (hr : r < 32) :
    Scalar.select (IntOp.andi (IntOp.cmpi CmpIPredicate.eq (IntOp.shrsi u (BitVec.ofNat 32 i.val) (BitVec.ofNat 32 s))
        (IntOp.shrsi u' (BitVec.ofNat 32 j.val) (BitVec.ofNat 32 s)))
      (IntOp.cmpi CmpIPredicate.ne (IntOp.shrsi w (BitVec.ofNat 32 i.val) (BitVec.ofNat 32 r))
        (IntOp.shrsi w' (BitVec.ofNat 32 j.val) (BitVec.ofNat 32 r)))) x y
    = if i.val / 2 ^ s = j.val / 2 ^ s ∧ ¬ i.val / 2 ^ r = j.val / 2 ^ r then x else y := by
  rw [shr_val i u s hs, shr_val j u' s hs, shr_val i w r hr, shr_val j w' r hr]
  have e : IntOp.andi (IntOp.cmpi CmpIPredicate.eq (BitVec.ofNat 32 (i.val / 2 ^ s)) (BitVec.ofNat 32 (j.val / 2 ^ s)))
      (IntOp.cmpi CmpIPredicate.ne (BitVec.ofNat 32 (i.val / 2 ^ r)) (BitVec.ofNat 32 (j.val / 2 ^ r)))
      = BitVec.ofBool ((BitVec.ofNat 32 (i.val / 2 ^ s) == BitVec.ofNat 32 (j.val / 2 ^ s))
          && (BitVec.ofNat 32 (i.val / 2 ^ r) != BitVec.ofNat 32 (j.val / 2 ^ r))) := by
    unfold IntOp.andi IntOp.cmpi
    dsimp only
    generalize (BitVec.ofNat 32 (i.val / 2 ^ s) == BitVec.ofNat 32 (j.val / 2 ^ s)) = a
    generalize (BitVec.ofNat 32 (i.val / 2 ^ r) != BitVec.ofNat 32 (j.val / 2 ^ r)) = b
    cases a <;> cases b <;> rfl
  rw [e]
  exact sel_ofBool _ (by rw [Bool.and_eq_true, beq_iff_eq, bne_iff_ne, ne_eq, ofNat_eq (div_lt i _) (div_lt j _),
    ofNat_eq (div_lt i _) (div_lt j _)]) x y

end

/-! ## Matrices whose entries are real numbers -/

/-- A square of extended reals over the tokens holds a real matrix. -/
def RepM {φ : FTy} (X : FVec Ideal S256x256 φ) (M : Mat) : Prop := ∀ i j : Fin 256, X (ix2 i j) = ((M i j : ℝ) : EReal)

/-- The tokens' rows of 128 extended reals hold real numbers. -/
def RepW {φ : FTy} (X : FVec Ideal S256x128 φ) (M : Fin 256 → Fin 128 → ℝ) : Prop :=
  ∀ (i : Fin 256) (e : Fin 128), X (ix2 i e) = ((M i e : ℝ) : EReal)

/-- One extended real per token holds a real number. -/
def RepC {φ : FTy} (X : FVec Ideal S256x1 φ) (g : Fin 256 → ℝ) : Prop :=
  ∀ (i : Fin 256) (z : Fin 1), X (ix2 i z) = ((g i : ℝ) : EReal)

/-- The row's token number. -/
abbrev ri : IVec S256x256 32 := iota .tc S256x256 32 [0] iota_S256x256_d0_w32
/-- The column's token number. -/
abbrev ci : IVec S256x256 32 := iota .tc S256x256 32 [1] iota_S256x256_d1_w32

theorem coe_ite (p : Prop) [Decidable p] (x y : ℝ) : (((if p then x else y : ℝ)) : EReal) = if p then (x : EReal) else (y : EReal) := by
  split_ifs <;> rfl

variable {X Y : FVec Ideal S256x256 .f32} {M N : Mat}

theorem RepM.add (hX : RepM X M) (hY : RepM Y N) : RepM (addf X Y) (M + N) := fun i j => by
  pointwise
  rw [hX, hY, Matrix.add_apply, EReal.coe_add]

theorem RepM.sub (hX : RepM X M) (hY : RepM Y N) : RepM (subf X Y) (M - N) := fun i j => by
  pointwise
  rw [hX, hY, Matrix.sub_apply, EReal.coe_sub]

theorem RepM.mm (hX : RepM X M) (hY : RepM Y N) :
    RepM (matmul dot_S256x256_S256x256_S256x256_1_0_0_1_n_n none (truncf .bf16 X bitsLt_bf16_f32)
      (truncf .bf16 Y bitsLt_bf16_f32) (constant S256x256 .f32 0x00000000#32)) (M * N) := fun i j => by
  pointwise
  rw [Matrix.mul_apply, coe_sum]
  exact Finset.sum_congr rfl fun k _ => by rw [hX, hY, EReal.coe_mul]

theorem rep_one : RepM (k0_pay24 (F := Ideal) ri ci) 1 := fun i j => by
  pointwise [k0_pay24]
  rw [sel_eq, Matrix.one_apply, coe_ite]
  rfl

theorem RepM.neg (hX : RepM X M) : RepM (select (k0_pay25 ri ci) (subf (k0_pay26 (F := Ideal)) X)
    (broadcast S256x256 (Scalar.ofBits (F := Ideal) .f32 0x00000000#32))) (negBlk 16 M) := fun i j => by
  pointwise [k0_pay25, k0_pay26]
  rw [sel_blk i j _ _ _ _ 4 (by decide), hX]
  unfold negBlk
  rw [coe_ite, EReal.coe_sub]
  rfl

theorem RepM.off4 (hX : RepM X M) : RepM (select (andi (cmpi .eq (shrsi ri (broadcast S256x256 5#32)) (shrsi ci (broadcast S256x256 5#32)))
      (cmpi .ne (shrsi ri (broadcast S256x256 4#32)) (shrsi ci (broadcast S256x256 4#32)))) X
    (broadcast S256x256 (Scalar.ofBits (F := Ideal) .f32 0x00000000#32))) (off 16 M) := fun i j => by
  pointwise
  rw [sel_off i j _ _ _ _ _ _ 5 4 (by decide) (by decide), hX]
  unfold off
  rw [coe_ite]
  rfl

theorem RepM.off5 (hX : RepM X M) : RepM (select (andi (cmpi .eq (shrsi ri (broadcast S256x256 6#32)) (shrsi ci (broadcast S256x256 6#32)))
      (cmpi .ne (shrsi ri (broadcast S256x256 5#32)) (shrsi ci (broadcast S256x256 5#32)))) X
    (broadcast S256x256 (Scalar.ofBits (F := Ideal) .f32 0x00000000#32))) (off 32 M) := fun i j => by
  pointwise
  rw [sel_off i j _ _ _ _ _ _ 6 5 (by decide) (by decide), hX]
  unfold off
  rw [coe_ite]
  rfl

theorem RepM.off6 (hX : RepM X M) : RepM (select (andi (cmpi .eq (shrsi ri (broadcast S256x256 7#32)) (shrsi ci (broadcast S256x256 7#32)))
      (cmpi .ne (shrsi ri (broadcast S256x256 6#32)) (shrsi ci (broadcast S256x256 6#32)))) X
    (broadcast S256x256 (Scalar.ofBits (F := Ideal) .f32 0x00000000#32))) (off 64 M) := fun i j => by
  pointwise
  rw [sel_off i j _ _ _ _ _ _ 7 6 (by decide) (by decide), hX]
  unfold off
  rw [coe_ite]
  rfl

theorem RepM.off7 (hX : RepM X M) : RepM (select (andi (cmpi .eq (shrsi ri (broadcast S256x256 8#32)) (shrsi ci (broadcast S256x256 8#32)))
      (cmpi .ne (shrsi ri (broadcast S256x256 7#32)) (shrsi ci (broadcast S256x256 7#32)))) X
    (broadcast S256x256 (Scalar.ofBits (F := Ideal) .f32 0x00000000#32))) (off 128 M) := fun i j => by
  pointwise
  rw [sel_off i j _ _ _ _ _ _ 8 7 (by decide) (by decide), hX]
  unfold off
  rw [coe_ite]
  rfl

/-! ## The forward order -/

/-- The first levels of the inverse. -/
theorem fwd16 (hX : RepM X M) :
    RepM (k0_pay27 ri ci X (k0_pay24 ri ci) (k0_pay25 ri ci) k0_pay26) (inv2 16 M (inv16 M)) := by
  have n := hX.neg
  have n2 := n.mm n
  have n4 := n2.mm n2
  have n8 := n4.mm n4
  have t0 := rep_one.add n
  have t1 := t0.add (t0.mm n2)
  have t2 := t1.add (t1.mm n4)
  have t3 := t2.add (t2.mm n8)
  exact t3.sub (t3.mm (hX.off4.mm t3))

/-- The next two levels. -/
theorem fwd64 (hX : RepM X M) (hY : RepM Y N) :
    RepM (k0_pay28 ri ci X Y 6#32) (inv2 64 M (inv2 32 M N)) := by
  have t := hY.sub (hY.mm (hX.off5.mm hY))
  exact t.sub (t.mm (hX.off6.mm t))

/-- The vectors written, from the inverse. -/
theorem fwdU (hX : RepM X M) (hY : RepM Y N) {K V : FVec Ideal S256x128 .f32} {gc b : FVec Ideal S256x1 .f32}
    {v : Fin 256 → Fin 128 → ℝ} {β : Fin 256 → ℝ} (hV : RepW V v) (hb : RepC b β) :
    RepW (k0_pay30 ri ci K V gc b X Y (k0_pay29 ri ci)) (fun i d => ∑ j, inv2 128 M N i j * (v j d * β j)) := by
  have t := hY.sub (hY.mm (hX.off7.mm hY))
  intro i d
  refine Eq.trans (b := ∑ j : Fin 256, (subf Y (matmul dot_S256x256_S256x256_S256x256_1_0_0_1_n_n none (truncf .bf16 Y bitsLt_bf16_f32)
      (truncf .bf16 (matmul dot_S256x256_S256x256_S256x256_1_0_0_1_n_n none (truncf .bf16 (select (andi (cmpi .eq (shrsi ri (broadcast S256x256 8#32)) (shrsi ci (broadcast S256x256 8#32)))
      (cmpi .ne (shrsi ri (broadcast S256x256 7#32)) (shrsi ci (broadcast S256x256 7#32)))) X
    (broadcast S256x256 (Scalar.ofBits (F := Ideal) .f32 0x00000000#32))) bitsLt_bf16_f32) (truncf .bf16 Y bitsLt_bf16_f32) (constant S256x256 .f32 0x00000000#32)) bitsLt_bf16_f32) (constant S256x256 .f32 0x00000000#32)))
      (ix2 i j) * (V (ix2 j d) * b (ix2 j 0))) ?_ ?_
  · unfold k0_pay30 k0_pay29
    dsimp only
    generalize subf Y _ = T
    pointwise
  · rw [coe_sum]
    exact Finset.sum_congr rfl fun j _ => by rw [t i j, hV, hb, ← EReal.coe_mul, ← EReal.coe_mul]; rfl

theorem ofBits_bot : Ideal.ofBits FTy.f32 0xFF800000#32 = ⊥ := by simp [Ideal.ofBits, Ideal.ieee]

theorem exp_mask (p : Prop) [Decidable p] (a b : ℝ) :
    Ideal.exp (if p then ((a : ℝ) : EReal) - ((b : ℝ) : EReal) else Ideal.ofBits FTy.f32 0xFF800000#32)
      = ((if p then Real.exp (a - b) else 0 : ℝ) : EReal) := by
  split_ifs
  · rw [← EReal.coe_sub, Ideal.exp_coe]
  · rw [ofBits_bot, Ideal.exp_bot, EReal.coe_zero]

/-- The decay factors from each token to each later one. -/
def dec (o : Bool) (g : Fin 256 → ℝ) : Mat :=
  fun i j => if pos o j ≤ pos o i then Real.exp (cum o g i - cum o g j) else 0

theorem low_dec (o : Bool) (k : Fin 256 → Fin 128 → ℝ) (g β : Fin 256 → ℝ) (i j : Fin 256) :
    low o k g β i j = if pos o j < pos o i then β i * (∑ e, k i e * k j e) * dec o g i j else 0 := by
  unfold low dec
  split_ifs with h h2
  · rfl
  · exact absurd (le_of_lt h) h2
  · rfl

theorem att_dec (o : Bool) (q k : Fin 256 → Fin 128 → ℝ) (g : Fin 256 → ℝ) (i j : Fin 256) :
    att o q k g i j = (∑ e, q i e * k j e) * dec o g i j := by
  unfold att dec
  split_ifs
  · rfl
  · rw [mul_zero]

theorem cum_last (o : Bool) (g : Fin 256 → ℝ) : cumN o g 256 = cum o g (tok o 255) := by
  rw [cum_eq, pos_tok]; rfl

section

variable {G K Q V : FVec Ideal S256x128 .f32} {g β : Fin 256 → ℝ} {k q v : Fin 256 → Fin 128 → ℝ}

/-- The logarithm of the decay up to each token. -/
theorem fwdCum (hg : ∀ i, G (ix2 i 0) = ((g i : ℝ) : EReal)) :
    RepC (k0_pay19 (k0_pay15 (F := Ideal)) G) (cum false g) := by
  intro i z
  pointwise [k0_pay19, k0_pay18, k0_pay15]
  unfold cum
  rw [coe_sum]
  refine Finset.sum_congr rfl fun j _ => ?_
  rw [sel_sge, hg]
  unfold pos
  simp only [Bool.false_eq_true, if_false]
  split_ifs <;> simp

theorem fwdDec (hg : ∀ i, G (ix2 i 0) = ((g i : ℝ) : EReal)) :
    RepM (k0_pay21 ri ci (k0_pay15 (F := Ideal)) G) (dec false g) := by
  have h := fwdCum hg
  intro i j
  have h1 := h i 0
  have h2 := h j 0
  unfold k0_pay19 at h1 h2
  unfold k0_pay21 k0_pay19
  generalize k0_pay18 (F := Ideal) _ _ = W at *
  pointwise at h1
  pointwise at h2
  pointwise
  rw [sel_sge, h1, h2]
  exact exp_mask _ _ _

/-- The triangular system's matrix. -/
theorem fwdLow (hg : ∀ i, G (ix2 i 0) = ((g i : ℝ) : EReal)) (hb : ∀ i, G (ix2 i 2) = ((β i : ℝ) : EReal))
    (hk : RepW K k) : RepM (k0_pay22 ri ci (k0_pay15 (F := Ideal)) K G) (low false k g β) := by
  have h := fwdDec hg
  intro i j
  have h1 := h i j
  unfold k0_pay22 k0_pay20
  generalize k0_pay21 (F := Ideal) _ _ _ _ = W at *
  pointwise
  rw [sel_sgt, h1, hb, low_dec, coe_ite]
  simp only [hk _ _, ← EReal.coe_mul, ← coe_sum]
  rfl

/-- The decayed products of queries and keys. -/
theorem fwdAtt (hg : ∀ i, G (ix2 i 0) = ((g i : ℝ) : EReal)) (hq : RepW Q q)
    (hk : RepW K k) : RepM (k0_pay23 ri ci (k0_pay15 (F := Ideal)) Q K G) (att false q k g) := by
  have h := fwdDec hg
  intro i j
  have h1 := h i j
  unfold k0_pay23
  generalize k0_pay21 (F := Ideal) _ _ _ _ = W at *
  pointwise
  rw [h1, att_dec]
  simp only [hq _ _, hk _ _, ← EReal.coe_mul, ← coe_sum]

/-- The whole inverse but its last level. -/
abbrev fwdT (G K : FVec Ideal S256x128 .f32) : FVec Ideal S256x256 .f32 :=
  k0_pay28 ri ci (k0_pay22 ri ci (k0_pay15 (F := Ideal)) K G)
    (k0_pay27 ri ci (k0_pay22 ri ci (k0_pay15 (F := Ideal)) K G) (k0_pay24 ri ci) (k0_pay25 ri ci) k0_pay26) 6#32

/-- The vectors written into the forward state. -/
theorem fwdUpd (hg : ∀ i, G (ix2 i 0) = ((g i : ℝ) : EReal)) (hb : ∀ i, G (ix2 i 2) = ((β i : ℝ) : EReal))
    (hk : RepW K k) (hv : RepW V v) :
    RepW (k0_pay30 ri ci K V (k0_pay19 (k0_pay15 (F := Ideal)) G) (k0_pay20 G)
      (k0_pay22 ri ci (k0_pay15 (F := Ideal)) K G) (fwdT G K) (k0_pay29 ri ci)) (upd false k v g β) := by
  have hL := fwdLow hg hb hk
  have hbc : RepC (k0_pay20 G) β := fun i z => by
    pointwise [k0_pay20]
    exact hb i
  exact fwdU hL (fwd64 hL (fwd16 hL)) hv hbc

/-- The forward outputs. -/
theorem fwdOut (hg : ∀ i, G (ix2 i 0) = ((g i : ℝ) : EReal)) (hb : ∀ i, G (ix2 i 2) = ((β i : ℝ) : EReal))
    (hq : RepW Q q) (hk : RepW K k) (hv : RepW V v) :
    RepW (k0_pay31 ri ci K V (k0_pay19 (k0_pay15 (F := Ideal)) G) (k0_pay20 G)
      (k0_pay22 ri ci (k0_pay15 (F := Ideal)) K G) (k0_pay23 ri ci (k0_pay15 (F := Ideal)) Q K G) (fwdT G K) (k0_pay29 ri ci))
      (outc false q k v g β) := by
  have hU := fwdUpd hg hb hk hv
  have hA := fwdAtt hg hq hk
  intro i d
  unfold k0_pay31
  generalize k0_pay30 (F := Ideal) _ _ _ _ _ _ _ _ _ = U at *
  generalize k0_pay23 (F := Ideal) _ _ _ _ _ _ = A at *
  pointwise
  unfold outc
  rw [coe_sum]
  exact Finset.sum_congr rfl fun j _ => by rw [hA, hU, EReal.coe_mul]

/-- The last forward state. -/
theorem fwdFin (hg : ∀ i, G (ix2 i 0) = ((g i : ℝ) : EReal)) (hb : ∀ i, G (ix2 i 2) = ((β i : ℝ) : EReal))
    (hk : RepW K k) (hv : RepW V v) (e d : Fin 128) :
    k0_pay32 ri ci K V (k0_pay19 (k0_pay15 (F := Ideal)) G) (k0_pay20 G)
      (k0_pay22 ri ci (k0_pay15 (F := Ideal)) K G) (fwdT G K) (k0_pay29 ri ci) (ix2 e d)
      = ((fin false k v g β e d : ℝ) : EReal) := by
  have hU := fwdUpd hg hb hk hv
  have hC := fwdCum hg
  unfold k0_pay32
  generalize k0_pay30 (F := Ideal) _ _ _ _ _ _ _ _ _ = U at *
  generalize k0_pay19 (F := Ideal) _ _ = C at *
  pointwise
  unfold fin
  rw [coe_sum]
  refine Finset.sum_congr rfl fun j _ => ?_
  rw [hU, hk, hC, hC, cum_last, ← EReal.coe_sub, Ideal.exp_coe, ← EReal.coe_mul, ← EReal.coe_mul]
  rfl

/-! ## The backward order -/

/-- The matrix of ones on and above the diagonal. -/
abbrev up : FVec Ideal S256x256 .f32 :=
  k0_pay17 k0_pay16 (Scalar.ofBits (F := Ideal) .f32 0x3F800000#32) (Scalar.ofBits (F := Ideal) .f32 0x00000000#32)

theorem pos_back_le (i j : Fin 256) : (pos true j ≤ pos true i) ↔ i.val ≤ j.val := by
  simp only [pos, if_true]; omega

theorem pos_back_lt (i j : Fin 256) : (pos true j < pos true i) ↔ i.val < j.val := by
  simp only [pos, if_true]; omega

/-- The logarithm of the decay from the end back to each token. -/
theorem bwdCum (hg : ∀ i, G (ix2 i 1) = ((g i : ℝ) : EReal)) :
    RepC (k0_pay35 up G) (cum true g) := by
  intro i z
  pointwise [k0_pay35, k0_pay34, k0_pay17, k0_pay16]
  unfold cum
  rw [coe_sum]
  refine Finset.sum_congr rfl fun j _ => ?_
  rw [sel_sle, hg]
  simp only [pos_back_le]
  split_ifs <;> simp

theorem bwdDec (hg : ∀ i, G (ix2 i 1) = ((g i : ℝ) : EReal)) :
    RepM (k0_pay37 ri ci up G) (dec true g) := by
  have h := bwdCum hg
  intro i j
  have h1 := h i 0
  have h2 := h j 0
  unfold k0_pay35 at h1 h2
  unfold k0_pay37 k0_pay35
  generalize k0_pay34 (F := Ideal) _ _ = W at *
  pointwise at h1
  pointwise at h2
  pointwise
  rw [sel_sle, h1, h2]
  unfold dec
  simp only [pos_back_le]
  exact exp_mask _ _ _

/-- The triangular system's matrix, read backwards. -/
abbrev bwdX (G K : FVec Ideal S256x128 .f32) : FVec Ideal S256x256 .f32 := k0_pay38 ri ci up K G (k0_pay33 K)

theorem bwdLow (hg : ∀ i, G (ix2 i 1) = ((g i : ℝ) : EReal)) (hb : ∀ i, G (ix2 i 3) = ((β i : ℝ) : EReal))
    (hk : RepW K k) : RepM (bwdX G K) (low true k g β) := by
  have h := bwdDec hg
  intro i j
  have h1 := h i j
  unfold bwdX k0_pay38 k0_pay36 k0_pay33
  generalize k0_pay37 (F := Ideal) _ _ _ _ = W at *
  pointwise
  rw [sel_slt, h1, hb, low_dec, coe_ite]
  simp only [hk _ _, ← EReal.coe_mul, ← coe_sum, pos_back_lt]
  rfl

/-- The decayed products of queries and keys, read backwards. -/
theorem bwdAtt (hg : ∀ i, G (ix2 i 1) = ((g i : ℝ) : EReal)) (hq : RepW Q q)
    (hk : RepW K k) : RepM (k0_pay39 ri ci up Q K G) (att true q k g) := by
  have h := bwdDec hg
  intro i j
  have h1 := h i j
  unfold k0_pay39
  generalize k0_pay37 (F := Ideal) _ _ _ _ = W at *
  pointwise
  rw [h1, att_dec]
  simp only [hq _ _, hk _ _, ← EReal.coe_mul, ← coe_sum]

/-- The first levels of the inverse, read backwards. -/
abbrev bwdT16 (G K : FVec Ideal S256x128 .f32) : FVec Ideal S256x256 .f32 :=
  k0_pay45 ri ci (bwdX G K) (k0_pay42 ri ci up K G (k0_pay33 K)) (k0_pay43 ri ci up K G (k0_pay33 K))
    (k0_pay44 ri ci up K G (k0_pay33 K))

theorem bwd16 (hX : RepM (bwdX G K) M) : RepM (bwdT16 G K) (inv2 16 M (inv16 M)) := by
  have n := hX.neg
  have n2 := n.mm n
  have n4 := n2.mm n2
  have n8 := n4.mm n4
  have t0 := rep_one.add n
  have t1 := t0.add (t0.mm n2)
  have t2 := t1.add (t1.mm n4)
  have t3 := t2.add (t2.mm n8)
  exact t3.sub (t3.mm (hX.off4.mm t3))

/-- The next two levels. -/
theorem bwd64 (hX : RepM X M) (hY : RepM Y N) :
    RepM (k0_pay48 ri ci X Y (k0_pay46 ri ci) k0_pay47) (inv2 64 M (inv2 32 M N)) := by
  have t := hY.sub (hY.mm (hX.off5.mm hY))
  exact t.sub (t.mm (hX.off6.mm t))

/-- The whole inverse but its last level. -/
abbrev bwdT (G K : FVec Ideal S256x128 .f32) : FVec Ideal S256x256 .f32 :=
  k0_pay48 ri ci (bwdX G K) (bwdT16 G K) (k0_pay46 ri ci) k0_pay47

/-- The vectors written into the backward state. -/
abbrev bwdArgs {α : Type} (G K : FVec Ideal S256x128 .f32)
    (f : FVec Ideal S256x1 .f32 → FVec Ideal S256x1 .f32 → FVec Ideal S256x256 .f32 → FVec Ideal S256x256 .f32 →
      FVec Ideal S256x256 .bf16 → α) : α :=
  f (k0_pay35 up G) (k0_pay36 G) (bwdT G K)
    (k0_pay49 ri ci (bwdX G K) (bwdT16 G K) (k0_pay46 ri ci) k0_pay47)
    (k0_pay50 ri ci (bwdX G K) (bwdT16 G K) (k0_pay46 ri ci) k0_pay47)

theorem bwdUpd (hg : ∀ i, G (ix2 i 1) = ((g i : ℝ) : EReal)) (hb : ∀ i, G (ix2 i 3) = ((β i : ℝ) : EReal))
    (hk : RepW K k) (hv : RepW V v) :
    RepW (bwdArgs G K (k0_pay51 K V)) (upd true k v g β) := by
  have hX := bwdLow hg hb hk
  have hY : RepM (bwdT G K) _ := bwd64 hX (bwd16 hX)
  have t := hY.sub (hY.mm (hX.off7.mm hY))
  have hbc : RepC (k0_pay36 G) β := fun i z => by
    pointwise [k0_pay36]
    exact hb i
  intro i d
  unfold upd
  have e : ∀ T : FVec Ideal S256x256 .f32, ∀ gc b : FVec Ideal S256x1 .f32, ∀ A B : FVec Ideal S256x256 .f32,
      ∀ C : FVec Ideal S256x256 .bf16,
      (subf A (matmul dot_S256x256_S256x256_S256x256_1_0_0_1_n_n none C (truncf .bf16 B bitsLt_bf16_f32)
        (constant S256x256 .f32 0x00000000#32))) = T →
      k0_pay51 K V gc b A B C (ix2 i d) = ∑ j : Fin 256, T (ix2 i j) * (V (ix2 j d) * b (ix2 j 0)) := by
    intro T gc b A B C hT
    unfold k0_pay51
    rw [hT]
    pointwise
  unfold bwdArgs
  rw [e _ _ _ _ _ _ rfl, coe_sum]
  refine Finset.sum_congr rfl fun j _ => ?_
  rw [hv, hbc, EReal.coe_mul, EReal.coe_mul]
  congr 1
  exact t i j

/-- The outputs of both orders, added. -/
theorem bwdOut (hg : ∀ i, G (ix2 i 1) = ((g i : ℝ) : EReal)) (hb : ∀ i, G (ix2 i 3) = ((β i : ℝ) : EReal))
    (hq : RepW Q q) (hk : RepW K k) (hv : RepW V v) {O : FVec Ideal S256x128 .f32} {o1 : Fin 256 → Fin 128 → ℝ}
    (hO : RepW O o1) :
    RepW (k0_pay52 O K V (k0_pay35 up G) (k0_pay36 G) (k0_pay39 ri ci up Q K G) (bwdT G K)
        (k0_pay49 ri ci (bwdX G K) (bwdT16 G K) (k0_pay46 ri ci) k0_pay47)
        (k0_pay50 ri ci (bwdX G K) (bwdT16 G K) (k0_pay46 ri ci) k0_pay47))
      (fun i d => o1 i d + outc true q k v g β i d) := by
  have hU := bwdUpd hg hb hk hv
  have hA := bwdAtt hg hq hk
  intro i d
  unfold bwdArgs at hU
  unfold k0_pay52
  generalize k0_pay51 (F := Ideal) _ _ _ _ _ _ _ = U at *
  generalize k0_pay39 (F := Ideal) _ _ _ _ _ _ = A at *
  pointwise
  unfold outc
  rw [hO, EReal.coe_add, coe_sum]
  congr 1
  exact Finset.sum_congr rfl fun j _ => by rw [hA, hU, EReal.coe_mul]

/-- The last backward state. -/
theorem bwdFin (hg : ∀ i, G (ix2 i 1) = ((g i : ℝ) : EReal)) (hb : ∀ i, G (ix2 i 3) = ((β i : ℝ) : EReal))
    (hk : RepW K k) (hv : RepW V v) (e d : Fin 128) :
    k0_pay54 K V (k0_pay35 up G) (k0_pay36 G) (bwdT G K)
        (k0_pay49 ri ci (bwdX G K) (bwdT16 G K) (k0_pay46 ri ci) k0_pay47)
        (k0_pay50 ri ci (bwdX G K) (bwdT16 G K) (k0_pay46 ri ci) k0_pay47) (ix4 0 0 e d)
      = ((fin true k v g β e d : ℝ) : EReal) := by
  have hU := bwdUpd hg hb hk hv
  have hC := bwdCum hg
  unfold bwdArgs at hU
  unfold k0_pay54
  generalize k0_pay51 (F := Ideal) _ _ _ _ _ _ _ = U at *
  generalize k0_pay35 (F := Ideal) _ _ = C at *
  pointwise
  unfold fin
  rw [coe_sum]
  refine Finset.sum_congr rfl fun j _ => ?_
  rw [hU, hk, hC, hC, cum_last, ← EReal.coe_sub, Ideal.exp_coe, ← EReal.coe_mul, ← EReal.coe_mul]
  rfl

end

end Cert.DeltaIdeal.Form

end
-- ==== Proof.DeltaIn.lean ====
/-
  The delta rule's inputs as both programs make them from the arguments: the convolved and activated columns, the
  normalised queries and keys, the decay's logarithm and the step size, and that all of them are finite.
-/
module

public import Idealize.ShloMosaic.Lib.Pointwise

@[expose] public section

noncomputable section

open Idealize.ShloMosaic

namespace Cert.DeltaIn

/-- The row of a context's token. -/
def row (b : Fin 32) (i : Fin 256) : Fin 8192 := ⟨b.val * 256 + i.val, by omega⟩

/-- The column of a head's lane in the queries, keys or values. -/
def col (c : Fin 3) (h : Fin 4) (e : Fin 128) : Fin 1536 := ⟨c.val * 512 + h.val * 128 + e.val, by omega⟩

/-- The column of a head's lane in the result. -/
def ocol (h : Fin 4) (e : Fin 128) : Fin 512 := ⟨h.val * 128 + e.val, by omega⟩

/-- The column that holds a head's step size (`k = 0`) or decay (`k = 1`) in one direction. -/
def lane (k d : Fin 2) (h : Fin 4) : Fin 128 := ⟨k.val * 8 + d.val * 4 + h.val, by omega⟩

/-- The logistic function. -/
def sg (x : EReal) : EReal := Ideal.div 1 (1 + Ideal.exp (-x))

/-- The activation `x · σ(x)`. -/
def sl (x : EReal) : EReal := x * sg x

/-- The softplus function, from the larger of the number and zero. -/
def sp (x : EReal) : EReal := max x 0 + Ideal.log1p (Ideal.exp (-(max x (-x))))

/-- The constant under the square roots. -/
def eps : EReal := Ideal.ofBits FTy.f32 0x358637BD#32

/-- The convolution of a column over three tokens, zero outside the context. -/
def cv (w : Fin 3 → EReal) (x : Fin 256 → EReal) (i : Fin 256) : EReal :=
  w 0 * (if i.val = 0 then 0 else x ⟨(i.val + 255) % 256, Nat.mod_lt _ (by omega)⟩) + w 1 * x i
    + w 2 * (if i.val = 255 then 0 else x ⟨(i.val + 1) % 256, Nat.mod_lt _ (by omega)⟩)

/-- A row over its norm. -/
def nrm (r : Fin 128 → EReal) (e : Fin 128) : EReal := r e * Ideal.rsqrt ((∑ l, r l * r l) + eps)

/-- The factor of the queries. -/
def qs : EReal := Ideal.ofBits FTy.f32 0x3DB504F3#32

/-- The decay's logarithm from its column's entry, the head's rate and its bias. -/
def gt (x a t : EReal) : EReal := -(Ideal.exp a) * sp (x + t)

section Whole

variable (X : Fin 8192 → Fin 1536 → EReal) (W : Fin 3 → Fin 1536 → EReal) (B : Fin 8192 → Fin 128 → EReal)
  (A T : Fin 2 → Fin 4 → EReal)

/-- A convolved and activated column of a context. -/
def act (b : Fin 32) (n : Fin 1536) (i : Fin 256) : EReal := sl (cv (fun j => W j n) (fun k => X (row b k) n) i)

/-- The queries. -/
def qE (b : Fin 32) (h : Fin 4) (i : Fin 256) (e : Fin 128) : EReal := nrm (fun l => act X W b (col 0 h l) i) e * qs

/-- The keys. -/
def kE (b : Fin 32) (h : Fin 4) (i : Fin 256) (e : Fin 128) : EReal := nrm (fun l => act X W b (col 1 h l) i) e

/-- The values. -/
def vE (b : Fin 32) (h : Fin 4) (i : Fin 256) (e : Fin 128) : EReal := act X W b (col 2 h e) i

/-- The decays' logarithms. -/
def gE (d : Fin 2) (b : Fin 32) (h : Fin 4) (i : Fin 256) : EReal := gt (B (row b i) (lane 1 d h)) (A d h) (T d h)

/-- The step sizes. -/
def bE (d : Fin 2) (b : Fin 32) (h : Fin 4) (i : Fin 256) : EReal := sg (B (row b i) (lane 0 d h))

end Whole

/-- A number is finite. -/
def Fi (x : EReal) : Prop := ∃ r : ℝ, x = (r : EReal)

theorem Fi.eq {x : EReal} (h : Fi x) : x = ((x.toReal : ℝ) : EReal) := by
  obtain ⟨r, rfl⟩ := h
  rfl

/-- What is below infinity in magnitude is finite. -/
theorem Fi.of_abs {x : EReal} (h : max x (-x) < ⊤) : Fi x := by
  induction x with
  | bot => simp at h
  | top => simp at h
  | coe r => exact ⟨r, rfl⟩

theorem Fi.zero : Fi 0 := ⟨0, rfl⟩
theorem Fi.one : Fi 1 := ⟨1, rfl⟩

theorem Fi.add {x y : EReal} (hx : Fi x) (hy : Fi y) : Fi (x + y) := by
  obtain ⟨r, rfl⟩ := hx; obtain ⟨s, rfl⟩ := hy
  exact ⟨r + s, (EReal.coe_add r s).symm⟩

theorem Fi.mul {x y : EReal} (hx : Fi x) (hy : Fi y) : Fi (x * y) := by
  obtain ⟨r, rfl⟩ := hx; obtain ⟨s, rfl⟩ := hy
  exact ⟨r * s, (EReal.coe_mul r s).symm⟩

theorem Fi.neg {x : EReal} (hx : Fi x) : Fi (-x) := by
  obtain ⟨r, rfl⟩ := hx
  exact ⟨-r, (EReal.coe_neg r).symm⟩

theorem Fi.max {x y : EReal} (hx : Fi x) (hy : Fi y) : Fi (max x y) := by
  rcases max_choice x y with h | h <;> rw [h] <;> assumption

theorem Fi.exp {x : EReal} (hx : Fi x) : Fi (Ideal.exp x) := by
  obtain ⟨r, rfl⟩ := hx
  exact ⟨Real.exp r, Ideal.exp_coe r⟩

theorem Fi.sg {x : EReal} (hx : Fi x) : Fi (sg x) := by
  obtain ⟨r, rfl⟩ := hx
  have h : (1 : EReal) + Ideal.exp (-(r : EReal)) = ((1 + Real.exp (-r) : ℝ) : EReal) := by
    rw [← EReal.coe_neg, Ideal.exp_coe, EReal.coe_add]; rfl
  have hp : (1 + Real.exp (-r) : ℝ) ≠ 0 := by positivity
  rw [Cert.DeltaIn.sg, h, Ideal.div_coe hp]
  exact Fi.mul Fi.one ⟨_, rfl⟩

theorem Fi.sl {x : EReal} (hx : Fi x) : Fi (sl x) := hx.mul hx.sg

theorem Fi.sp {x : EReal} (hx : Fi x) : Fi (sp x) := by
  refine Fi.add (hx.max Fi.zero) ?_
  obtain ⟨r, hr⟩ := (hx.max hx.neg).neg
  rw [hr]
  have h : (1 : EReal) + Ideal.exp (r : EReal) = ((1 + Real.exp r : ℝ) : EReal) := by
    rw [Ideal.exp_coe, EReal.coe_add]; rfl
  have hp : ¬(1 + Real.exp r : ℝ) ≤ 0 := not_le.2 (by positivity)
  rw [Ideal.log1p, h, Ideal.log_coe, if_neg hp]
  exact ⟨_, rfl⟩

theorem eps_pos : ∃ r : ℝ, 0 < r ∧ eps = (r : EReal) := by
  refine ⟨((2 ^ 23 + 0x637BD : ℕ) : ℝ) * 2 ^ (-43 : ℤ), by positivity, ?_⟩
  simp [eps, Ideal.ofBits, Ideal.ieee, -EReal.coe_mul]

theorem Fi.qs : Fi qs := by
  refine ⟨((2 ^ 23 + 0x3504F3 : ℕ) : ℝ) * 2 ^ (-27 : ℤ), ?_⟩
  simp [Cert.DeltaIn.qs, Ideal.ofBits, Ideal.ieee, -EReal.coe_mul]

/-- A sum of squares of finite numbers is finite and not negative. -/
theorem sumSq {r : Fin 128 → EReal} (hr : ∀ l, Fi (r l)) : ∃ s : ℝ, 0 ≤ s ∧ ∑ l, r l * r l = (s : EReal) := by
  choose f hf using hr
  refine ⟨∑ l, f l * f l, Finset.sum_nonneg fun l _ => mul_self_nonneg _, ?_⟩
  have h : ∀ S : Finset (Fin 128), ∑ l ∈ S, r l * r l = ((∑ l ∈ S, f l * f l : ℝ) : EReal) := by
    intro S
    induction S using Finset.induction_on with
    | empty => rfl
    | insert a S ha ih => rw [Finset.sum_insert ha, Finset.sum_insert ha, ih, hf a, EReal.coe_add, EReal.coe_mul]
  exact h Finset.univ

theorem Fi.nrm {r : Fin 128 → EReal} (hr : ∀ l, Fi (r l)) (e : Fin 128) : Fi (nrm r e) := by
  obtain ⟨s, hs, h⟩ := sumSq hr
  obtain ⟨p, hp, h'⟩ := eps_pos
  refine (hr e).mul ?_
  rw [h, h', ← EReal.coe_add, Ideal.rsqrt_coe, if_neg (not_lt.2 (by positivity)), if_neg (by positivity)]
  exact ⟨_, rfl⟩

theorem Fi.cv {w : Fin 3 → EReal} {x : Fin 256 → EReal} (hw : ∀ j, Fi (w j)) (hx : ∀ i, Fi (x i)) (i : Fin 256) :
    Fi (cv w x i) := by
  unfold Cert.DeltaIn.cv
  refine Fi.add (Fi.add (Fi.mul (hw 0) ?_) (Fi.mul (hw 1) (hx i))) (Fi.mul (hw 2) ?_)
  · split
    · exact Fi.zero
    · exact hx _
  · split
    · exact Fi.zero
    · exact hx _

section Whole

variable {X : Fin 8192 → Fin 1536 → EReal} {W : Fin 3 → Fin 1536 → EReal} {B : Fin 8192 → Fin 128 → EReal}
  {A T : Fin 2 → Fin 4 → EReal}

theorem Fi.act (hX : ∀ r n, Fi (X r n)) (hW : ∀ j n, Fi (W j n)) (b : Fin 32) (n : Fin 1536) (i : Fin 256) :
    Fi (act X W b n i) := Fi.sl (Fi.cv (fun j => hW j n) (fun k => hX _ n) i)

theorem Fi.qE (hX : ∀ r n, Fi (X r n)) (hW : ∀ j n, Fi (W j n)) (b : Fin 32) (h : Fin 4) (i : Fin 256) (e : Fin 128) :
    Fi (qE X W b h i e) := Fi.mul (Fi.nrm (fun _ => Fi.act hX hW _ _ _) _) Fi.qs

theorem Fi.kE (hX : ∀ r n, Fi (X r n)) (hW : ∀ j n, Fi (W j n)) (b : Fin 32) (h : Fin 4) (i : Fin 256) (e : Fin 128) :
    Fi (kE X W b h i e) := Fi.nrm (fun _ => Fi.act hX hW _ _ _) _

theorem Fi.vE (hX : ∀ r n, Fi (X r n)) (hW : ∀ j n, Fi (W j n)) (b : Fin 32) (h : Fin 4) (i : Fin 256) (e : Fin 128) :
    Fi (vE X W b h i e) := Fi.act hX hW _ _ _

theorem Fi.gE (hB : ∀ r n, Fi (B r n)) (hA : ∀ d h, Fi (A d h)) (hT : ∀ d h, Fi (T d h)) (d : Fin 2) (b : Fin 32)
    (h : Fin 4) (i : Fin 256) : Fi (gE B A T d b h i) := Fi.mul (hA d h).exp.neg (Fi.sp ((hB _ _).add (hT d h)))

theorem Fi.bE (hB : ∀ r n, Fi (B r n)) (d : Fin 2) (b : Fin 32) (h : Fin 4) (i : Fin 256) : Fi (bE B d b h i) :=
  (hB _ _).sg

end Whole

end Cert.DeltaIn

end
-- ==== Proof.DeltaPay.lean ====
/-
  The rows that the delta rule's kernel stores for its chunk, at an index: convolved and activated columns, normalised
  queries and keys, and the gates of its head.
-/
module

public import proofs.«01_k».proof.Proof.DeltaForm
public import proofs.«01_k».proof.Proof.DeltaIn

@[expose] public section

noncomputable section

open Idealize.ShloMosaic Idealize.ShloMosaic.TcCoe Idealize.SL.Sem

namespace Cert.DeltaIdeal.Pay

open Cert.DeltaIdeal Cert.DeltaIdeal.Gen Cert.DeltaIdeal.Form Cert.DeltaIn

/-- A mask on a token's number. -/
theorem sel_tok {α : Type} (i : Fin 256) (n : ℕ) (hn : n < 256) (x y : α) :
    Scalar.select (IntOp.cmpi CmpIPredicate.eq (BitVec.ofNat 32 i.val) (BitVec.ofNat 32 n)) x y = if i.val = n then x else y :=
  sel_ofBool _ (by rw [beq_iff_eq]; exact ofNat_eq i.isLt hn) x y

theorem absf_eq (x : EReal) : FloatOps.absf (F := Ideal) (φ := .f32) x = max x (-x) := rfl

variable (x : Vec Ideal S256x128 .f32) (w : Vec Ideal S3x128 .f32)

/-- A convolved and activated entry of the chunk. -/
def blkAct (i : Fin 256) (e : Fin 128) : EReal := sl (cv (fun j => w (ix2 j e)) (fun k => x (ix2 k e)) i)

/-- A mask on a lane's number picks that lane's entry. -/
theorem sum_lane (f : Fin 128 → EReal) (k : Fin 128) (b : BitVec 32) (hb : b = BitVec.ofNat 32 k.val) :
    (∑ n : Fin 128, Scalar.select (IntOp.cmpi CmpIPredicate.eq (BitVec.ofNat 32 n.val) b) (f n) 0) = f k := by
  subst hb
  rw [Finset.sum_eq_single k]
  · exact (sel_ofBool (p := True) _ (by simp [IntOp.cmpi]) _ _).trans (if_pos trivial)
  · intro n _ hn
    refine (sel_ofBool (p := False) _ ?_ _ _).trans (if_neg id)
    rw [beq_iff_eq, ofNat_eq (by omega) (by omega)]
    exact ⟨fun h => hn (Fin.ext h), False.elim⟩
  · exact fun h => (h (Finset.mem_univ _)).elim

theorem addi_lane (a : ℕ) (h : Fin 4) (k : Fin 128) (hk : k.val = a + h.val) :
    Scalar.addi (BitVec.ofNat 32 a) (BitVec.ofNat 32 h.val) = BitVec.ofNat 32 k.val := by
  rw [hk, BitVec.ofNat_add]
  rfl

/-- The convolution with its masks. -/
theorem conv (i : Fin 256) (e : Fin 128) (h1 : (i.val + 256 - 1) % 256 < 256) (h2 : (i.val + 256 - 255) % 256 < 256) :
    Scalar.select (IntOp.cmpi CmpIPredicate.eq (BitVec.ofNat 32 i.val) 0#32) 0
            (w (ix2 0 e) * x (ix2 ⟨(i.val + 256 - 1) % 256, h1⟩ e)) +
          w (ix2 1 e) * x (ix2 i e) +
        Scalar.select (IntOp.cmpi CmpIPredicate.eq (BitVec.ofNat 32 i.val) 255#32) 0
          (w (ix2 2 e) * x (ix2 ⟨(i.val + 256 - 255) % 256, h2⟩ e))
      = cv (fun j => w (ix2 j e)) (fun k => x (ix2 k e)) i := by
  have e1 : (⟨(i.val + 256 - 1) % 256, h1⟩ : Fin 256) = ⟨(i.val + 255) % 256, Nat.mod_lt _ (by omega)⟩ := Fin.ext (by dsimp only; omega)
  have e2 : (⟨(i.val + 256 - 255) % 256, h2⟩ : Fin 256) = ⟨(i.val + 1) % 256, Nat.mod_lt _ (by omega)⟩ := Fin.ext (by dsimp only; omega)
  rw [sel_tok i 0 (by omega), sel_tok i 255 (by omega), e1, e2]
  unfold cv
  simp only [mul_ite, mul_zero]

theorem acts (i : Fin 256) : blkAct x w i = fun e => sl (Scalar.select (IntOp.cmpi CmpIPredicate.eq (BitVec.ofNat 32 i.val) 0#32) 0
            (w (ix2 0 e) * x (ix2 ⟨(i.val + 256 - 1) % 256, Nat.mod_lt _ (by omega)⟩ e)) +
          w (ix2 1 e) * x (ix2 i e) +
        Scalar.select (IntOp.cmpi CmpIPredicate.eq (BitVec.ofNat 32 i.val) 255#32) 0
          (w (ix2 2 e) * x (ix2 ⟨(i.val + 256 - 255) % 256, Nat.mod_lt _ (by omega)⟩ e))) :=
  funext fun e => congrArg sl (conv x w i e _ _).symm

theorem pay8 (i : Fin 256) (e : Fin 128) :
    k0_pay8 (F := Ideal) (iota .tc S256x128 32 [0] iota_S256x128_d0_w32) x w (ix2 i e) = blkAct x w i e := by
  rw [congrFun (acts x w i) e]
  pointwise [k0_pay8]
  simp only [zero_sub]
  rfl

theorem pay5 (i : Fin 256) (e : Fin 128) :
    k0_pay5 (F := Ideal) (iota .tc S256x128 32 [0] iota_S256x128_d0_w32) x w (ix2 i e) = blkAct x w i e := by
  rw [congrFun (acts x w i) e]
  pointwise [k0_pay5]
  simp only [zero_sub]
  rfl

theorem pay9 (i : Fin 256) (n : Fin 128) : k0_pay9 (F := Ideal) x (ix2 i n) = sg (x (ix2 i n)) := by
  pointwise [k0_pay9, sg]
  simp only [zero_sub]

theorem pay10 (a t : Vec Ideal S1x128 .f32) (i : Fin 256) (n : Fin 128) :
    k0_pay10 (F := Ideal) x a t (ix2 i n) = gt (x (ix2 i n)) (a (ix2 0 n)) (t (ix2 0 n)) := by
  pointwise [k0_pay10]
  simp only [zero_sub]
  rfl

theorem pay2 (i : Fin 256) (e : Fin 128) :
    k0_pay2 (F := Ideal) x w (ix2 i e) = nrm (blkAct x w i) e := by
  rw [acts]
  pointwise [k0_pay2]
  simp only [zero_sub]
  rfl

/-- The stored queries. -/
theorem queries (i : Fin 256) (e : Fin 128) :
    k0_pay4 (F := Ideal) (k0_pay2 x w) k0_pay3 (ix2 i e) = nrm (blkAct x w i) e * qs := by
  rw [← pay2]
  generalize k0_pay2 (F := Ideal) x w = U
  pointwise [k0_pay4, k0_pay3, qs]

/-- The stored keys. -/
theorem keys (i : Fin 256) (e : Fin 128) :
    k0_pay7 (F := Ideal) (k0_pay5 (iota .tc S256x128 32 [0] iota_S256x128_d0_w32) x w)
      (k0_pay6 (iota .tc S256x128 32 [0] iota_S256x128_d0_w32) x w) (ix2 i e) = nrm (blkAct x w i) e := by
  unfold k0_pay6 nrm
  simp only [← pay5]
  generalize k0_pay5 (F := Ideal) _ x w = U
  pointwise [k0_pay7, eps]

section Gates

variable (h : Fin 4) (a t : Vec Ideal S1x128 .f32) (i : Fin 256)

theorem gateBf (z : Fin 1) : k0_pay11 (F := Ideal) (BitVec.ofNat 32 h.val) x (ix2 i z) = sg (x (ix2 i (lane 0 0 h))) := by
  unfold k0_pay11
  pointwise
  rw [sum_lane (fun n => k0_pay9 (F := Ideal) x (ix2 i n)) (lane 0 0 h) _ (by simp [lane]), pay9]

theorem gateBb (z : Fin 1) : k0_pay12 (F := Ideal) (BitVec.ofNat 32 h.val) x (ix2 i z) = sg (x (ix2 i (lane 0 1 h))) := by
  unfold k0_pay12
  pointwise
  rw [sum_lane (fun n => k0_pay9 (F := Ideal) x (ix2 i n)) (lane 0 1 h) _ (addi_lane 4 h _ (by simp [lane])), pay9]

/-- The stored gates. -/
abbrev gates : FVec Ideal S256x128 .f32 :=
  k0_pay14 (BitVec.ofNat 32 h.val) (iota .tc S256x128 32 [1] iota_S256x128_d1_w32) (k0_pay10 x a t) (k0_pay11 (BitVec.ofNat 32 h.val) x)
    (k0_pay12 (BitVec.ofNat 32 h.val) x) (k0_pay13 (BitVec.ofNat 32 h.val))

theorem gates0 : gates x h a t (ix2 i 0) = gt (x (ix2 i (lane 1 0 h))) (a (ix2 0 (lane 1 0 h))) (t (ix2 0 (lane 1 0 h))) := by
  rw [← pay10]
  unfold gates k0_pay14 k0_pay13
  generalize k0_pay10 (F := Ideal) x a t = U
  pointwise
  exact sum_lane (fun n => U (ix2 i n)) (lane 1 0 h) _ (addi_lane 8 h _ (by simp [lane]))

theorem gates1 : gates x h a t (ix2 i 1) = gt (x (ix2 i (lane 1 1 h))) (a (ix2 0 (lane 1 1 h))) (t (ix2 0 (lane 1 1 h))) := by
  rw [← pay10]
  unfold gates k0_pay14 k0_pay13
  generalize k0_pay10 (F := Ideal) x a t = U
  pointwise
  exact sum_lane (fun n => U (ix2 i n)) (lane 1 1 h) _ (addi_lane 12 h _ (by simp [lane]))

theorem gates2 : gates x h a t (ix2 i 2) = sg (x (ix2 i (lane 0 0 h))) := by
  rw [← gateBf x h i 0]
  unfold gates k0_pay14 k0_pay13
  generalize k0_pay10 (F := Ideal) x a t = U
  generalize k0_pay11 (F := Ideal) _ x = U
  generalize k0_pay12 (F := Ideal) _ x = U
  pointwise
  rfl

theorem gates3 : gates x h a t (ix2 i 3) = sg (x (ix2 i (lane 0 1 h))) := by
  rw [← gateBb x h i 0]
  unfold gates k0_pay14 k0_pay13
  generalize k0_pay10 (F := Ideal) x a t = U
  generalize k0_pay11 (F := Ideal) _ x = U
  generalize k0_pay12 (F := Ideal) _ x = U
  pointwise
  rfl

end Gates

end Cert.DeltaIdeal.Pay

end
-- ==== Proof.DeltaBody.lean ====
/-
  What one visit of the delta rule's kernel leaves in its three result blocks: the queries, keys, values and gates are
  stored whole in the scratch and read back, and the results are the chunk's outputs and last states of them.
-/
module

public import proofs.«01_k».proof.Proof.Gen.DeltaIdeal.Value
public import proofs.«01_k».proof.Proof.DeltaForm

@[expose] public section

set_option maxRecDepth 16384

noncomputable section

open Idealize.ShloMosaic Idealize.ShloMosaic.TcCoe Idealize.SL.Sem

namespace Cert.DeltaIdeal.Body

open Cert.DeltaIdeal Cert.DeltaIdeal.Gen Cert.DeltaIdeal.Form

theorem z2 : (![0, 0] : Fin 2 → Nat) = fun _ => 0 := funext fun a => by fin_cases a <;> rfl
theorem z4 : (![0, 0, 0, 0] : Fin 4 → Nat) = fun _ => 0 := funext fun a => by fin_cases a <;> rfl

/-- The token's number in every lane. -/
abbrev ti : IVec S256x128 32 := iota .tc S256x128 32 [0] iota_S256x128_d0_w32

/-- The lane's number. -/
abbrev li : IVec S256x128 32 := iota .tc S256x128 32 [1] iota_S256x128_d1_w32

/-- The stored queries. -/
abbrev qS (x : Vec Ideal S256x128 .f32) (w : Vec Ideal S3x128 .f32) : FVec Ideal S256x128 .f32 := k0_pay4 (k0_pay2 x w) k0_pay3

/-- The stored keys. -/
abbrev kS (x : Vec Ideal S256x128 .f32) (w : Vec Ideal S3x128 .f32) : FVec Ideal S256x128 .f32 :=
  k0_pay7 (k0_pay5 ti x w) (k0_pay6 ti x w)

/-- The stored values. -/
abbrev vS (x : Vec Ideal S256x128 .f32) (w : Vec Ideal S3x128 .f32) : FVec Ideal S256x128 .f32 := k0_pay8 ti x w

/-- The stored gates. -/
abbrev gS (h : BitVec 32) (x : Vec Ideal S256x128 .f32) (a t : Vec Ideal S1x128 .f32) : FVec Ideal S256x128 .f32 :=
  k0_pay14 h li (k0_pay10 x a t) (k0_pay11 h x) (k0_pay12 h x) (k0_pay13 h)

/-- The first row of the table of rates and biases. -/
abbrev row0 (p : Vec Ideal S8x128 .f32) : Vec Ideal S1x128 .f32 :=
  View.ld p (Rect.unit (s := S8x128) ![0, 0] S1x128.size inb_S8x128_S1x128_0_0)

/-- The second row. -/
abbrev row1 (p : Vec Ideal S8x128 .f32) : Vec Ideal S1x128 .f32 :=
  View.ld p (Rect.unit (s := S8x128) ![1, 0] S1x128.size inb_S8x128_S1x128_1_0)

/-- The forward outputs. -/
abbrev o1 (Q K V G : FVec Ideal S256x128 .f32) : FVec Ideal S256x128 .f32 :=
  k0_pay31 ri ci K V (k0_pay19 (k0_pay15 (F := Ideal)) G) (k0_pay20 G)
      (k0_pay22 ri ci (k0_pay15 (F := Ideal)) K G) (k0_pay23 ri ci (k0_pay15 (F := Ideal)) Q K G) (fwdT G K) (k0_pay29 ri ci)

/-- The forward last state. -/
abbrev s1 (K V G : FVec Ideal S256x128 .f32) : FVec Ideal S128x128 .f32 :=
  k0_pay32 ri ci K V (k0_pay19 (k0_pay15 (F := Ideal)) G) (k0_pay20 G)
      (k0_pay22 ri ci (k0_pay15 (F := Ideal)) K G) (fwdT G K) (k0_pay29 ri ci)

/-- Both orders' outputs. -/
abbrev o2 (Q K V G : FVec Ideal S256x128 .f32) : FVec Ideal S256x128 .f32 :=
  k0_pay52 (o1 Q K V G) K V (k0_pay35 up G) (k0_pay36 G) (k0_pay39 ri ci up Q K G) (bwdT G K)
        (k0_pay49 ri ci (bwdX G K) (bwdT16 G K) (k0_pay46 ri ci) k0_pay47)
        (k0_pay50 ri ci (bwdX G K) (bwdT16 G K) (k0_pay46 ri ci) k0_pay47)

/-- The outputs' norms. -/
abbrev n2 (Q K V G : FVec Ideal S256x128 .f32) : FVec Ideal S256x128 .f32 :=
  k0_pay55 (o1 Q K V G) K V (k0_pay35 up G) (k0_pay36 G) (k0_pay39 ri ci up Q K G) (bwdT G K)
        (k0_pay49 ri ci (bwdX G K) (bwdT16 G K) (k0_pay46 ri ci) k0_pay47)
        (k0_pay50 ri ci (bwdX G K) (bwdT16 G K) (k0_pay46 ri ci) k0_pay47)

/-- The backward last state. -/
abbrev s2 (K V G : FVec Ideal S256x128 .f32) : FVec Ideal S1x1x128x128 .f32 :=
  k0_pay54 K V (k0_pay35 up G) (k0_pay36 G) (bwdT G K)
        (k0_pay49 ri ci (bwdX G K) (bwdT16 G K) (k0_pay46 ri ci) k0_pay47)
        (k0_pay50 ri ci (bwdX G K) (bwdT16 G K) (k0_pay46 ri ci) k0_pay47)

set_option maxHeartbeats 1000000 in
/-- The outputs' block. -/
theorem out10 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S256x128 .f32) (harg12 : arg12.IsWhole) (arg13 : Memref sig .tc .vmem S1x1x128x128 .f32) (harg13 : arg13.IsWhole) (arg14 : Memref sig .tc .vmem S1x1x128x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S2x128x128 .f32) (harg21 : arg21.IsWhole)
    (x0 : Vec Ideal S256x128 .f32) (x1 : Vec Ideal S256x128 .f32) (x2 : Vec Ideal S256x128 .f32) (x3 : Vec Ideal S3x128 .f32) (x4 : Vec Ideal S3x128 .f32) (x5 : Vec Ideal S3x128 .f32) (x6 : Vec Ideal S256x128 .f32) (x7 : Vec Ideal S256x128 .f32) (x8 : Vec Ideal S8x128 .f32) (x9 : Vec Ideal S1x128 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 = k0_pay1 (o2 (qS x0 x3) (kS x1 x4) (vS x2 x5) (gS (BitVec.ofNat 32 (i 1).val) x7 (row0 x8) (row1 x8))) (n2 (qS x0 x3) (kS x1 x4) (vS x2 x5) (gS (BitVec.ofNat 32 (i 1).val) x7 (row0 x8) (row1 x8))) x9 x6 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9)]
  unfold kernelRun0_A
  dsimp only
  sl_unfold_words
  rw [View.canon_unit_zero z2]
  simp only [View.readCov_unit_zero (S := S256x128) _ z2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S256x128) z2, View.ld_unit_zero (S := S3x128) z2, View.ld_unit_zero (S := S1x128) z2]

set_option maxHeartbeats 1000000 in
/-- The forward last state's block. -/
theorem out11 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S256x128 .f32) (harg12 : arg12.IsWhole) (arg13 : Memref sig .tc .vmem S1x1x128x128 .f32) (harg13 : arg13.IsWhole) (arg14 : Memref sig .tc .vmem S1x1x128x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S2x128x128 .f32) (harg21 : arg21.IsWhole)
    (x0 : Vec Ideal S256x128 .f32) (x1 : Vec Ideal S256x128 .f32) (x2 : Vec Ideal S256x128 .f32) (x3 : Vec Ideal S3x128 .f32) (x4 : Vec Ideal S3x128 .f32) (x5 : Vec Ideal S3x128 .f32) (x6 : Vec Ideal S256x128 .f32) (x7 : Vec Ideal S256x128 .f32) (x8 : Vec Ideal S8x128 .f32) (x9 : Vec Ideal S1x128 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 = k0_pay53 (s1 (kS x1 x4) (vS x2 x5) (gS (BitVec.ofNat 32 (i 1).val) x7 (row0 x8) (row1 x8))) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9)]
  unfold kernelRun0_A
  dsimp only
  sl_unfold_words
  rw [View.canon_unit_zero z4]
  simp only [View.readCov_unit_zero (S := S256x128) _ z2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S256x128) z2, View.ld_unit_zero (S := S3x128) z2, View.ld_unit_zero (S := S1x128) z2]

set_option maxHeartbeats 1000000 in
/-- The backward last state's block. -/
theorem out12 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S3x128 .f32) (harg5 : arg5.IsWhole) (arg6 : Memref sig .tc .vmem S3x128 .f32) (harg6 : arg6.IsWhole) (arg7 : Memref sig .tc .vmem S3x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S8x128 .f32) (harg10 : arg10.IsWhole) (arg11 : Memref sig .tc .vmem S1x128 .f32) (harg11 : arg11.IsWhole) (arg12 : Memref sig .tc .vmem S256x128 .f32) (harg12 : arg12.IsWhole) (arg13 : Memref sig .tc .vmem S1x1x128x128 .f32) (harg13 : arg13.IsWhole) (arg14 : Memref sig .tc .vmem S1x1x128x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S2x128x128 .f32) (harg21 : arg21.IsWhole)
    (x0 : Vec Ideal S256x128 .f32) (x1 : Vec Ideal S256x128 .f32) (x2 : Vec Ideal S256x128 .f32) (x3 : Vec Ideal S3x128 .f32) (x4 : Vec Ideal S3x128 .f32) (x5 : Vec Ideal S3x128 .f32) (x6 : Vec Ideal S256x128 .f32) (x7 : Vec Ideal S256x128 .f32) (x8 : Vec Ideal S8x128 .f32) (x9 : Vec Ideal S1x128 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 = s2 (kS x1 x4) (vS x2 x5) (gS (BitVec.ofNat 32 (i 1).val) x7 (row0 x8) (row1 x8)) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9)]
  unfold kernelRun0_A
  dsimp only
  sl_unfold_words
  rw [View.canon_unit_zero z4]
  simp only [View.readCov_unit_zero (S := S256x128) _ z2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S256x128) z2, View.ld_unit_zero (S := S3x128) z2, View.ld_unit_zero (S := S1x128) z2]

end Cert.DeltaIdeal.Body

end
-- ==== Proof.DeltaHost.lean ====
/-
  The table of the heads' rates and biases that the host writes for the delta rule's kernel: eight entries of the rates in
  row 0 and eight of the biases in row 1, from lane 8 on.
-/
module

public import proofs.«01_k».proof.Proof.Gen.DeltaIdeal.Value
public import proofs.«01_k».proof.Proof.DeltaIn
public import Idealize.ShloMosaic.Lib.Routing.OpsSet
public import Idealize.ShloMosaic.Lib.Routing.OpsOne
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.DeltaIdeal.Host

open Cert.DeltaIdeal Cert.DeltaIdeal.Gen Cert.DeltaIn Idealize.ShloMosaic.Routing

/-- An update written along a row lands where its row is the first index and its lane is the second index plus its number. -/
theorem lands_row {R C U w : Nat} (d : ScatterDims (shape2 R C) (shape1 2) (shape1 U)) (hiw : d.insertedWindowDims = [0]) (hsd : d.scatterDimsToOperandDims = [0, 1])
    (hivd : d.indexVectorDim = 0) (idx : IVec (shape1 2) w) (k : Fin U) (r : Fin R) (c : Fin C) :
    d.resultIdx? (ix1 k) idx = some (ix2 r c) ↔ (idx (ix1 (0 : Fin 2))).toInt = r.val ∧ (idx (ix1 (1 : Fin 2))).toInt + (k.val : Int) = c.val := by
  have hwin1 : d.window (ix1 k) 1 = k.val := by
    have hk : d.sKept = [1] := by
      show (shape2 R C).kept d.insertedWindowDims = _
      rw [hiw]
      rfl
    unfold ScatterDims.window
    rw [dif_pos (by rw [hk]; simp)]
    exact congrArg (fun t => ((ix1 k : (shape1 U).Idx) t).val) (Subsingleton.elim (α := Fin 1) _ 0)
  have hwin0 : d.window (ix1 k) 0 = 0 := by
    unfold ScatterDims.window
    rw [dif_neg fun h => (of_decide_eq_true (List.mem_filter.1 h).2) (by rw [hiw]; simp)]
  refine (resultIdx?_ix2 d (ix1 k) idx r c).trans ?_
  have s0 : d.start (ix1 k) idx 0 = (idx (ix1 (0 : Fin 2))).toInt := start_pair d hsd hivd idx (ix1 k) 0
  have s1 : d.start (ix1 k) idx 1 = (idx (ix1 (1 : Fin 2))).toInt := start_pair d hsd hivd idx (ix1 k) 1
  rw [s0, s1, hwin0, hwin1]
  simp

/-- Eight numbers written into a row of the table from lane 8 on: the lane's number in that row, else the table's. -/
theorem written (x0 : FVec Ideal S8x128 .f32) (idx : IVec S2 32) (upd : FVec Ideal S8 .f32) (q : Fin 8)
    (h0 : (idx (ix1 0)).toInt = q.val) (h1 : (idx (ix1 1)).toInt = 8) :
    (∀ k : Fin 8, Host.scatter scatter_S8x128_S2_S8_0_0_01_0 (fun _ b => b) x0 idx upd (ix2 q ⟨8 + k.val, by omega⟩) = upd (ix1 k))
    ∧ (∀ (r : Fin 8) (n : Fin 128), r ≠ q → Host.scatter scatter_S8x128_S2_S8_0_0_01_0 (fun _ b => b) x0 idx upd (ix2 r n) = x0 (ix2 r n)) := by
  have hl := fun k r n => lands_row scatter_S8x128_S2_S8_0_0_01_0 rfl rfl rfl idx k r n
  constructor
  · intro k
    refine scatter_set_hit _ _ _ _ _ _ ?_ (ix1 k) ((hl k q _).2 ⟨h0, by rw [h1]; push_cast; rfl⟩)
    intro k' hk'
    obtain ⟨k'', rfl⟩ : ∃ a : Fin 8, k' = ix1 a := ⟨k' 0, eq_ix1 k'⟩
    have := ((hl _ _ _).1 hk').2
    rw [h1] at this
    congr 2
    apply Fin.ext
    push_cast at this
    omega
  · intro r n hr
    refine scatter_set_miss _ _ _ _ _ ?_
    intro k' hk'
    obtain ⟨k'', rfl⟩ : ∃ a : Fin 8, k' = ix1 a := ⟨k' 0, eq_ix1 k'⟩
    have := ((hl _ _ _).1 hk').1
    rw [h0] at this
    exact hr (Fin.ext (by omega))

variable (m : (ℓ : Loc nD τ sig) → Buf (Elt Ideal) ℓ)

/-- The table is two rows written into zeros. -/
theorem V_prm (c : Dev nD) : (V m c main_v12 : FVec Ideal S8x128 .f32) = Host.scatter scatter_S8x128_S2_S8_0_0_01_0 (fun _ b => b)
        (Host.scatter scatter_S8x128_S2_S8_0_0_01_0 (fun _ b => b) (V m c main_v0 : FVec Ideal S8x128 .f32)
          (V m c main_v5 : IVec S2 32) (V m c main_v2 : FVec Ideal S8 .f32)) (V m c main_v11 : IVec S2 32) (V m c main_v8 : FVec Ideal S8 .f32) := by
  simp only [V, hostOps0, StableHlo.TRef.binary, StableHlo.TRef.unary, StableHlo.TRef.toBuf, StableHlo.TRef.ofBuf, cast_eq]
  after_results_simp
  rfl

theorem V_first (c : Dev nD) (d : Fin 2) (h : Fin 4) : (V m c main_v2 : FVec Ideal S8 .f32) (ix1 ⟨d.val * 4 + h.val, by omega⟩)
    = m ((c : Thread nD τ).loc main_arg4) (ix3 0 d h) := by
  simp only [V, hostOps0, StableHlo.TRef.binary, StableHlo.TRef.unary, StableHlo.TRef.toBuf, StableHlo.TRef.ofBuf, cast_eq]
  after_results_simp
  pointwise

theorem V_second (c : Dev nD) (d : Fin 2) (h : Fin 4) : (V m c main_v8 : FVec Ideal S8 .f32) (ix1 ⟨d.val * 4 + h.val, by omega⟩)
    = m ((c : Thread nD τ).loc main_arg5) (ix3 0 d h) := by
  simp only [V, hostOps0, StableHlo.TRef.binary, StableHlo.TRef.unary, StableHlo.TRef.toBuf, StableHlo.TRef.ofBuf, cast_eq]
  after_results_simp
  pointwise

theorem V_place0 (c : Dev nD) : (V m c main_v5 : IVec S2 32) (ix1 0) = 0#32 ∧ (V m c main_v5 : IVec S2 32) (ix1 1) = 8#32 := by
  constructor
  all_goals
    simp only [V, hostOps0, StableHlo.TRef.binary, StableHlo.TRef.unary, StableHlo.TRef.toBuf, StableHlo.TRef.ofBuf, cast_eq]
    after_results_simp
    pointwise

theorem V_place1 (c : Dev nD) : (V m c main_v11 : IVec S2 32) (ix1 0) = 1#32 ∧ (V m c main_v11 : IVec S2 32) (ix1 1) = 8#32 := by
  constructor
  all_goals
    simp only [V, hostOps0, StableHlo.TRef.binary, StableHlo.TRef.unary, StableHlo.TRef.toBuf, StableHlo.TRef.ofBuf, cast_eq]
    after_results_simp
    pointwise

/-- The rates' row. -/
theorem tbl0 (c : Dev nD) (d : Fin 2) (h : Fin 4) : (V m c main_v12 : FVec Ideal S8x128 .f32) (ix2 0 (lane 1 d h))
    = m ((c : Thread nD τ).loc main_arg4) (ix3 0 d h) := by
  have hl : lane 1 d h = ⟨8 + (d.val * 4 + h.val), by omega⟩ := Fin.ext (by simp [lane]; omega)
  rw [V_prm, hl]
  refine ((written _ (V m c main_v11) (V m c main_v8) 1 (by rw [(V_place1 m c).1]; rfl) (by rw [(V_place1 m c).2]; rfl)).2 0 _ (by decide)).trans ?_
  refine ((written _ (V m c main_v5) (V m c main_v2) 0 (by rw [(V_place0 m c).1]; rfl) (by rw [(V_place0 m c).2]; rfl)).1 ⟨d.val * 4 + h.val, by omega⟩).trans ?_
  exact V_first m c d h

/-- The biases' row. -/
theorem tbl1 (c : Dev nD) (d : Fin 2) (h : Fin 4) : (V m c main_v12 : FVec Ideal S8x128 .f32) (ix2 1 (lane 1 d h))
    = m ((c : Thread nD τ).loc main_arg5) (ix3 0 d h) := by
  have hl : lane 1 d h = ⟨8 + (d.val * 4 + h.val), by omega⟩ := Fin.ext (by simp [lane]; omega)
  rw [V_prm, hl]
  refine ((written _ (V m c main_v11) (V m c main_v8) 1 (by rw [(V_place1 m c).1]; rfl) (by rw [(V_place1 m c).2]; rfl)).1 ⟨d.val * 4 + h.val, by omega⟩).trans ?_
  exact V_second m c d h

theorem V_wts (c : Dev nD) (j : Fin 3) (n : Fin 1536) : (V m c main_v15 : FVec Ideal S3x1536 .f32) (ix2 j n)
    = m ((c : Thread nD τ).loc main_arg3) (ix3 0 j n) := by
  simp only [V, hostOps0, StableHlo.TRef.binary, StableHlo.TRef.unary, StableHlo.TRef.toBuf, StableHlo.TRef.ofBuf, cast_eq]
  after_results_simp
  pointwise

theorem V_gnorm (c : Dev nD) (n : Fin 128) : (V m c main_v14 : FVec Ideal S1x128 .f32) (ix2 0 n)
    = m ((c : Thread nD τ).loc main_arg6) (ix2 0 n) := by
  simp only [V, hostOps0, StableHlo.TRef.binary, StableHlo.TRef.unary, StableHlo.TRef.toBuf, StableHlo.TRef.ofBuf, cast_eq]
  after_results_simp
  pointwise

end Cert.DeltaIdeal.Host

end
-- ==== Proof.DeltaOut.lean ====
/-
  The delta rule's three results, from the arguments: real queries, keys, values, decays and step sizes, the outputs of
  both orders, their norm and gate, and the two last states.
-/
module

public import proofs.«01_k».proof.Proof.DeltaMath
public import proofs.«01_k».proof.Proof.DeltaIn

@[expose] public section

noncomputable section

open Idealize.ShloMosaic Idealize.ShloMosaic.TcCoe Idealize.SL.Sem

namespace Cert.DeltaOut

open Cert.DeltaIn Cert.DeltaMath

variable (X : Fin 8192 → Fin 1536 → EReal) (W : Fin 3 → Fin 1536 → EReal) (B : Fin 8192 → Fin 128 → EReal)
  (A T : Fin 2 → Fin 4 → EReal) (Z : Fin 8192 → Fin 512 → EReal) (N : Fin 128 → EReal)

def qR (b : Fin 32) (h : Fin 4) (i : Fin 256) (e : Fin 128) : ℝ := (qE X W b h i e).toReal
def kR (b : Fin 32) (h : Fin 4) (i : Fin 256) (e : Fin 128) : ℝ := (kE X W b h i e).toReal
def vR (b : Fin 32) (h : Fin 4) (i : Fin 256) (e : Fin 128) : ℝ := (vE X W b h i e).toReal
def gR (d : Fin 2) (b : Fin 32) (h : Fin 4) (i : Fin 256) : ℝ := (gE B A T d b h i).toReal
def bR (d : Fin 2) (b : Fin 32) (h : Fin 4) (i : Fin 256) : ℝ := (bE B d b h i).toReal

/-- The sum of the outputs of both orders. -/
def oR (b : Fin 32) (h : Fin 4) (i : Fin 256) (e : Fin 128) : ℝ :=
  outc false (qR X W b h) (kR X W b h) (vR X W b h) (gR B A T 0 b h) (bR B 0 b h) i e
    + outc true (qR X W b h) (kR X W b h) (vR X W b h) (gR B A T 1 b h) (bR B 1 b h) i e

/-- The normalised and gated output. -/
def yH (b : Fin 32) (h : Fin 4) (i : Fin 256) (e : Fin 128) (z : EReal) : EReal :=
  ((oR X W B A T b h i e : ℝ) : EReal)
    * Ideal.rsqrt (Ideal.div (∑ l, ((oR X W B A T b h i l : ℝ) : EReal) * ((oR X W B A T b h i l : ℝ) : EReal)) (Ideal.ofBits FTy.f32 0x43000000#32) + eps)
    * N e * sl z

/-- The outputs, at a row and a column of the result. -/
def yE (R : Fin 8192) (C : Fin 512) : EReal :=
  yH X W B A T N ⟨R.val / 256, by omega⟩ ⟨C.val / 128, by omega⟩ ⟨R.val % 256, by omega⟩ ⟨C.val % 128, by omega⟩ (Z R C)

theorem yE_at (b : Fin 32) (h : Fin 4) (i : Fin 256) (e : Fin 128) :
    yE X W B A T Z N (row b i) (ocol h e) = yH X W B A T N b h i e (Z (row b i) (ocol h e)) := by
  unfold yE
  congr 1
  · exact Fin.ext (by dsimp only [row]; omega)
  · exact Fin.ext (by dsimp only [ocol]; omega)
  · exact Fin.ext (by dsimp only [row]; omega)
  · exact Fin.ext (by dsimp only [ocol]; omega)

/-- The last state of the forward order (`o = false`, `d = 0`) or the backward one. -/
def fE (o : Bool) (d : Fin 2) (b : Fin 32) (h : Fin 4) (e f : Fin 128) : EReal :=
  ((fin o (kR X W b h) (vR X W b h) (gR B A T d b h) (bR B d b h) e f : ℝ) : EReal)

end Cert.DeltaOut

end
-- ==== Proof.DeltaVal.lean ====
/-
  The delta rule's kernel: its blocks of the arguments, what it stores of them, and its three results.
-/
module

public import proofs.«01_k».proof.Proof.DeltaPay
public import proofs.«01_k».proof.Proof.DeltaBody
public import proofs.«01_k».proof.Proof.DeltaHost
public import proofs.«01_k».proof.Proof.DeltaOut

@[expose] public section

set_option maxRecDepth 16384

noncomputable section

open Idealize.ShloMosaic Idealize.ShloMosaic.TcCoe Idealize.SL.Sem

namespace Cert.DeltaIdeal.Val

open Cert.DeltaIdeal Cert.DeltaIdeal.Gen Cert.DeltaIn Cert.DeltaOut Cert.DeltaMath Cert.DeltaIdeal.Form Cert.DeltaIdeal.Body

variable (m : (ℓ : Loc nD τ sig) → Buf (Elt Ideal) ℓ) (c : Dev nD)

theorem idx0 : ∀ t : Fin cfg0.N, win0_0.index t = ![t.val / 4, t.val % 4] := by decide +kernel
theorem idx1 : ∀ t : Fin cfg0.N, win0_1.index t = ![t.val / 4, 4 + t.val % 4] := by decide +kernel
theorem idx2 : ∀ t : Fin cfg0.N, win0_2.index t = ![t.val / 4, 8 + t.val % 4] := by decide +kernel
theorem idx3 : ∀ t : Fin cfg0.N, win0_3.index t = ![0, t.val % 4] := by decide +kernel
theorem idx4 : ∀ t : Fin cfg0.N, win0_4.index t = ![0, 4 + t.val % 4] := by decide +kernel
theorem idx5 : ∀ t : Fin cfg0.N, win0_5.index t = ![0, 8 + t.val % 4] := by decide +kernel
theorem idx6 : ∀ t : Fin cfg0.N, win0_6.index t = ![t.val / 4, t.val % 4] := by decide +kernel
theorem idx7 : ∀ t : Fin cfg0.N, win0_7.index t = ![t.val / 4, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![t.val / 4, t.val % 4] := by decide +kernel
theorem idx11 : ∀ t : Fin cfg0.N, win0_11.index t = ![t.val / 4, t.val % 4, 0, 0] := by decide +kernel
theorem idx12 : ∀ t : Fin cfg0.N, win0_12.index t = ![t.val / 4, t.val % 4, 0, 0] := by decide +kernel
theorem head : ∀ t : Fin cfg0.N, (grid0.coords t 1).val = t.val % 4 := by decide +kernel

/-- The arguments as functions. -/
abbrev X : Fin 8192 → Fin 1536 → EReal := fun r n => m (c.tc.loc main_arg0) (ix2 r n)
abbrev Z : Fin 8192 → Fin 512 → EReal := fun r n => m (c.tc.loc main_arg1) (ix2 r n)
abbrev B : Fin 8192 → Fin 128 → EReal := fun r n => m (c.tc.loc main_arg2) (ix2 r n)
abbrev W : Fin 3 → Fin 1536 → EReal := fun j n => m (c.tc.loc main_arg3) (ix3 0 j n)
abbrev A : Fin 2 → Fin 4 → EReal := fun d h => m (c.tc.loc main_arg4) (ix3 0 d h)
abbrev T : Fin 2 → Fin 4 → EReal := fun d h => m (c.tc.loc main_arg5) (ix3 0 d h)
abbrev N : Fin 128 → EReal := fun e => m (c.tc.loc main_arg6) (ix2 0 e)

/-- The grid point of a context and a head. -/
def pt (b : Fin 32) (h : Fin 4) : Fin cfg0.N := ⟨b.val * 4 + h.val, by show _ < 128; omega⟩

variable (b : Fin 32) (h : Fin 4)

theorem pt_div : (pt b h).val / 4 = b.val := by show (b.val * 4 + h.val) / 4 = _; omega
theorem pt_mod : (pt b h).val % 4 = h.val := by show (b.val * 4 + h.val) % 4 = _; omega

theorem blk0 (i : Fin 256) (e : Fin 128) : iblk m c 0 (pt b h) (ix2 i e) = X m c (row b i) (col 0 h e) := by
  unfold X row col
  rw [← V_main_arg0 m c]
  blk_ext [iblk, idx0 (pt b h), pt_div b h, pt_mod b h]

theorem blk1 (i : Fin 256) (e : Fin 128) : iblk m c 1 (pt b h) (ix2 i e) = X m c (row b i) (col 1 h e) := by
  unfold X row col
  rw [← V_main_arg0 m c]
  blk_ext [iblk, idx1 (pt b h), pt_div b h, pt_mod b h]

theorem blk2 (i : Fin 256) (e : Fin 128) : iblk m c 2 (pt b h) (ix2 i e) = X m c (row b i) (col 2 h e) := by
  unfold X row col
  rw [← V_main_arg0 m c]
  blk_ext [iblk, idx2 (pt b h), pt_div b h, pt_mod b h]

theorem blk3 (j : Fin 3) (e : Fin 128) : iblk m c 3 (pt b h) (ix2 j e) = W m c j (col 0 h e) := by
  refine Eq.trans ?_ (Host.V_wts m c j (col 0 h e))
  unfold col
  blk_ext [iblk, idx3 (pt b h), pt_div b h, pt_mod b h]

theorem blk4 (j : Fin 3) (e : Fin 128) : iblk m c 4 (pt b h) (ix2 j e) = W m c j (col 1 h e) := by
  refine Eq.trans ?_ (Host.V_wts m c j (col 1 h e))
  unfold col
  blk_ext [iblk, idx4 (pt b h), pt_div b h, pt_mod b h]

theorem blk5 (j : Fin 3) (e : Fin 128) : iblk m c 5 (pt b h) (ix2 j e) = W m c j (col 2 h e) := by
  refine Eq.trans ?_ (Host.V_wts m c j (col 2 h e))
  unfold col
  blk_ext [iblk, idx5 (pt b h), pt_div b h, pt_mod b h]

theorem blk6 (i : Fin 256) (e : Fin 128) : iblk m c 6 (pt b h) (ix2 i e) = Z m c (row b i) (ocol h e) := by
  unfold Z row ocol
  rw [← V_main_arg1 m c]
  blk_ext [iblk, idx6 (pt b h), pt_div b h, pt_mod b h]

theorem blk7 (i : Fin 256) (n : Fin 128) : iblk m c 7 (pt b h) (ix2 i n) = B m c (row b i) n := by
  unfold B row
  rw [← V_main_arg2 m c]
  blk_ext [iblk, idx7 (pt b h), pt_div b h, pt_mod b h]

theorem blk8 (q : Fin 8) (n : Fin 128) : iblk m c 8 (pt b h) (ix2 q n) = (V m c main_v12 : FVec Ideal S8x128 .f32) (ix2 q n) := by
  blk_ext [iblk, idx8 (pt b h), pt_div b h, pt_mod b h]

theorem blk9 (e : Fin 128) : iblk m c 9 (pt b h) (ix2 0 e) = N m c e := by
  refine Eq.trans ?_ (Host.V_gnorm m c e)
  blk_ext [iblk, idx9 (pt b h), pt_div b h, pt_mod b h]

theorem row0_at (p : Vec Ideal S8x128 .f32) (n : Fin 128) : row0 p (ix2 0 n) = p (ix2 0 n) := by
  refine congrArg p ?_
  funext a
  match a with
  | ⟨0, _⟩ => rfl
  | ⟨1, _⟩ => apply Fin.ext; show 0 + 1 * n.val = n.val; omega

theorem row1_at (p : Vec Ideal S8x128 .f32) (n : Fin 128) : row1 p (ix2 0 n) = p (ix2 1 n) := by
  refine congrArg p ?_
  funext a
  match a with
  | ⟨0, _⟩ => rfl
  | ⟨1, _⟩ => apply Fin.ext; show 0 + 1 * n.val = n.val; omega

/-! ## What the kernel stores -/

abbrev Q' : FVec Ideal S256x128 .f32 := qS (iblk m c 0 (pt b h)) (iblk m c 3 (pt b h))
abbrev K' : FVec Ideal S256x128 .f32 := kS (iblk m c 1 (pt b h)) (iblk m c 4 (pt b h))
abbrev V' : FVec Ideal S256x128 .f32 := vS (iblk m c 2 (pt b h)) (iblk m c 5 (pt b h))
abbrev G' : FVec Ideal S256x128 .f32 :=
  gS (BitVec.ofNat 32 h.val) (iblk m c 7 (pt b h)) (row0 (iblk m c 8 (pt b h))) (row1 (iblk m c 8 (pt b h)))

theorem act0 (i : Fin 256) : Pay.blkAct (iblk m c 0 (pt b h)) (iblk m c 3 (pt b h)) i = fun l => act (X m c) (W m c) b (col 0 h l) i := by
  funext l
  unfold Pay.blkAct act
  simp only [blk0 m c b h, blk3 m c b h]

theorem act1 (i : Fin 256) : Pay.blkAct (iblk m c 1 (pt b h)) (iblk m c 4 (pt b h)) i = fun l => act (X m c) (W m c) b (col 1 h l) i := by
  funext l
  unfold Pay.blkAct act
  simp only [blk1 m c b h, blk4 m c b h]

theorem act2 (i : Fin 256) : Pay.blkAct (iblk m c 2 (pt b h)) (iblk m c 5 (pt b h)) i = fun l => act (X m c) (W m c) b (col 2 h l) i := by
  funext l
  unfold Pay.blkAct act
  simp only [blk2 m c b h, blk5 m c b h]

section Finite

variable (hX : ∀ r n, Fi (X m c r n)) (hW : ∀ j n, Fi (W m c j n)) (hB : ∀ r n, Fi (B m c r n)) (hA : ∀ d h, Fi (A m c d h))
  (hT : ∀ d h, Fi (T m c d h))

include hX hW in
theorem repQ : RepW (Q' m c b h) (qR (X m c) (W m c) b h) := fun i e =>
  (Pay.queries _ _ i e).trans ((by rw [act0]; rfl : _ = qE (X m c) (W m c) b h i e).trans (Fi.qE hX hW b h i e).eq)

include hX hW in
theorem repK : RepW (K' m c b h) (kR (X m c) (W m c) b h) := fun i e =>
  (Pay.keys _ _ i e).trans ((by rw [act1]; rfl : _ = kE (X m c) (W m c) b h i e).trans (Fi.kE hX hW b h i e).eq)

include hX hW in
theorem repV : RepW (V' m c b h) (vR (X m c) (W m c) b h) := fun i e =>
  (Pay.pay8 _ _ i e).trans ((by rw [act2]; rfl : _ = vE (X m c) (W m c) b h i e).trans (Fi.vE hX hW b h i e).eq)

include hB hA hT in
theorem repG0 (i : Fin 256) : G' m c b h (ix2 i 0) = ((gR (B m c) (A m c) (T m c) 0 b h i : ℝ) : EReal) := by
  refine (Pay.gates0 _ h _ _ i).trans (Eq.trans ?_ (Fi.gE hB hA hT 0 b h i).eq)
  rw [row0_at, row1_at, blk7, blk8, blk8, Host.tbl0, Host.tbl1]
  rfl

include hB hA hT in
theorem repG1 (i : Fin 256) : G' m c b h (ix2 i 1) = ((gR (B m c) (A m c) (T m c) 1 b h i : ℝ) : EReal) := by
  refine (Pay.gates1 _ h _ _ i).trans (Eq.trans ?_ (Fi.gE hB hA hT 1 b h i).eq)
  rw [row0_at, row1_at, blk7, blk8, blk8, Host.tbl0, Host.tbl1]
  rfl

include hB in
theorem repB0 (i : Fin 256) : G' m c b h (ix2 i 2) = ((bR (B m c) 0 b h i : ℝ) : EReal) := by
  refine (Pay.gates2 _ h _ _ i).trans (Eq.trans ?_ (Fi.bE hB 0 b h i).eq)
  rw [blk7]
  rfl

include hB in
theorem repB1 (i : Fin 256) : G' m c b h (ix2 i 3) = ((bR (B m c) 1 b h i : ℝ) : EReal) := by
  refine (Pay.gates3 _ h _ _ i).trans (Eq.trans ?_ (Fi.bE hB 1 b h i).eq)
  rw [blk7]
  rfl

include hX hW hB hA hT in
theorem repO : RepW (o2 (Q' m c b h) (K' m c b h) (V' m c b h) (G' m c b h)) (oR (X m c) (W m c) (B m c) (A m c) (T m c) b h) :=
  bwdOut (repG1 m c b h hB hA hT) (repB1 m c b h hB) (repQ m c b h hX hW) (repK m c b h hX hW) (repV m c b h hX hW)
    (fwdOut (repG0 m c b h hB hA hT) (repB0 m c b h hB) (repQ m c b h hX hW) (repK m c b h hX hW) (repV m c b h hX hW))

/-- The norm and the gate of the outputs. -/
theorem outRow (O : FVec Ideal S256x128 .f32) (i : Fin 256) (e : Fin 128) (Nn : FVec Ideal S256x128 .f32)
    (gn : Vec Ideal S1x128 .f32) (z : Vec Ideal S256x128 .f32) :
    k0_pay1 (F := Ideal) O Nn gn z (ix2 i e) = O (ix2 i e) * Nn (ix2 i e) * gn (ix2 0 e) * sl (z (ix2 i e)) := by
  pointwise [k0_pay1, sl, sg]
  simp only [zero_sub]

theorem normRow (Q K V G : FVec Ideal S256x128 .f32) (i : Fin 256) (e : Fin 128) : n2 Q K V G (ix2 i e)
    = Ideal.rsqrt (Ideal.div (∑ l, o2 Q K V G (ix2 i l) * o2 Q K V G (ix2 i l)) (Ideal.ofBits FTy.f32 0x43000000#32) + eps) := by
  unfold n2 o2 k0_pay55
  generalize k0_pay52 (F := Ideal) _ _ _ _ _ _ _ _ _ = O
  pointwise [eps]

include hX hW hB hA hT in
theorem point10 (i : Fin 256) (e : Fin 128) :
    k0_pay1 (F := Ideal) (o2 (Q' m c b h) (K' m c b h) (V' m c b h) (G' m c b h)) (n2 (Q' m c b h) (K' m c b h) (V' m c b h) (G' m c b h))
      (iblk m c 9 (pt b h)) (iblk m c 6 (pt b h)) (ix2 i e)
      = yE (X m c) (W m c) (B m c) (A m c) (T m c) (Z m c) (N m c) (row b i) (ocol h e) := by
  have hO := repO m c b h hX hW hB hA hT
  rw [yE_at, outRow, normRow]
  simp only [hO i]
  rw [blk9 m c b h, blk6 m c b h]
  rfl

theorem stateAt (S : FVec Ideal S128x128 .f32) (e f : Fin 128) : k0_pay53 (F := Ideal) S (ix4 0 0 e f) = S (ix2 e f) := by
  pointwise [k0_pay53]

include hX hW hB hA hT in
theorem point11 (e f : Fin 128) : k0_pay53 (F := Ideal) (s1 (K' m c b h) (V' m c b h) (G' m c b h)) (ix4 0 0 e f)
    = fE (X m c) (W m c) (B m c) (A m c) (T m c) false 0 b h e f := by
  refine Eq.trans ?_ (fwdFin (repG0 m c b h hB hA hT) (repB0 m c b h hB) (repK m c b h hX hW) (repV m c b h hX hW) e f)
  exact stateAt _ e f

include hX hW hB hA hT in
theorem point12 (e f : Fin 128) : s2 (K' m c b h) (V' m c b h) (G' m c b h) (ix4 0 0 e f)
    = fE (X m c) (W m c) (B m c) (A m c) (T m c) true 1 b h e f :=
  bwdFin (repG1 m c b h hB hA hT) (repB1 m c b h hB) (repK m c b h hX hW) (repV m c b h hX hW) e f

/-! ## The arrays after the run -/

theorem flush10 : ∀ t : Fin cfg0.N, (cfg0.win 10).flush t = true := by decide +kernel
theorem flush11 : ∀ t : Fin cfg0.N, (cfg0.win 11).flush t = true := by decide +kernel
theorem flush12 : ∀ t : Fin cfg0.N, (cfg0.win 12).flush t = true := by decide +kernel

theorem headb : BitVec.ofNat 32 (grid0.coords (pt b h) 1).val = BitVec.ofNat 32 h.val := by rw [head, pt_mod]

include hX hW hB hA hT in
theorem final10 (i : Fin 256) (e : Fin 128) : (dats m 0 c).arrAt 10 cfg0.N (ix2 (row b i) (ocol h e))
    = yE (X m c) (W m c) (B m c) (A m c) (T m c) (Z m c) (N m c) (row b i) (ocol h e) := by
  have hv := congrFun (Value.blocks10 m c (pt b h) (flush10 _)) (ix2 i e)
  rw [View.read_apply, Value.flushed10_A, out10, headb] at hv
  have he : ((cfg0.win 10).blk (pt b h)).view.emb (ix2 i e) = ix2 (row b i) (ocol h e) := by
    unfold row ocol
    blk_ext [idx10 (pt b h), pt_div b h, pt_mod b h]
  rw [he] at hv
  exact hv.trans (point10 m c b h hX hW hB hA hT i e)

include hX hW hB hA hT in
theorem final11 (e f : Fin 128) : (dats m 0 c).arrAt 11 cfg0.N (ix4 b h e f)
    = fE (X m c) (W m c) (B m c) (A m c) (T m c) false 0 b h e f := by
  have hv := congrFun (Value.blocks11 m c (pt b h) (flush11 _)) (ix4 0 0 e f)
  rw [View.read_apply, Value.flushed11_A, out11, headb] at hv
  have he : ((cfg0.win 11).blk (pt b h)).view.emb (ix4 0 0 e f) = ix4 b h e f := by
    blk_ext [idx11 (pt b h), pt_div b h, pt_mod b h]
  rw [he] at hv
  exact hv.trans (point11 m c b h hX hW hB hA hT e f)

include hX hW hB hA hT in
theorem final12 (e f : Fin 128) : (dats m 0 c).arrAt 12 cfg0.N (ix4 b h e f)
    = fE (X m c) (W m c) (B m c) (A m c) (T m c) true 1 b h e f := by
  have hv := congrFun (Value.blocks12 m c (pt b h) (flush12 _)) (ix4 0 0 e f)
  rw [View.read_apply, Value.flushed12_A, out12, headb] at hv
  have he : ((cfg0.win 12).blk (pt b h)).view.emb (ix4 0 0 e f) = ix4 b h e f := by
    blk_ext [idx12 (pt b h), pt_div b h, pt_mod b h]
  rw [he] at hv
  exact hv.trans (point12 m c b h hX hW hB hA hT e f)

end Finite

end Cert.DeltaIdeal.Val

end
-- ==== Proof.DeltaLoop.lean ====
/-
  The reference's loop over the tokens: one trip reads a token of each order, and after `n` trips the state and the
  outputs are those of the recurrence over the reals.
-/
module

public import proofs.«01_k».proof.Proof.Gen.DeltaRefIdeal.Step
public import proofs.«01_k».proof.Proof.DeltaMath
public import Idealize.ShloMosaic.Lib.Pointwise

@[expose] public section

noncomputable section

open Idealize.ShloMosaic Idealize.ShloMosaic.TcCoe Idealize.SL.Sem

namespace Cert.DeltaRefIdeal.Loop

open Cert.DeltaRefIdeal Cert.DeltaRefIdeal.Gen Cert.DeltaRefIdeal.Step Cert.DeltaMath

/-- A finite sum of real numbers, as extended real numbers. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

variable (s : State Ideal) (n : Fin 256) (d : Fin 2) (b : Fin 32) (h : Fin 4) (e f : Fin 128)

theorem toInt_small (n : ℕ) (h : n < 256) : (BitVec.ofNat 32 n).toInt = (n : ℤ) := by
  have h1 : (BitVec.ofNat 32 n).toNat = n := by rw [BitVec.toNat_ofNat]; omega
  rw [BitVec.toInt_eq_toNat_of_lt (by rw [h1]; omega), h1]

/-- The first coordinate of a trip's slices is the trip's number, the others are zero: rank five. -/
theorem cl5 (ht : S1x2x32x4x128.rank = S256x2x32x4x128.rank) (a : Fin S256x2x32x4x128.rank) :
    Host.clampedStart S256x2x32x4x128 S1x2x32x4x128 ht (fun k => BitVec.toInt
      ((![constantI S_ 32 (BitVec.ofNat 32 n.val), constantI S_ 32 0#32, constantI S_ 32 0#32, constantI S_ 32 0#32,
        constantI S_ 32 0#32] : Fin 5 → IVec S_ 32) k (Shape.Idx.first h_S_))) a = (![n.val, 0, 0, 0, 0] : Fin 5 → ℕ) a := by
  match a with
  | ⟨0, _⟩ => exact Host.clampedStart_of_le _ _ _ n.val (toInt_small _ n.isLt) n.isLt
  | ⟨1, _⟩ => exact Host.clampedStart_of_le _ _ _ 0 rfl (le_refl 2)
  | ⟨2, _⟩ => exact Host.clampedStart_of_le _ _ _ 0 rfl (le_refl 32)
  | ⟨3, _⟩ => exact Host.clampedStart_of_le _ _ _ 0 rfl (le_refl 4)
  | ⟨4, _⟩ => exact Host.clampedStart_of_le _ _ _ 0 rfl (le_refl 128)

/-- The same at rank four. -/
theorem cl4 (ht : S1x2x32x4.rank = S256x2x32x4.rank) (a : Fin S256x2x32x4.rank) :
    Host.clampedStart S256x2x32x4 S1x2x32x4 ht (fun k => BitVec.toInt
      ((![constantI S_ 32 (BitVec.ofNat 32 n.val), constantI S_ 32 0#32, constantI S_ 32 0#32, constantI S_ 32 0#32]
        : Fin 4 → IVec S_ 32) k (Shape.Idx.first h_S_))) a = (![n.val, 0, 0, 0] : Fin 4 → ℕ) a := by
  match a with
  | ⟨0, _⟩ => exact Host.clampedStart_of_le _ _ _ n.val (toInt_small _ n.isLt) n.isLt
  | ⟨1, _⟩ => exact Host.clampedStart_of_le _ _ _ 0 rfl (le_refl 2)
  | ⟨2, _⟩ => exact Host.clampedStart_of_le _ _ _ 0 rfl (le_refl 32)
  | ⟨3, _⟩ => exact Host.clampedStart_of_le _ _ _ 0 rfl (le_refl 4)

theorem q_at : b5 n.val s (ix4 d b h e) = s.main_v111_0 (ix5 n d b h e) := by
  unfold b5
  pointwise
  unfold b4 b3 b2 b1 b0
  rw [Host.dynamicSlice_apply]
  refine congrArg s.main_v111_0 (funext fun a => Fin.ext ?_)
  refine (congrArg (· + _) (cl5 n _ a)).trans ?_
  match a with
  | ⟨0, _⟩ => rfl
  | ⟨1, _⟩ => exact Nat.zero_add _
  | ⟨2, _⟩ => exact Nat.zero_add _
  | ⟨3, _⟩ => exact Nat.zero_add _
  | ⟨4, _⟩ => exact Nat.zero_add _

theorem k_at : b11 n.val s (ix4 d b h e) = s.main_v111_1 (ix5 n d b h e) := by
  unfold b11
  pointwise
  unfold b10 b9 b8 b7 b6
  rw [Host.dynamicSlice_apply]
  refine congrArg s.main_v111_1 (funext fun a => Fin.ext ?_)
  refine (congrArg (· + _) (cl5 n _ a)).trans ?_
  match a with
  | ⟨0, _⟩ => rfl
  | ⟨1, _⟩ => exact Nat.zero_add _
  | ⟨2, _⟩ => exact Nat.zero_add _
  | ⟨3, _⟩ => exact Nat.zero_add _
  | ⟨4, _⟩ => exact Nat.zero_add _

theorem v_at : b17 n.val s (ix4 d b h e) = s.main_v111_2 (ix5 n d b h e) := by
  unfold b17
  pointwise
  unfold b16 b15 b14 b13 b12
  rw [Host.dynamicSlice_apply]
  refine congrArg s.main_v111_2 (funext fun a => Fin.ext ?_)
  refine (congrArg (· + _) (cl5 n _ a)).trans ?_
  match a with
  | ⟨0, _⟩ => rfl
  | ⟨1, _⟩ => exact Nat.zero_add _
  | ⟨2, _⟩ => exact Nat.zero_add _
  | ⟨3, _⟩ => exact Nat.zero_add _
  | ⟨4, _⟩ => exact Nat.zero_add _

theorem g_at : b22 n.val s (ix3 d b h) = s.main_v111_3 (ix4 n d b h) := by
  unfold b22
  pointwise
  unfold b21 b20 b19 b18
  rw [Host.dynamicSlice_apply]
  refine congrArg s.main_v111_3 (funext fun a => Fin.ext ?_)
  refine (congrArg (· + _) (cl4 n _ a)).trans ?_
  match a with
  | ⟨0, _⟩ => rfl
  | ⟨1, _⟩ => exact Nat.zero_add _
  | ⟨2, _⟩ => exact Nat.zero_add _
  | ⟨3, _⟩ => exact Nat.zero_add _

theorem beta_at : b27 n.val s (ix3 d b h) = s.main_v111_4 (ix4 n d b h) := by
  unfold b27
  pointwise
  unfold b26 b25 b24 b23
  rw [Host.dynamicSlice_apply]
  refine congrArg s.main_v111_4 (funext fun a => Fin.ext ?_)
  refine (congrArg (· + _) (cl4 n _ a)).trans ?_
  match a with
  | ⟨0, _⟩ => rfl
  | ⟨1, _⟩ => exact Nat.zero_add _
  | ⟨2, _⟩ => exact Nat.zero_add _
  | ⟨3, _⟩ => exact Nat.zero_add _

theorem out_at (τ : Fin 256) : b49 n.val s (ix5 τ d b h e) = if τ = n then b43 n.val s (ix4 d b h e) else s.main_v111_7 (ix5 τ d b h e) := by
  unfold b49 b48 b47 b46 b45
  rw [Host.dynamicUpdateSlice_apply]
  simp only [cl5]
  by_cases hτ : τ = n
  · subst hτ
    rw [if_pos rfl, dif_pos]
    · unfold b44
      pointwise
    · intro a
      match a with
      | ⟨0, _⟩ => exact ⟨le_refl _, Nat.lt_succ_self _⟩
      | ⟨1, _⟩ => exact ⟨Nat.zero_le _, lt_of_lt_of_eq d.isLt (Nat.zero_add _).symm⟩
      | ⟨2, _⟩ => exact ⟨Nat.zero_le _, lt_of_lt_of_eq b.isLt (Nat.zero_add _).symm⟩
      | ⟨3, _⟩ => exact ⟨Nat.zero_le _, lt_of_lt_of_eq h.isLt (Nat.zero_add _).symm⟩
      | ⟨4, _⟩ => exact ⟨Nat.zero_le _, lt_of_lt_of_eq e.isLt (Nat.zero_add _).symm⟩
  · rw [if_neg hτ, dif_neg]
    intro hh
    have h0 := hh 0
    apply hτ
    apply Fin.ext
    have h1 : n.val ≤ τ.val := h0.1
    have h2 : τ.val < n.val + 1 := h0.2
    omega

/-- One trip's new state. -/
theorem st_at : b42 n.val s (ix5 d b h e f) = s.main_v111_6 (ix5 d b h e f) * Ideal.exp (s.main_v111_3 (ix4 n d b h))
    + s.main_v111_1 (ix5 n d b h e) * ((s.main_v111_2 (ix5 n d b h f)
      - ∑ x : Fin 128, s.main_v111_1 (ix5 n d b h x) * (s.main_v111_6 (ix5 d b h x f) * Ideal.exp (s.main_v111_3 (ix4 n d b h))))
        * s.main_v111_4 (ix4 n d b h)) := by
  unfold b42 b41 b40 b39 b38 b37 b36 b35 b34 b33
  pointwise
  unfold b32 b31 b30 b29 b28
  pointwise
  simp only [k_at, v_at, g_at, beta_at]

/-- One trip's outputs, from the new state. -/
theorem o_at : b43 n.val s (ix4 d b h f) = ∑ x : Fin 128, s.main_v111_0 (ix5 n d b h x) * b42 n.val s (ix5 d b h x f) := by
  unfold b43
  pointwise
  simp only [q_at]

/-! ## The invariant -/

/-- The first component of the stacked arrays runs forwards, the second backwards. -/
def ord (d : Fin 2) : Bool := d = 1

variable (Q K V : Fin 32 → Fin 4 → Fin 256 → Fin 128 → ℝ) (G B : Fin 2 → Fin 32 → Fin 4 → Fin 256 → ℝ)

/-- The stacked arrays hold real numbers, each order's tokens in its own order. -/
structure Ins (s : State Ideal) : Prop where
  q : ∀ n d b h e, s.main_v111_0 (ix5 n d b h e) = ((Q b h (tok (ord d) n) e : ℝ) : EReal)
  k : ∀ n d b h e, s.main_v111_1 (ix5 n d b h e) = ((K b h (tok (ord d) n) e : ℝ) : EReal)
  v : ∀ n d b h e, s.main_v111_2 (ix5 n d b h e) = ((V b h (tok (ord d) n) e : ℝ) : EReal)
  g : ∀ n d b h, s.main_v111_3 (ix4 n d b h) = ((G d b h (tok (ord d) n) : ℝ) : EReal)
  b : ∀ n d b h, s.main_v111_4 (ix4 n d b h) = ((B d b h (tok (ord d) n) : ℝ) : EReal)

/-- After `n` trips. -/
structure Inv (n : ℕ) (s : State Ideal) : Prop where
  ins : Ins Q K V G B s
  st : ∀ d b h e f, s.main_v111_6 (ix5 d b h e f) = ((st (ord d) (K b h) (V b h) (G d b h) (B d b h) n e f : ℝ) : EReal)
  out : ∀ τ : Fin 256, τ.val < n → ∀ d b h f, s.main_v111_7 (ix5 τ d b h f)
    = ((outc (ord d) (Q b h) (K b h) (V b h) (G d b h) (B d b h) (tok (ord d) τ) f : ℝ) : EReal)

variable {Q K V G B}

theorem st_next (s : State Ideal) (n : Fin 256) (hs : Inv Q K V G B n.val s) (d : Fin 2) (b : Fin 32) (h : Fin 4) (e f : Fin 128) :
    b42 n.val s (ix5 d b h e f) = ((DeltaMath.st (ord d) (K b h) (V b h) (G d b h) (B d b h) (n.val + 1) e f : ℝ) : EReal) := by
  rw [st_at]
  simp only [hs.st, hs.ins.k, hs.ins.v, hs.ins.g, hs.ins.b, Ideal.exp_coe, ← EReal.coe_mul, ← coe_sum, ← EReal.coe_sub,
    ← EReal.coe_add]
  rw [DeltaMath.st]
  dsimp only
  rw [dif_pos n.isLt]

theorem inv_step (s : State Ideal) (n : Fin 256) (hs : Inv Q K V G B n.val s) : Inv Q K V G B (n.val + 1) (step n.val s) where
  ins := ⟨hs.ins.q, hs.ins.k, hs.ins.v, hs.ins.g, hs.ins.b⟩
  st := fun d b h e f => st_next s n hs d b h e f
  out := fun τ hτ d b h f => by
    show b49 n.val s (ix5 τ d b h f) = _
    rw [out_at]
    by_cases hn : τ = n
    · subst hn
      rw [if_pos rfl, o_at, ← out_eq (ord d) (Q b h) (K b h) (V b h) (G d b h) (B d b h) τ.val τ.isLt, coe_sum]
      exact Finset.sum_congr rfl fun x _ => by rw [st_next s τ hs, hs.ins.q, EReal.coe_mul]
    · rw [if_neg hn]
      refine hs.out τ ?_ d b h f
      have : τ.val ≠ n.val := fun hh => hn (Fin.ext hh)
      omega

/-- After all trips. -/
theorem inv_all (it : ℕ → State Ideal) (h0 : Inv Q K V G B 0 (it 0)) (hs : ∀ n, it (n + 1) = step n (it n)) (n : ℕ) (hn : n ≤ 256) :
    Inv Q K V G B n (it n) := by
  induction n with
  | zero => exact h0
  | succ n ih => rw [hs]; exact inv_step _ ⟨n, hn⟩ (ih (by omega))

end Cert.DeltaRefIdeal.Loop

end
-- ==== Proof.DeltaRefIn.lean ====
/-
  The arrays that the reference's loop reads, at an index: the queries, keys, values, decays and step sizes of both
  orders, the backward order's tokens from the last on.
-/
module

public import proofs.«01_k».proof.Proof.DeltaLoop
public import proofs.«01_k».proof.Proof.DeltaIn

@[expose] public section

noncomputable section

open Idealize.ShloMosaic Idealize.ShloMosaic.TcCoe Idealize.SL.Sem

namespace Cert.DeltaRefIdeal.In

open Cert.DeltaRefIdeal Cert.DeltaRefIdeal.Gen Cert.DeltaRefIdeal.Step Cert.DeltaIn Cert.DeltaMath Cert.DeltaRefIdeal.Loop

theorem sit0 (f : FTy) : FloatOps.sitofp (F := Ideal) f (0#32) = 0 := by
  show ((((0#32 : BitVec 32).toInt : ℝ)) : EReal) = 0
  simp

theorem absf_eq (x : EReal) : FloatOps.absf (F := Ideal) (φ := .f32) x = max x (-x) := rfl

variable (x : FVec Ideal S8192x1536 .f32) (ba : FVec Ideal S8192x128 .f32) (w : FVec Ideal S1x3x1536 .f32)
  (al dt : FVec Ideal S1x2x4 .f32)

abbrev Xf : Fin 8192 → Fin 1536 → EReal := fun r n => x (ix2 r n)
abbrev Wf : Fin 3 → Fin 1536 → EReal := fun j n => w (ix3 0 j n)
abbrev Bf : Fin 8192 → Fin 128 → EReal := fun r n => ba (ix2 r n)
abbrev Af : Fin 2 → Fin 4 → EReal := fun d h => al (ix3 0 d h)

theorem conv (b : Fin 32) (i : Fin 256) (n : Fin 1536) : A_main_v26 (F := Ideal) x ba w al dt (ix3 b i n)
    = cv (fun j => Wf w j n) (fun k => Xf x (row b k) n) i := by
  pointwise [A_main_v26, A_main_v25, A_main_v24, A_main_v23, A_main_v22, A_main_v21, A_main_v20, A_main_v19, A_main_v18,
    A_main_v17, A_main_v16, A_main_v15, A_main_v14, A_main_v13, A_main_v12, A_main_v10, A_main_v9, A_main_v8, A_main_v7, A_main_v6,
    A_main_v5, A_main_v4, A_main_v3, A_main_v0, K_main_v11, K_main_cst, K_main_c, K_main_call0_v0]
  simp only [sit0]
  unfold cv
  congr 1
  · congr 2
    by_cases hi : i.val = 0
    · rw [if_pos hi, dif_neg (by omega)]
    · rw [if_neg hi, dif_pos (by omega)]
      congr 2
      exact Fin.ext (by dsimp only [row]; omega)
  · congr 1
    by_cases hi : i.val = 255
    · rw [if_pos hi, dif_neg (by omega)]
    · rw [if_neg hi, dif_pos (by omega)]
      congr 2
      exact Fin.ext (by dsimp only [row]; omega)

theorem acted (b : Fin 32) (i : Fin 256) (n : Fin 1536) : A_main_v27 (F := Ideal) x ba w al dt (ix3 b i n)
    = act (Xf x) (Wf w) b n i := by
  unfold act
  rw [← conv x ba w al dt b i n]
  unfold A_main_v27 A_main_call1_v5 A_main_call1_v3 A_main_call1_v1 A_main_call1_v0 K_main_call1_v4 K_main_call1_v2 K_main_call1_cst K_main_call1_cst_0
  generalize A_main_v26 (F := Ideal) _ _ _ _ _ = U
  pointwise [sl, sg]

theorem q0 (b : Fin 32) (h : Fin 4) (i : Fin 256) (e : Fin 128) : A_main_v42 (F := Ideal) x ba w al dt (ix4 b h i e)
    = qE (Xf x) (Wf w) b h i e := by
  unfold qE nrm
  simp only [← acted x ba w al dt]
  unfold A_main_v42 A_main_v40 A_main_v39 A_main_v38 A_main_v37 A_main_v35 A_main_v34 A_main_v33 A_main_v32 A_main_v31 A_main_v28 K_main_v41 K_main_cst_2 K_main_v36 K_main_cst_1 K_main_cst_0
  generalize A_main_v27 (F := Ideal) _ _ _ _ _ = U
  have hc : ∀ (l : Fin 128) (p : h.val * 128 + l.val < 1536), (⟨h.val * 128 + l.val, p⟩ : Fin 1536) = col 0 h l := fun l p =>
    Fin.ext (by simp [col])
  pointwise [eps, qs]
  simp only [hc]

theorem k0 (b : Fin 32) (h : Fin 4) (i : Fin 256) (e : Fin 128) : A_main_v52 (F := Ideal) x ba w al dt (ix4 b h i e)
    = kE (Xf x) (Wf w) b h i e := by
  unfold kE nrm
  simp only [← acted x ba w al dt]
  unfold A_main_v52 A_main_v51 A_main_v50 A_main_v49 A_main_v47 A_main_v46 A_main_v45 A_main_v44 A_main_v43 A_main_v29 K_main_v48 K_main_cst_4 K_main_cst_3
  generalize A_main_v27 (F := Ideal) _ _ _ _ _ = U
  have hc : ∀ (l : Fin 128) (p : 512 + (h.val * 128 + l.val) < 1536), (⟨512 + (h.val * 128 + l.val), p⟩ : Fin 1536) = col 1 h l :=
    fun l p => Fin.ext (by simp [col]; omega)
  pointwise [eps, qs]
  simp only [hc]

theorem v0 (b : Fin 32) (h : Fin 4) (i : Fin 256) (e : Fin 128) : A_main_v54 (F := Ideal) x ba w al dt (ix4 b h i e)
    = vE (Xf x) (Wf w) b h i e := by
  unfold vE
  simp only [← acted x ba w al dt]
  unfold A_main_v54 A_main_v53 A_main_v30
  generalize A_main_v27 (F := Ideal) _ _ _ _ _ = U
  have hc : ∀ (l : Fin 128) (p : 1024 + (h.val * 128 + l.val) < 1536), (⟨1024 + (h.val * 128 + l.val), p⟩ : Fin 1536) = col 2 h l :=
    fun l p => Fin.ext (by simp [col]; omega)
  pointwise
  simp only [hc]

theorem g0 (d : Fin 2) (b : Fin 32) (h : Fin 4) (i : Fin 256) : A_main_v75 (F := Ideal) x ba w al dt (ix4 d b h i)
    = gE (Bf ba) (Af al) (Af dt) d b h i := by
  pointwise [A_main_v75, A_main_v74, A_main_v73, A_main_call2_v11, A_main_call2_v10, A_main_call2_v9, A_main_call2_v8, A_main_call2_v7,
    A_main_call2_v6, A_main_call2_v4, A_main_call2_v3, A_main_call2_v1, A_main_v72, A_main_v71, A_main_v70, A_main_v69, A_main_v68, A_main_v67,
    A_main_v66, A_main_v65, A_main_v64, A_main_v1, A_main_v2, K_main_call2_v5, K_main_call2_v2, K_main_call2_v0, K_main_call2_cst]
  have hc : ∀ p : 8 + (d.val * 4 + h.val) < 128, (⟨8 + (d.val * 4 + h.val), p⟩ : Fin 128) = lane 1 d h :=
    fun p => Fin.ext (by simp [lane]; omega)
  simp only [hc, ne_eq, not_true_eq_false, if_false, absf_eq]
  rfl

theorem b0 (d : Fin 2) (b : Fin 32) (h : Fin 4) (i : Fin 256) : A_main_v63 (F := Ideal) x ba w al dt (ix4 d b h i)
    = bE (Bf ba) d b h i := by
  pointwise [A_main_v63, A_main_v61, A_main_v59, A_main_v58, A_main_v57, A_main_v56, A_main_v55, K_main_v62, K_main_cst_6, K_main_v60, K_main_cst_5, bE, sg]
  have hc : ∀ p : d.val * 4 + h.val < 128, (⟨d.val * 4 + h.val, p⟩ : Fin 128) = lane 0 d h :=
    fun p => Fin.ext (by simp [lane])
  simp only [hc]
  rfl

theorem rev_tok (n : Fin 256) : tok (ord 1) n = n.rev := Fin.ext (by simp [tok, ord, Fin.val_rev])

theorem fwd_tok (n : Fin 256) : tok (ord 0) n = n := by simp [tok, ord]

theorem q1 (n : Fin 256) (d : Fin 2) (b : Fin 32) (h : Fin 4) (e : Fin 128) : A_main_v105 (F := Ideal) x ba w al dt (ix5 n d b h e)
    = A_main_v42 (F := Ideal) x ba w al dt (ix4 b h (tok (ord d) n) e) := by
  unfold A_main_v105 A_main_v79 A_main_v78 A_main_v77 A_main_v76
  generalize A_main_v42 (F := Ideal) _ _ _ _ _ = U
  pointwise
  match d with
  | 0 => rw [fwd_tok]; simp
  | 1 => rw [rev_tok]; simp

theorem k1 (n : Fin 256) (d : Fin 2) (b : Fin 32) (h : Fin 4) (e : Fin 128) : A_main_v106 (F := Ideal) x ba w al dt (ix5 n d b h e)
    = A_main_v52 (F := Ideal) x ba w al dt (ix4 b h (tok (ord d) n) e) := by
  unfold A_main_v106 A_main_v83 A_main_v82 A_main_v81 A_main_v80
  generalize A_main_v52 (F := Ideal) _ _ _ _ _ = U
  pointwise
  match d with
  | 0 => rw [fwd_tok]; simp
  | 1 => rw [rev_tok]; simp

theorem v1 (n : Fin 256) (d : Fin 2) (b : Fin 32) (h : Fin 4) (e : Fin 128) : A_main_v107 (F := Ideal) x ba w al dt (ix5 n d b h e)
    = A_main_v54 (F := Ideal) x ba w al dt (ix4 b h (tok (ord d) n) e) := by
  unfold A_main_v107 A_main_v87 A_main_v86 A_main_v85 A_main_v84
  generalize A_main_v54 (F := Ideal) _ _ _ _ _ = U
  pointwise
  match d with
  | 0 => rw [fwd_tok]; simp
  | 1 => rw [rev_tok]; simp

theorem g1 (n : Fin 256) (d : Fin 2) (b : Fin 32) (h : Fin 4) : A_main_v108 (F := Ideal) x ba w al dt (ix4 n d b h)
    = A_main_v75 (F := Ideal) x ba w al dt (ix4 d b h (tok (ord d) n)) := by
  unfold A_main_v108 A_main_v95 A_main_v94 A_main_v93 A_main_v92 A_main_v91 A_main_v90 A_main_v89 A_main_v88
  generalize A_main_v75 (F := Ideal) _ _ _ _ _ = U
  pointwise
  match d with
  | 0 => rw [fwd_tok]; simp
  | 1 => rw [rev_tok]; simp

theorem b1 (n : Fin 256) (d : Fin 2) (b : Fin 32) (h : Fin 4) : A_main_v109 (F := Ideal) x ba w al dt (ix4 n d b h)
    = A_main_v63 (F := Ideal) x ba w al dt (ix4 d b h (tok (ord d) n)) := by
  unfold A_main_v109 A_main_v103 A_main_v102 A_main_v101 A_main_v100 A_main_v99 A_main_v98 A_main_v97 A_main_v96
  generalize A_main_v63 (F := Ideal) _ _ _ _ _ = U
  pointwise
  match d with
  | 0 => rw [fwd_tok]; simp
  | 1 => rw [rev_tok]; simp

end Cert.DeltaRefIdeal.In

end
-- ==== Proof.DeltaRefVal.lean ====
/-
  The reference's results, from its arguments: the loop's invariant before the first trip, and the operations after the
  loop at an index.
-/
module

public import proofs.«01_k».proof.Proof.DeltaRefIn
public import proofs.«01_k».proof.Proof.DeltaOut

@[expose] public section

noncomputable section

open Idealize.ShloMosaic Idealize.ShloMosaic.TcCoe Idealize.SL.Sem

namespace Cert.DeltaRefIdeal.RefVal

open Cert.DeltaRefIdeal Cert.DeltaRefIdeal.Gen Cert.DeltaRefIdeal.Step Cert.DeltaIn Cert.DeltaMath Cert.DeltaRefIdeal.Loop
  Cert.DeltaRefIdeal.In Cert.DeltaOut

variable (x : FVec Ideal S8192x1536 .f32) (ba : FVec Ideal S8192x128 .f32) (w : FVec Ideal S1x3x1536 .f32)
  (al dt : FVec Ideal S1x2x4 .f32)

/-- The loop's arrays and states before the first trip. -/
theorem inv0 (hx : ∀ r n, Fi (Xf x r n)) (hw : ∀ j n, Fi (Wf w j n)) (hb : ∀ r n, Fi (Bf ba r n)) (ha : ∀ d h, Fi (Af al d h))
    (ht : ∀ d h, Fi (Af dt d h)) :
    Inv (qR (Xf x) (Wf w)) (kR (Xf x) (Wf w)) (vR (Xf x) (Wf w)) (gR (Bf ba) (Af al) (Af dt)) (bR (Bf ba)) 0
      (init (F := Ideal) x ba w al dt) where
  ins :=
    { q := fun n d b h e => (q1 x ba w al dt n d b h e).trans ((q0 x ba w al dt b h _ e).trans (Fi.qE hx hw b h _ e).eq)
      k := fun n d b h e => (k1 x ba w al dt n d b h e).trans ((k0 x ba w al dt b h _ e).trans (Fi.kE hx hw b h _ e).eq)
      v := fun n d b h e => (v1 x ba w al dt n d b h e).trans ((v0 x ba w al dt b h _ e).trans (Fi.vE hx hw b h _ e).eq)
      g := fun n d b h => (g1 x ba w al dt n d b h).trans ((g0 x ba w al dt d b h _).trans (Fi.gE hb ha ht d b h _).eq)
      b := fun n d b h => (b1 x ba w al dt n d b h).trans ((b0 x ba w al dt d b h _).trans (Fi.bE hb d b h _).eq) }
  st := fun d b h e f => by
    show K_main_v104 (F := Ideal) (ix5 d b h e f) = _
    pointwise [K_main_v104, K_main_cst_7]
    exact EReal.coe_zero.symm
  out := fun τ h => absurd h (Nat.not_lt_zero _)

variable {Q K V : Fin 32 → Fin 4 → Fin 256 → Fin 128 → ℝ} {G B : Fin 2 → Fin 32 → Fin 4 → Fin 256 → ℝ}

theorem res_f (s : State Ideal) (hs : Inv Q K V G B 256 s) (b : Fin 32) (h : Fin 4) (e f : Fin 128) :
    R_main_v114 s (ix4 b h e f) = ((fin false (K b h) (V b h) (G 0 b h) (B 0 b h) e f : ℝ) : EReal) := by
  rw [← st_last]
  refine Eq.trans ?_ (hs.st 0 b h e f)
  unfold R_main_v114
  pointwise

theorem res_b (s : State Ideal) (hs : Inv Q K V G B 256 s) (b : Fin 32) (h : Fin 4) (e f : Fin 128) :
    R_main_v116 s (ix4 b h e f) = ((fin true (K b h) (V b h) (G 1 b h) (B 1 b h) e f : ℝ) : EReal) := by
  rw [← st_last]
  refine Eq.trans ?_ (hs.st 1 b h e f)
  unfold R_main_v116
  pointwise

theorem res_y {X : Fin 8192 → Fin 1536 → EReal} {W : Fin 3 → Fin 1536 → EReal} {B : Fin 8192 → Fin 128 → EReal}
    {A T : Fin 2 → Fin 4 → EReal} (s : State Ideal) (hs : Inv (qR X W) (kR X W) (vR X W) (gR B A T) (bR B) 256 s)
    (z : FVec Ideal S8192x512 .f32) (gn : FVec Ideal S1x128 .f32) (R : Fin 8192) (C : Fin 512) :
    R_main_v142 s z gn (ix2 R C) = yE X W B A T (fun r n => z (ix2 r n)) (fun e => gn (ix2 0 e)) R C := by
  unfold R_main_v142
  generalize hU : s.main_v111_7 = U
  have hk : ∀ (b : Fin 32) (h : Fin 4) (i : Fin 256) (e : Fin 128), ((oR X W B A T b h i e : ℝ) : EReal)
      = U (ix5 i 0 b h e) + U (ix5 i.rev 1 b h e) := by
    intro b h i e
    rw [← hU, hs.out i i.isLt 0, hs.out i.rev i.rev.isLt 1, fwd_tok, rev_tok, Fin.rev_rev]
    unfold oR
    rw [EReal.coe_add]
    rfl
  unfold yE yH sl sg eps
  simp only [hk]
  pointwise
  rfl

end Cert.DeltaRefIdeal.RefVal

end
-- ==== Proof.DeltaRun.lean ====
/-
  The reference's run over the extended reals in terms of one trip of its loop: the five carried arrays are read off a
  valuation, a trip takes them to the next state, so the run's results are those of the state after 256 trips.
-/
module

public import proofs.«01_k».proof.Proof.Gen.DeltaRefIdeal.Run
public import proofs.«01_k».proof.Proof.Gen.DeltaRefIdeal.Step
public import Idealize.ShloMosaic.Lib.Pointwise

@[expose] public section

noncomputable section

open Idealize.ShloMosaic Idealize.ShloMosaic.TcCoe Idealize.SL.Sem Idealize.ShloMosaic.StableHlo

namespace Cert.DeltaRefIdeal.Loop

open Cert.DeltaRefIdeal Cert.DeltaRefIdeal.Gen Cert.DeltaRefIdeal.Value
open Cert.DeltaRefIdeal.Step (State step init)

/-- The state that a valuation holds in the loop's buffers. -/
def held (V : Valuation τ sig (Elt Ideal)) : State Ideal where
  main_v111_6 := V (Proc.devRef .tc main_v111_6)
  main_v111_7 := V (Proc.devRef .tc main_v111_7)
  main_v111_0 := V (Proc.devRef .tc main_v111_0)
  main_v111_1 := V (Proc.devRef .tc main_v111_1)
  main_v111_2 := V (Proc.devRef .tc main_v111_2)
  main_v111_3 := V (Proc.devRef .tc main_v111_3)
  main_v111_4 := V (Proc.devRef .tc main_v111_4)

variable {V : Valuation τ sig (Elt Ideal)} {j : ℕ}

set_option maxRecDepth 8192 in
/-- The matrix memory after a trip. -/
theorem trip_mem (h : V (Proc.devRef .tc main_v111_5) = constantI S_ 32 (BitVec.ofNat 32 j)) :
    res_main_while0b_v162 V = Step.b42 j (held V) := by
  unfold res_main_while0b_v162 res_main_while0b_v151 res_main_while0b_v144
  rw [h]
  simp only [Step.b0, Step.b1, Step.b2, Step.b3, Step.b4, Step.b5, Step.b6, Step.b7, Step.b8, Step.b9, Step.b10, Step.b11, Step.b12, Step.b13, Step.b14, Step.b15, Step.b16, Step.b17, Step.b18, Step.b19, Step.b20, Step.b21, Step.b22, Step.b23, Step.b24, Step.b25, Step.b26, Step.b27, Step.b28, Step.b29, Step.b30, Step.b31, Step.b32, Step.b33, Step.b34, Step.b35, Step.b36, Step.b37, Step.b38, Step.b39, Step.b40, Step.b41, Step.b42, held]
  rfl

set_option maxRecDepth 8192 in
/-- The read values after a trip. -/
theorem trip_out (h : V (Proc.devRef .tc main_v111_5) = constantI S_ 32 (BitVec.ofNat 32 j)) :
    step_main_v111_7 V = Step.b49 j (held V) := by
  unfold step_main_v111_7
  rw [trip_mem h, h]
  unfold Step.b49 Step.b44 Step.b43
  generalize Step.b42 j (held V) = W
  simp only [Step.b5, Step.b4, Step.b0, Step.b1, Step.b2, Step.b3, Step.b45, Step.b46, Step.b47, Step.b48, held]
  rfl

/-- The trip's number goes up by one. -/
theorem trip_count (h : V (Proc.devRef .tc main_v111_5) = constantI S_ 32 (BitVec.ofNat 32 j)) :
    STEP V (Proc.devRef .tc main_v111_5) = constantI S_ 32 (BitVec.ofNat 32 (j + 1)) := by
  rw [STEP_main_v111_5]
  unfold step_main_v111_5
  rw [h]
  funext x
  show BitVec.ofNat 32 j + 1#32 = BitVec.ofNat 32 (j + 1)
  rw [BitVec.ofNat_add]

/-- One trip takes the state held to the next one. -/
theorem trip (h : V (Proc.devRef .tc main_v111_5) = constantI S_ 32 (BitVec.ofNat 32 j)) :
    held (STEP V) = step j (held V) := by
  have h6 : STEP V (Proc.devRef .tc main_v111_6) = Step.b42 j (held V) := (STEP_main_v111_6 V).trans (trip_mem h)
  have h7 : STEP V (Proc.devRef .tc main_v111_7) = Step.b49 j (held V) := (STEP_main_v111_7 V).trans (trip_out h)
  unfold step
  rw [← h6, ← h7]
  unfold held
  congr 1

variable (m : (ℓ : Loc nD τ sig) → Buf (Elt Ideal) ℓ) (c : Dev nD)

/-- The state before the first trip. -/
abbrev start : State Ideal :=
  init (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5))

/-- The state before trip `k`. -/
def trips : ℕ → State Ideal
  | 0 => start m c
  | k + 1 => step k (trips k)

set_option maxRecDepth 65536 in
set_option maxHeartbeats 700000 in
theorem entry_count : entryContents preI m c (Proc.devRef .tc main_v111_5) = constantI S_ 32 (BitVec.ofNat 32 0) := by
  simp only [entryContents, afterL_cons, afterL_nil]
  after_reads_simp
  rfl

theorem held_eq {V : Valuation τ sig (Elt Ideal)} {s : State Ideal} (h6 : V (Proc.devRef .tc main_v111_6) = s.main_v111_6)
    (h7 : V (Proc.devRef .tc main_v111_7) = s.main_v111_7) (h0 : V (Proc.devRef .tc main_v111_0) = s.main_v111_0)
    (h1 : V (Proc.devRef .tc main_v111_1) = s.main_v111_1) (h2 : V (Proc.devRef .tc main_v111_2) = s.main_v111_2)
    (h3 : V (Proc.devRef .tc main_v111_3) = s.main_v111_3) (h4 : V (Proc.devRef .tc main_v111_4) = s.main_v111_4) :
    held V = s := by
  obtain ⟨a6, a7, a0, a1, a2, a3, a4⟩ := s
  dsimp only at h6 h7 h0 h1 h2 h3 h4
  unfold held
  rw [h6, h7, h0, h1, h2, h3, h4]

set_option maxRecDepth 65536 in
set_option maxHeartbeats 4000000 in
theorem entry6 : entryContents preI m c (Proc.devRef .tc main_v111_6) = (start m c).main_v111_6 := by
  simp only [entryContents, afterL_cons, afterL_nil]
  after_reads_simp
  rfl

set_option maxRecDepth 65536 in
set_option maxHeartbeats 4000000 in
theorem entry7 : entryContents preI m c (Proc.devRef .tc main_v111_7) = (start m c).main_v111_7 := by
  simp only [entryContents, afterL_cons, afterL_nil]
  after_reads_simp
  rfl

set_option maxRecDepth 65536 in
set_option maxHeartbeats 4000000 in
theorem entry0 : entryContents preI m c (Proc.devRef .tc main_v111_0) = (start m c).main_v111_0 := by
  simp only [entryContents, afterL_cons, afterL_nil]
  after_reads_simp
  rfl

set_option maxRecDepth 65536 in
set_option maxHeartbeats 4000000 in
theorem entry1 : entryContents preI m c (Proc.devRef .tc main_v111_1) = (start m c).main_v111_1 := by
  simp only [entryContents, afterL_cons, afterL_nil]
  after_reads_simp
  rfl

set_option maxRecDepth 65536 in
set_option maxHeartbeats 4000000 in
theorem entry2 : entryContents preI m c (Proc.devRef .tc main_v111_2) = (start m c).main_v111_2 := by
  simp only [entryContents, afterL_cons, afterL_nil]
  after_reads_simp
  rfl

set_option maxRecDepth 65536 in
set_option maxHeartbeats 4000000 in
theorem entry3 : entryContents preI m c (Proc.devRef .tc main_v111_3) = (start m c).main_v111_3 := by
  simp only [entryContents, afterL_cons, afterL_nil]
  after_reads_simp
  rfl

set_option maxRecDepth 65536 in
set_option maxHeartbeats 4000000 in
theorem entry4 : entryContents preI m c (Proc.devRef .tc main_v111_4) = (start m c).main_v111_4 := by
  simp only [entryContents, afterL_cons, afterL_nil]
  after_reads_simp
  rfl

/-- What the operations before the loop leave is the state before the first trip. -/
theorem entry_held : held (entryContents preI m c) = start m c :=
  held_eq (entry6 m c) (entry7 m c) (entry0 m c) (entry1 m c) (entry2 m c) (entry3 m c) (entry4 m c)

theorem iter_held : ∀ k, held (STEP^[k] (entryContents preI m c)) = trips m c k
    ∧ (STEP^[k] (entryContents preI m c)) (Proc.devRef .tc main_v111_5) = constantI S_ 32 (BitVec.ofNat 32 k)
  | 0 => ⟨entry_held m c, entry_count m c⟩
  | k + 1 => by
    obtain ⟨h, hn⟩ := iter_held k
    rw [Function.iterate_succ_apply']
    exact ⟨(trip hn).trans (congrArg (step k) h), trip_count hn⟩

theorem outs_y (V : Valuation τ sig (Elt Ideal)) : out_main_v142 V
    = Step.R_main_v142 (held V) (V (Proc.devRef .tc main_arg1)) (V (Proc.devRef .tc main_arg6)) := by
  unfold out_main_v142 Step.R_main_v142 held
  rfl

theorem outs_f (V : Valuation τ sig (Elt Ideal)) : out_main_v114 V = Step.R_main_v114 (held V) := by
  unfold out_main_v114 Step.R_main_v114 held
  rfl

theorem outs_b (V : Valuation τ sig (Elt Ideal)) : out_main_v116 V = Step.R_main_v116 (held V) := by
  unfold out_main_v116 Step.R_main_v116 held
  rfl

/-- The run ends with the results made of the state after 256 trips, the arguments unchanged. -/
theorem run_trips (ρ : Dev nD → PrngReg) :
    θ_run (defs (F := Ideal)) (onTc (τ := τ) (main (F := Ideal))) ⟨m, fun _ => 0, ρ⟩ fun r => ∀ c : Dev nD,
      r.2.mem ((c.tc : Thread nD τ).loc main_v142) = Step.R_main_v142 (trips m c 256) (m ((c.tc : Thread nD τ).loc main_arg1)) (m ((c.tc : Thread nD τ).loc main_arg6))
      ∧ r.2.mem ((c.tc : Thread nD τ).loc main_v114) = Step.R_main_v114 (trips m c 256)
      ∧ r.2.mem ((c.tc : Thread nD τ).loc main_v116) = Step.R_main_v116 (trips m c 256)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Value.run m ρ)
  obtain ⟨hy, hf, hb, hr⟩ := h c
  have hs := (iter_held m c 256).1
  refine ⟨hy.trans ?_, hf.trans ?_, hb.trans ?_, hr⟩
  · rw [outs_y, hs, iter_main_arg1 m c 256, iter_main_arg6 m c 256]
  · rw [outs_f, hs]
  · rw [outs_b, hs]

end Cert.DeltaRefIdeal.Loop

end
-- ==== Proof.DeltaFin.lean ====
/-
  What the precondition says of the delta rule's arguments: every entry of five of them is a real number.
-/
module

public import proofs.«01_k».proof.Pre_finite
public import proofs.«01_k».proof.Proof.DeltaIn
public import Idealize.ShloMosaic.Lib.ReduceAll

@[expose] public section

noncomputable section

open Idealize.ShloMosaic Idealize.ShloMosaic.TcCoe Idealize.SL.Sem

namespace Cert.DeltaFin

open Cert.Pre_finite Cert.DeltaIn

variable [Facts]

theorem bits_top : Ideal.ofBits FTy.f32 0x7F800000#32 = ⊤ := by simp [Ideal.ofBits, Ideal.ieee]

theorem and_one {x y : BitVec 1} (h : x &&& y = 1#1) : x = 1#1 ∧ y = 1#1 := by
  revert x y
  decide

instance : Subsingleton S_.Idx := ⟨fun a b => funext fun k => k.elim0⟩

/-- An entry whose absolute value compares below infinity is a real number. -/
theorem of_cmp {x : EReal} (h : Ideal.cmp .olt (max x (-x)) (Ideal.ofBits FTy.f32 0x7F800000#32) = 1#1) : Fi x :=
  Fi.of_abs (by rw [bits_top] at h; exact (Ideal.cmp_olt_eq_one _ _).1 h)

theorem finite (x0 : FVec Ideal S8192x1536 .f32) (x1 : FVec Ideal S8192x512 .f32) (x2 : FVec Ideal S8192x128 .f32)
    (x3 : FVec Ideal S1x3x1536 .f32) (x4 x5 : FVec Ideal S1x2x4 .f32) (x6 : FVec Ideal S1x128 .f32)
    (h : fn (F := Ideal) x0 x1 x2 x3 x4 x5 x6 = fun _ => 1#1) :
    (∀ i, Fi (x0 i)) ∧ (∀ i, Fi (x2 i)) ∧ (∀ i, Fi (x3 i)) ∧ (∀ i, Fi (x4 i)) ∧ (∀ i, Fi (x5 i)) := by
  have h0 := congrFun h ix0
  unfold fn fn_part1 at h0
  dsimp only at h0
  obtain ⟨h0, e5⟩ := and_one h0
  obtain ⟨h0, e4⟩ := and_one h0
  obtain ⟨h0, e3⟩ := and_one h0
  obtain ⟨e0, e2⟩ := and_one h0
  exact ⟨fun i => of_cmp (Host.reduce_andi_all _ _ _ _ _ e0 i), fun i => of_cmp (Host.reduce_andi_all _ _ _ _ _ e2 i),
    fun i => of_cmp (Host.reduce_andi_all _ _ _ _ _ e3 i), fun i => of_cmp (Host.reduce_andi_all _ _ _ _ _ e4 i),
    fun i => of_cmp (Host.reduce_andi_all _ _ _ _ _ e5 i)⟩

end Cert.DeltaFin

end
-- ==== Proof.DeltaClaim.lean ====
/-
  The claims about the delta rule's kernel: the frames, and the equality of its three results with the reference's on
  finite arguments.
-/
module

public import proofs.«01_k».proof.Defs
public import proofs.«01_k».proof.Proof.Gen.Delta.Frame
public import proofs.«01_k».proof.Proof.Gen.DeltaRefIdeal.Run
public import proofs.«01_k».proof.Proof.DeltaVal
public import proofs.«01_k».proof.Proof.DeltaRefVal
public import proofs.«01_k».proof.Proof.DeltaRun
public import proofs.«01_k».proof.Proof.DeltaFin

@[expose] public section

set_option maxRecDepth 16384

noncomputable section

open Idealize.ShloMosaic Idealize.ShloMosaic.TcCoe Idealize.SL.Sem

namespace Cert.DeltaClaim

open Cert.DeltaIn Cert.DeltaOut Cert.DeltaIdeal.Val

/-- The kernel at the machine's formats ends with its arguments unchanged and its counters at zero. -/
theorem frame_p : Cert.quiescent_Delta := fun m ρ _ => Cert.Delta.Gen.frame m ρ

/-- The same of the kernel over the extended reals. -/
theorem frame_pi : Cert.quiescent_DeltaIdeal := fun m ρ _ => Cert.DeltaIdeal.Gen.frame m ρ

/-- The same of the reference over the extended reals. -/
theorem frame_ri : Cert.quiescent_DeltaRefIdeal := fun m ρ _ =>
  (θ_run Cert.DeltaRefIdeal.defs _ _).mono
    (fun r h => ⟨fun c => (h c).2.2.2, Idealize.ShloMosaic.sem_eq_zero_of_no_sems (by decide) r.2⟩)
    (Cert.DeltaRefIdeal.Value.run (F := Ideal) m ρ)

/-- No operation is replaced between the kernel and its reading over the extended reals. -/
theorem preserves : Cert.preserves_Delta_DeltaIdeal := trivial

section Pre

variable [Cert.Pre_finite.Facts]

theorem frame_pi_pre : Cert.quiescent_DeltaIdeal_pre_finite := fun m ρ _ => Cert.DeltaIdeal.Gen.frame m ρ

theorem frame_ri_pre : Cert.quiescent_DeltaRefIdeal_pre_finite := fun m ρ _ =>
  (θ_run Cert.DeltaRefIdeal.defs _ _).mono
    (fun r h => ⟨fun c => (h c).2.2.2, Idealize.ShloMosaic.sem_eq_zero_of_no_sems (by decide) r.2⟩)
    (Cert.DeltaRefIdeal.Value.run (F := Ideal) m ρ)

open Cert.DeltaRefIdeal.Loop in
/-- The reference's results, of arrays equal to the kernel's arguments, are the kernel's results. -/
theorem tie (m : (ℓ : Loc Cert.DeltaIdeal.nD Cert.DeltaIdeal.τ Cert.DeltaIdeal.sig) → Buf (Elt Ideal) ℓ) (c : Dev Cert.DeltaIdeal.nD)
    (hpre : Cert.Pre_DeltaIdeal_finite m)
    {y0 : FVec Ideal Cert.DeltaRefIdeal.S8192x1536 .f32} (e0 : y0 = m (c.tc.loc Cert.DeltaIdeal.main_arg0))
    {y1 : FVec Ideal Cert.DeltaRefIdeal.S8192x512 .f32} (e1 : y1 = m (c.tc.loc Cert.DeltaIdeal.main_arg1))
    {y2 : FVec Ideal Cert.DeltaRefIdeal.S8192x128 .f32} (e2 : y2 = m (c.tc.loc Cert.DeltaIdeal.main_arg2))
    {y3 : FVec Ideal Cert.DeltaRefIdeal.S1x3x1536 .f32} (e3 : y3 = m (c.tc.loc Cert.DeltaIdeal.main_arg3))
    {y4 : FVec Ideal Cert.DeltaRefIdeal.S1x2x4 .f32} (e4 : y4 = m (c.tc.loc Cert.DeltaIdeal.main_arg4))
    {y5 : FVec Ideal Cert.DeltaRefIdeal.S1x2x4 .f32} (e5 : y5 = m (c.tc.loc Cert.DeltaIdeal.main_arg5))
    {y6 : FVec Ideal Cert.DeltaRefIdeal.S1x128 .f32} (e6 : y6 = m (c.tc.loc Cert.DeltaIdeal.main_arg6))
    (it : ℕ → Cert.DeltaRefIdeal.Step.State Ideal) (h0 : it 0 = Cert.DeltaRefIdeal.Step.init y0 y2 y3 y4 y5)
    (hs : ∀ n, it (n + 1) = Cert.DeltaRefIdeal.Step.step n (it n)) :
    Cert.DeltaRefIdeal.Step.R_main_v142 (it 256) y1 y6 = (Cert.DeltaIdeal.Gen.dats m 0 c).arrAt 10 Cert.DeltaIdeal.cfg0.N
    ∧ Cert.DeltaRefIdeal.Step.R_main_v114 (it 256) = (Cert.DeltaIdeal.Gen.dats m 0 c).arrAt 11 Cert.DeltaIdeal.cfg0.N
    ∧ Cert.DeltaRefIdeal.Step.R_main_v116 (it 256) = (Cert.DeltaIdeal.Gen.dats m 0 c).arrAt 12 Cert.DeltaIdeal.cfg0.N := by
  subst e0 e1 e2 e3 e4 e5 e6
  obtain ⟨f0, f2, f3, f4, f5⟩ := Cert.DeltaFin.finite _ _ _ _ _ _ _ (hpre c)
  have hX : ∀ r n, Fi (X m c r n) := fun r n => f0 _
  have hB : ∀ r n, Fi (B m c r n) := fun r n => f2 _
  have hW : ∀ j n, Fi (W m c j n) := fun r n => f3 _
  have hA : ∀ d h, Fi (A m c d h) := fun r n => f4 _
  have hT : ∀ d h, Fi (T m c d h) := fun r n => f5 _
  have hI : Inv (qR (X m c) (W m c)) (kR (X m c) (W m c)) (vR (X m c) (W m c)) (gR (B m c) (A m c) (T m c)) (bR (B m c)) 256 (it 256) :=
    inv_all it (by rw [h0]; exact Cert.DeltaRefIdeal.RefVal.inv0 _ _ _ _ _ hX hW hB hA hT) hs 256 (le_refl _)
  refine ⟨?_, ?_, ?_⟩
  · funext i
    obtain ⟨r, n, rfl⟩ : ∃ (r : Fin 8192) (n : Fin 512), i = ix2 r n := ⟨i 0, i 1, eq_ix2 i⟩
    obtain ⟨b, k, rfl⟩ : ∃ (b : Fin 32) (k : Fin 256), r = row b k :=
      ⟨⟨r.val / 256, by omega⟩, ⟨r.val % 256, by omega⟩, Fin.ext (by dsimp only [row]; omega)⟩
    obtain ⟨h, e, rfl⟩ : ∃ (h : Fin 4) (e : Fin 128), n = ocol h e :=
      ⟨⟨n.val / 128, by omega⟩, ⟨n.val % 128, by omega⟩, Fin.ext (by dsimp only [ocol]; omega)⟩
    exact (Cert.DeltaRefIdeal.RefVal.res_y _ hI _ _ _ _).trans (final10 m c b h hX hW hB hA hT k e).symm
  · funext i
    obtain ⟨b, h, e, f, rfl⟩ : ∃ (b : Fin 32) (h : Fin 4) (e f : Fin 128), i = ix4 b h e f := ⟨i 0, i 1, i 2, i 3, eq_ix4 i⟩
    exact (Cert.DeltaRefIdeal.RefVal.res_f _ hI b h e f).trans (final11 m c b h hX hW hB hA hT e f).symm
  · funext i
    obtain ⟨b, h, e, f, rfl⟩ : ∃ (b : Fin 32) (h : Fin 4) (e f : Fin 128), i = ix4 b h e f := ⟨i 0, i 1, i 2, i 3, eq_ix4 i⟩
    exact (Cert.DeltaRefIdeal.RefVal.res_b _ hI b h e f).trans (final12 m c b h hX hW hB hA hT e f).symm

/-- The kernel's three results are the reference's, on finite arguments. -/
theorem algebraic : Cert.algebraic_DeltaIdeal_DeltaRefIdeal_pre_finite := by
  intro m ρ m' ρ' hpre hagree
  refine ⟨fun c => (Cert.DeltaIdeal.Gen.dats m 0 c).arrAt 10 Cert.DeltaIdeal.cfg0.N,
    fun c => (Cert.DeltaIdeal.Gen.dats m 0 c).arrAt 11 Cert.DeltaIdeal.cfg0.N,
    fun c => (Cert.DeltaIdeal.Gen.dats m 0 c).arrAt 12 Cert.DeltaIdeal.cfg0.N, Cert.DeltaIdeal.Value.run_blocks (F := Ideal) m ρ, ?_⟩
  refine (θ_run Cert.DeltaRefIdeal.defs _ _).mono (fun _ h c => ?_) (Cert.DeltaRefIdeal.Loop.run_trips m' ρ')
  obtain ⟨a0, a1, a2, a3, a4, a5, a6⟩ := hagree c
  obtain ⟨hy, hf, hb, hk⟩ := h c
  obtain ⟨t0, t1, t2⟩ := tie m c hpre a0 a1 a2 a3 a4 a5 a6 (Cert.DeltaRefIdeal.Loop.trips m' c) rfl (fun _ => rfl)
  exact ⟨hy.trans t0, hf.trans t1, hb.trans t2, hk⟩

end Pre

end Cert.DeltaClaim

end
-- ==== Proof.InprojValue.lean ====
/-
  The projection kernel's five results at an index: a normalised, modulated row times a column of the weights.
-/
module

public import proofs.«01_k».proof.Proof.Gen.InprojIdeal.Value
public import proofs.«01_k».proof.Proof.Gen.InprojRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InprojIdeal.Val

open Cert.InprojIdeal Cert.InprojIdeal.Gen

/-- The integer zero converts to zero. -/
theorem sit0 (f : FTy) : FloatOps.sitofp (F := Ideal) f (0#32) = 0 := by
  show ((((0#32 : BitVec 32).toInt : ℝ)) : EReal) = 0
  simp

/-- A row's mean over its 1024 entries. -/
def mean (x : Fin 1024 → EReal) : EReal := Ideal.div (∑ k, x k) (Ideal.ofBits FTy.f32 1149239296#32)

/-- A row less its mean, over its standard deviation, scaled by `1 + sc` and moved by `sh`. -/
def modRow (x sh sc : Fin 1024 → EReal) (k : Fin 1024) : EReal :=
  (x k - mean x) * Ideal.rsqrt (mean (fun j => (x j - mean x) * (x j - mean x)) + Ideal.ofBits FTy.f32 925353388#32)
    * (1 + sc k) + sh k

/-- Row `r` of context `e`, normalised and modulated, times column `n` of the projection's weights. -/
def proj (x : FVec Ideal S32x256x1024 .f32) (md : FVec Ideal S8x6x1x1024 .f32) (w : FVec Ideal S1x1024x5648 .f32)
    (e : Fin 32) (r : Fin 256) (n : Fin 5648) : EReal :=
  ∑ k : Fin 1024, modRow (fun j => x (ix3 e r j)) (fun j => md (ix4 0 0 0 j)) (fun j => md (ix4 0 1 0 j)) k * w (ix3 0 k n)

/-- The kernel's normalised block at an index. -/
theorem normed (v0 : Vec Ideal S256x1024 .f32) (v2 v4 : Vec Ideal S1x1x1x1024 .f32) (r : Fin 256) (k : Fin 1024) :
    k0_pay5 v0 v2 v4 (ix2 r k)
      = modRow (fun j => v0 (ix2 r j)) (fun j => v2 (ix4 0 0 0 j)) (fun j => v4 (ix4 0 0 0 j)) k := by
  pointwise [k0_pay5]
  rfl

/-- The product stored in result window 7, at an index. -/
theorem prod7 (v0 : Vec Ideal S256x1024 .f32) (v2 v4 : Vec Ideal S1x1x1x1024 .f32) (b : Vec Ideal S1024x1536 .bf16) (r : Fin 256) (n : Fin 1536) :
    k0_pay6 v0 v2 v4 b (ix2 r n) = ∑ k : Fin 1024, k0_pay5 v0 v2 v4 (ix2 r k) * b (ix2 k n) := by
  pointwise [k0_pay6]

/-- The product stored in result window 8, at an index. -/
theorem prod8 (u : FVec Ideal S256x1024 .bf16) (b : Vec Ideal S1024x512 .bf16) (r : Fin 256) (n : Fin 512) :
    k0_pay1 u (k0_pay7 b) (ix2 r n) = ∑ k : Fin 1024, u (ix2 r k) * b (ix2 k n) := by
  pointwise [k0_pay1, k0_pay7]

/-- The product stored in result window 9, at an index. -/
theorem prod9 (u : FVec Ideal S256x1024 .bf16) (b : Vec Ideal S1024x128 .bf16) (r : Fin 256) (n : Fin 128) :
    k0_pay2 u (b) (ix2 r n) = ∑ k : Fin 1024, u (ix2 r k) * b (ix2 k n) := by
  pointwise [k0_pay2]

/-- The product stored in result window 10, at an index. -/
theorem prod10 (u : FVec Ideal S256x1024 .bf16) (b : Vec Ideal S1024x1536 .bf16) (r : Fin 256) (n : Fin 1536) :
    k0_pay3 u (b) (ix2 r n) = ∑ k : Fin 1024, u (ix2 r k) * b (ix2 k n) := by
  pointwise [k0_pay3]

/-- The product stored in result window 11, at an index. -/
theorem prod11 (u : FVec Ideal S256x1024 .bf16) (b : Vec Ideal S1024x2048 .bf16) (r : Fin 256) (n : Fin 2048) :
    k0_pay4 u (b) (ix2 r n) = ∑ k : Fin 1024, u (ix2 r k) * b (ix2 k n) := by
  pointwise [k0_pay4]

/-! ## The operands' blocks -/

variable (m : (ℓ : Loc nD τ sig) → Buf (Elt Ideal) ℓ) (c : Dev nD)

/-- The flattened rows at the region's entry. -/
theorem V8 (R : Fin 8192) (k : Fin 1024) :
    V m c main_v8 (ix2 R k) = m (c.tc.loc main_arg0) (ix3 (⟨R.val / 256, by omega⟩ : Fin 32) (⟨R.val % 256, by omega⟩ : Fin 256) k) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  pointwise

theorem idx0 : ∀ t : Fin cfg0.N, win0_0.index t = ![t.val, 0] := by decide +kernel
theorem idx1 : ∀ t : Fin cfg0.N, win0_1.index t = ![0, 0, 0, 0] := by decide +kernel

/-- Rows `256 t …` are the rows of context `t`. -/
theorem blk0 (t : Fin cfg0.N) (r : Fin 256) (k : Fin 1024) :
    iblk m c 0 t (ix2 r k) = m (c.tc.loc main_arg0) (ix3 (⟨t.val, t.isLt⟩ : Fin 32) r k) := by
  have h : iblk m c 0 t (ix2 r k)
      = V m c main_v8 (ix2 (⟨t.val * 256 + r.val, by have : t.val < 32 := t.isLt; omega⟩ : Fin 8192) k) := by
    blk_ext [iblk, idx0 t]
  rw [h, V8]
  congr 2
  · apply Fin.ext; show (t.val * 256 + r.val) / 256 = t.val; omega
  · apply Fin.ext; show (t.val * 256 + r.val) % 256 = r.val; omega

/-- The shift row of the modulation. -/
theorem blk1a (t : Fin cfg0.N) (k : Fin 1024) :
    View.ld (iblk m c 1 t) r0_1 (ix4 0 0 0 k) = m (c.tc.loc main_arg1) (ix4 0 0 0 k) := by
  refine (congrArg (iblk m c 1 t) (?_ : _ = ix4 0 0 0 k)).trans ?_
  · funext a; match a with
      | ⟨0, _⟩ => rfl
      | ⟨1, _⟩ => rfl
      | ⟨2, _⟩ => rfl
      | ⟨3, _⟩ => apply Fin.ext; show 0 + 1 * k.val = k.val; omega
  · rw [← V_main_arg1 m c]; blk_ext [iblk, idx1 t]

/-- The scale row of the modulation. -/
theorem blk1b (t : Fin cfg0.N) (k : Fin 1024) :
    View.ld (iblk m c 1 t) r0_2 (ix4 0 0 0 k) = m (c.tc.loc main_arg1) (ix4 0 1 0 k) := by
  refine (congrArg (iblk m c 1 t) (?_ : _ = ix4 0 1 0 k)).trans ?_
  · funext a; match a with
      | ⟨0, _⟩ => rfl
      | ⟨1, _⟩ => rfl
      | ⟨2, _⟩ => rfl
      | ⟨3, _⟩ => apply Fin.ext; show 0 + 1 * k.val = k.val; omega
  · rw [← V_main_arg1 m c]; blk_ext [iblk, idx1 t]

/-- The block's modulated rows are those of its context. -/
theorem rows (t : Fin cfg0.N) (r : Fin 256) (k : Fin 1024) :
    k0_pay5 (iblk m c 0 t) (View.ld (iblk m c 1 t) r0_1) (View.ld (iblk m c 1 t) r0_2) (ix2 r k)
      = modRow (fun j => m (c.tc.loc main_arg0) (ix3 (⟨t.val, t.isLt⟩ : Fin 32) r j))
          (fun j => m (c.tc.loc main_arg1) (ix4 0 0 0 j)) (fun j => m (c.tc.loc main_arg1) (ix4 0 1 0 j)) k := by
  rw [normed]
  simp only [blk0, blk1a, blk1b]

/-- The weights of result window 7 at the region's entry. -/
theorem V_main_v4 (r : Fin 1024) (n : Fin 1536) :
    V m c main_v4 (ix2 r n) = m (c.tc.loc main_arg2) (ix3 (0 : Fin 1) r (⟨0 + n.val, by omega⟩ : Fin 5648)) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  pointwise

theorem idx2 : ∀ t : Fin cfg0.N, win0_2.index t = ![0, 0] := by decide +kernel
theorem idx7 : ∀ t : Fin cfg0.N, win0_7.index t = ![t.val, 0] := by decide +kernel

theorem blk2 (t : Fin cfg0.N) (r : Fin 1024) (n : Fin 1536) : iblk m c 2 t (ix2 r n) = m (c.tc.loc main_arg2) (ix3 (0 : Fin 1) r (⟨0 + n.val, by omega⟩ : Fin 5648)) := by
  refine Eq.trans ?_ (V_main_v4 m c r n)
  blk_ext [iblk, idx2 t]

/-- Result window 7's array in closed form. -/
def G7 : S8192x1536.Idx → EReal := fun i =>
  proj (m (c.tc.loc main_arg0)) (m (c.tc.loc main_arg1)) (m (c.tc.loc main_arg2)) ⟨(i 0).val / 256, Nat.div_lt_of_lt_mul (i 0).isLt⟩ ⟨(i 0).val % 256, Nat.mod_lt _ (by decide)⟩ (⟨0 + (i 1).val, by have h : (i 1).val < 1536 := (i 1).isLt; omega⟩ : Fin 5648)

/-- The closed form at a row of context `t`. -/
theorem G7_at (t : Fin 32) (r : Fin 256) (R : Fin 8192) (hR : R.val = t.val * 256 + r.val) (n : Fin 1536) :
    G7 m c (ix2 R n) = proj (m (c.tc.loc main_arg0)) (m (c.tc.loc main_arg1)) (m (c.tc.loc main_arg2)) t r (⟨0 + n.val, by omega⟩ : Fin 5648) := by
  have e1 : (⟨R.val / 256, by omega⟩ : Fin 32) = t := Fin.ext (by show R.val / 256 = t.val; omega)
  have e2 : (⟨R.val % 256, by omega⟩ : Fin 256) = r := Fin.ext (by show R.val % 256 = r.val; omega)
  have e3 : G7 m c (ix2 R n) = proj (m (c.tc.loc main_arg0)) (m (c.tc.loc main_arg1)) (m (c.tc.loc main_arg2)) (⟨R.val / 256, by omega⟩ : Fin 32) (⟨R.val % 256, by omega⟩ : Fin 256) (⟨0 + n.val, by omega⟩ : Fin 5648) := rfl
  rw [e3, e1, e2]

/-- What a point stores is the closed form on its rows. -/
theorem step7 (t : Fin cfg0.N) (r : Fin 256) (R : Fin 8192) (hR : R.val = t.val * 256 + r.val) (n : Fin 1536) :
    k0_pay6 (iblk m c 0 t) (View.ld (iblk m c 1 t) r0_1) (View.ld (iblk m c 1 t) r0_2) (iblk m c 2 t) (ix2 r n) = G7 m c (ix2 R n) := by
  refine (prod7 _ _ _ _ _ _).trans (Eq.trans ?_ (G7_at m c ⟨t.val, t.isLt⟩ r R hR n).symm)
  simp only [rows, blk2]
  unfold proj; rfl

/-- The array after the run is the closed form. -/
theorem final7 : (dats m 0 c).arrAt 7 cfg0.N = G7 m c := by
  refine (dats m 0 c).arrAt_eq_of_covers 7 (G7 m c) (by decide +kernel) fun t hf y => ?_
  blk_simp
  rw [after0_7]
  frame_out
  obtain ⟨r, n, rfl⟩ : ∃ (r : Fin 256) (n : Fin 1536), y = ix2 r n := ⟨y 0, y 1, eq_ix2 y⟩
  have he : ((View.whole main_v9_0).slice (win0_7.rect t)).emb (ix2 r n)
      = ix2 (⟨t.val * 256 + r.val, by have : t.val < 32 := t.isLt; omega⟩ : Fin 8192) n := by blk_ext [idx7 t]
  rw [he]
  skip
  exact step7 m c t r _ rfl n

/-- The weights of result window 8 at the region's entry. -/
theorem V_main_v5 (r : Fin 1024) (n : Fin 512) :
    V m c main_v5 (ix2 r n) = m (c.tc.loc main_arg2) (ix3 (0 : Fin 1) r (⟨1536 + n.val, by omega⟩ : Fin 5648)) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  pointwise

theorem idx3 : ∀ t : Fin cfg0.N, win0_3.index t = ![0, 0] := by decide +kernel
theorem idx8 : ∀ t : Fin cfg0.N, win0_8.index t = ![t.val, 0] := by decide +kernel

theorem blk3 (t : Fin cfg0.N) (r : Fin 1024) (n : Fin 512) : iblk m c 3 t (ix2 r n) = m (c.tc.loc main_arg2) (ix3 (0 : Fin 1) r (⟨1536 + n.val, by omega⟩ : Fin 5648)) := by
  refine Eq.trans ?_ (V_main_v5 m c r n)
  blk_ext [iblk, idx3 t]

/-- Result window 8's array in closed form. -/
def G8 : S8192x512.Idx → EReal := fun i =>
  proj (m (c.tc.loc main_arg0)) (m (c.tc.loc main_arg1)) (m (c.tc.loc main_arg2)) ⟨(i 0).val / 256, Nat.div_lt_of_lt_mul (i 0).isLt⟩ ⟨(i 0).val % 256, Nat.mod_lt _ (by decide)⟩ (⟨1536 + (i 1).val, by have h : (i 1).val < 512 := (i 1).isLt; omega⟩ : Fin 5648)

/-- The closed form at a row of context `t`. -/
theorem G8_at (t : Fin 32) (r : Fin 256) (R : Fin 8192) (hR : R.val = t.val * 256 + r.val) (n : Fin 512) :
    G8 m c (ix2 R n) = proj (m (c.tc.loc main_arg0)) (m (c.tc.loc main_arg1)) (m (c.tc.loc main_arg2)) t r (⟨1536 + n.val, by omega⟩ : Fin 5648) := by
  have e1 : (⟨R.val / 256, by omega⟩ : Fin 32) = t := Fin.ext (by show R.val / 256 = t.val; omega)
  have e2 : (⟨R.val % 256, by omega⟩ : Fin 256) = r := Fin.ext (by show R.val % 256 = r.val; omega)
  have e3 : G8 m c (ix2 R n) = proj (m (c.tc.loc main_arg0)) (m (c.tc.loc main_arg1)) (m (c.tc.loc main_arg2)) (⟨R.val / 256, by omega⟩ : Fin 32) (⟨R.val % 256, by omega⟩ : Fin 256) (⟨1536 + n.val, by omega⟩ : Fin 5648) := rfl
  rw [e3, e1, e2]

/-- What a point stores is the closed form on its rows. -/
theorem step8 (t : Fin cfg0.N) (r : Fin 256) (R : Fin 8192) (hR : R.val = t.val * 256 + r.val) (n : Fin 512) :
    k0_pay1 (k0_pay5 (iblk m c 0 t) (View.ld (iblk m c 1 t) r0_1) (View.ld (iblk m c 1 t) r0_2)) (k0_pay7 (iblk m c 3 t)) (ix2 r n) = G8 m c (ix2 R n) := by
  refine (prod8 _ _ _ _).trans (Eq.trans ?_ (G8_at m c ⟨t.val, t.isLt⟩ r R hR n).symm)
  simp only [rows, blk3]
  unfold proj; rfl

/-- The array after the run is the closed form. -/
theorem final8 : (dats m 0 c).arrAt 8 cfg0.N = G8 m c := by
  refine (dats m 0 c).arrAt_eq_of_covers 8 (G8 m c) (by decide +kernel) fun t hf y => ?_
  blk_simp
  rw [after0_8]
  frame_out
  obtain ⟨r, n, rfl⟩ : ∃ (r : Fin 256) (n : Fin 512), y = ix2 r n := ⟨y 0, y 1, eq_ix2 y⟩
  have he : ((View.whole main_v9_1).slice (win0_8.rect t)).emb (ix2 r n)
      = ix2 (⟨t.val * 256 + r.val, by have : t.val < 32 := t.isLt; omega⟩ : Fin 8192) n := by blk_ext [idx8 t]
  rw [he]
  unfold k0_pay8; simp only [View.ld_unit_zero (S := S256x1024) (show (![0, 0] : Fin 2 → ℕ) = fun _ => 0 by decide)]
  exact step8 m c t r _ rfl n

/-- The weights of result window 9 at the region's entry. -/
theorem V_main_v3 (r : Fin 1024) (n : Fin 128) :
    V m c main_v3 (ix2 r n) = if h : n.val < 16 then m (c.tc.loc main_arg2) (ix3 (0 : Fin 1) r (⟨2048 + n.val, by omega⟩ : Fin 5648)) else (0 : EReal) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  pointwise
  rw [sit0]

theorem idx4 : ∀ t : Fin cfg0.N, win0_4.index t = ![0, 0] := by decide +kernel
theorem idx9 : ∀ t : Fin cfg0.N, win0_9.index t = ![t.val, 0] := by decide +kernel

theorem blk4 (t : Fin cfg0.N) (r : Fin 1024) (n : Fin 128) : iblk m c 4 t (ix2 r n) = if h : n.val < 16 then m (c.tc.loc main_arg2) (ix3 (0 : Fin 1) r (⟨2048 + n.val, by omega⟩ : Fin 5648)) else (0 : EReal) := by
  refine Eq.trans ?_ (V_main_v3 m c r n)
  blk_ext [iblk, idx4 t]

/-- Result window 9's array in closed form. -/
def G9 : S8192x128.Idx → EReal := fun i =>
  if h : (i 1).val < 16 then proj (m (c.tc.loc main_arg0)) (m (c.tc.loc main_arg1)) (m (c.tc.loc main_arg2)) ⟨(i 0).val / 256, Nat.div_lt_of_lt_mul (i 0).isLt⟩ ⟨(i 0).val % 256, Nat.mod_lt _ (by decide)⟩ (⟨2048 + (i 1).val, by omega⟩ : Fin 5648) else (0 : EReal)

/-- The closed form at a row of context `t`. -/
theorem G9_at (t : Fin 32) (r : Fin 256) (R : Fin 8192) (hR : R.val = t.val * 256 + r.val) (n : Fin 128) :
    G9 m c (ix2 R n) = if h : n.val < 16 then proj (m (c.tc.loc main_arg0)) (m (c.tc.loc main_arg1)) (m (c.tc.loc main_arg2)) t r (⟨2048 + n.val, by omega⟩ : Fin 5648) else (0 : EReal) := by
  have e1 : (⟨R.val / 256, by omega⟩ : Fin 32) = t := Fin.ext (by show R.val / 256 = t.val; omega)
  have e2 : (⟨R.val % 256, by omega⟩ : Fin 256) = r := Fin.ext (by show R.val % 256 = r.val; omega)
  have e3 : G9 m c (ix2 R n) = if h : n.val < 16 then proj (m (c.tc.loc main_arg0)) (m (c.tc.loc main_arg1)) (m (c.tc.loc main_arg2)) (⟨R.val / 256, by omega⟩ : Fin 32) (⟨R.val % 256, by omega⟩ : Fin 256) (⟨2048 + n.val, by omega⟩ : Fin 5648) else (0 : EReal) := rfl
  rw [e3, e1, e2]

/-- What a point stores is the closed form on its rows. -/
theorem step9 (t : Fin cfg0.N) (r : Fin 256) (R : Fin 8192) (hR : R.val = t.val * 256 + r.val) (n : Fin 128) :
    k0_pay2 (k0_pay5 (iblk m c 0 t) (View.ld (iblk m c 1 t) r0_1) (View.ld (iblk m c 1 t) r0_2)) ((iblk m c 4 t)) (ix2 r n) = G9 m c (ix2 R n) := by
  refine (prod9 _ _ _ _).trans (Eq.trans ?_ (G9_at m c ⟨t.val, t.isLt⟩ r R hR n).symm)
  simp only [rows, blk4]
  by_cases h : n.val < 16
  · simp only [h, dite_true]; unfold proj; rfl
  · simp only [h, dite_false, mul_zero, Finset.sum_const_zero]

/-- The array after the run is the closed form. -/
theorem final9 : (dats m 0 c).arrAt 9 cfg0.N = G9 m c := by
  refine (dats m 0 c).arrAt_eq_of_covers 9 (G9 m c) (by decide +kernel) fun t hf y => ?_
  blk_simp
  rw [after0_9]
  frame_out
  obtain ⟨r, n, rfl⟩ : ∃ (r : Fin 256) (n : Fin 128), y = ix2 r n := ⟨y 0, y 1, eq_ix2 y⟩
  have he : ((View.whole main_v9_2).slice (win0_9.rect t)).emb (ix2 r n)
      = ix2 (⟨t.val * 256 + r.val, by have : t.val < 32 := t.isLt; omega⟩ : Fin 8192) n := by blk_ext [idx9 t]
  rw [he]
  unfold k0_pay8; simp only [View.ld_unit_zero (S := S256x1024) (show (![0, 0] : Fin 2 → ℕ) = fun _ => 0 by decide)]
  exact step9 m c t r _ rfl n

/-- The weights of result window 10 at the region's entry. -/
theorem V_main_v6 (r : Fin 1024) (n : Fin 1536) :
    V m c main_v6 (ix2 r n) = m (c.tc.loc main_arg2) (ix3 (0 : Fin 1) r (⟨2064 + n.val, by omega⟩ : Fin 5648)) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  pointwise

theorem idx5 : ∀ t : Fin cfg0.N, win0_5.index t = ![0, 0] := by decide +kernel
theorem idx10 : ∀ t : Fin cfg0.N, win0_10.index t = ![t.val, 0] := by decide +kernel

theorem blk5 (t : Fin cfg0.N) (r : Fin 1024) (n : Fin 1536) : iblk m c 5 t (ix2 r n) = m (c.tc.loc main_arg2) (ix3 (0 : Fin 1) r (⟨2064 + n.val, by omega⟩ : Fin 5648)) := by
  refine Eq.trans ?_ (V_main_v6 m c r n)
  blk_ext [iblk, idx5 t]

/-- Result window 10's array in closed form. -/
def G10 : S8192x1536.Idx → EReal := fun i =>
  proj (m (c.tc.loc main_arg0)) (m (c.tc.loc main_arg1)) (m (c.tc.loc main_arg2)) ⟨(i 0).val / 256, Nat.div_lt_of_lt_mul (i 0).isLt⟩ ⟨(i 0).val % 256, Nat.mod_lt _ (by decide)⟩ (⟨2064 + (i 1).val, by have h : (i 1).val < 1536 := (i 1).isLt; omega⟩ : Fin 5648)

/-- The closed form at a row of context `t`. -/
theorem G10_at (t : Fin 32) (r : Fin 256) (R : Fin 8192) (hR : R.val = t.val * 256 + r.val) (n : Fin 1536) :
    G10 m c (ix2 R n) = proj (m (c.tc.loc main_arg0)) (m (c.tc.loc main_arg1)) (m (c.tc.loc main_arg2)) t r (⟨2064 + n.val, by omega⟩ : Fin 5648) := by
  have e1 : (⟨R.val / 256, by omega⟩ : Fin 32) = t := Fin.ext (by show R.val / 256 = t.val; omega)
  have e2 : (⟨R.val % 256, by omega⟩ : Fin 256) = r := Fin.ext (by show R.val % 256 = r.val; omega)
  have e3 : G10 m c (ix2 R n) = proj (m (c.tc.loc main_arg0)) (m (c.tc.loc main_arg1)) (m (c.tc.loc main_arg2)) (⟨R.val / 256, by omega⟩ : Fin 32) (⟨R.val % 256, by omega⟩ : Fin 256) (⟨2064 + n.val, by omega⟩ : Fin 5648) := rfl
  rw [e3, e1, e2]

/-- What a point stores is the closed form on its rows. -/
theorem step10 (t : Fin cfg0.N) (r : Fin 256) (R : Fin 8192) (hR : R.val = t.val * 256 + r.val) (n : Fin 1536) :
    k0_pay3 (k0_pay5 (iblk m c 0 t) (View.ld (iblk m c 1 t) r0_1) (View.ld (iblk m c 1 t) r0_2)) ((iblk m c 5 t)) (ix2 r n) = G10 m c (ix2 R n) := by
  refine (prod10 _ _ _ _).trans (Eq.trans ?_ (G10_at m c ⟨t.val, t.isLt⟩ r R hR n).symm)
  simp only [rows, blk5]
  unfold proj; rfl

/-- The array after the run is the closed form. -/
theorem final10 : (dats m 0 c).arrAt 10 cfg0.N = G10 m c := by
  refine (dats m 0 c).arrAt_eq_of_covers 10 (G10 m c) (by decide +kernel) fun t hf y => ?_
  blk_simp
  rw [after0_10]
  frame_out
  obtain ⟨r, n, rfl⟩ : ∃ (r : Fin 256) (n : Fin 1536), y = ix2 r n := ⟨y 0, y 1, eq_ix2 y⟩
  have he : ((View.whole main_v9_3).slice (win0_10.rect t)).emb (ix2 r n)
      = ix2 (⟨t.val * 256 + r.val, by have : t.val < 32 := t.isLt; omega⟩ : Fin 8192) n := by blk_ext [idx10 t]
  rw [he]
  unfold k0_pay8; simp only [View.ld_unit_zero (S := S256x1024) (show (![0, 0] : Fin 2 → ℕ) = fun _ => 0 by decide)]
  exact step10 m c t r _ rfl n

/-- The weights of result window 11 at the region's entry. -/
theorem V_main_v7 (r : Fin 1024) (n : Fin 2048) :
    V m c main_v7 (ix2 r n) = m (c.tc.loc main_arg2) (ix3 (0 : Fin 1) r (⟨3600 + n.val, by omega⟩ : Fin 5648)) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  pointwise

theorem idx6 : ∀ t : Fin cfg0.N, win0_6.index t = ![0, 0] := by decide +kernel
theorem idx11 : ∀ t : Fin cfg0.N, win0_11.index t = ![t.val, 0] := by decide +kernel

theorem blk6 (t : Fin cfg0.N) (r : Fin 1024) (n : Fin 2048) : iblk m c 6 t (ix2 r n) = m (c.tc.loc main_arg2) (ix3 (0 : Fin 1) r (⟨3600 + n.val, by omega⟩ : Fin 5648)) := by
  refine Eq.trans ?_ (V_main_v7 m c r n)
  blk_ext [iblk, idx6 t]

/-- Result window 11's array in closed form. -/
def G11 : S8192x2048.Idx → EReal := fun i =>
  proj (m (c.tc.loc main_arg0)) (m (c.tc.loc main_arg1)) (m (c.tc.loc main_arg2)) ⟨(i 0).val / 256, Nat.div_lt_of_lt_mul (i 0).isLt⟩ ⟨(i 0).val % 256, Nat.mod_lt _ (by decide)⟩ (⟨3600 + (i 1).val, by have h : (i 1).val < 2048 := (i 1).isLt; omega⟩ : Fin 5648)

/-- The closed form at a row of context `t`. -/
theorem G11_at (t : Fin 32) (r : Fin 256) (R : Fin 8192) (hR : R.val = t.val * 256 + r.val) (n : Fin 2048) :
    G11 m c (ix2 R n) = proj (m (c.tc.loc main_arg0)) (m (c.tc.loc main_arg1)) (m (c.tc.loc main_arg2)) t r (⟨3600 + n.val, by omega⟩ : Fin 5648) := by
  have e1 : (⟨R.val / 256, by omega⟩ : Fin 32) = t := Fin.ext (by show R.val / 256 = t.val; omega)
  have e2 : (⟨R.val % 256, by omega⟩ : Fin 256) = r := Fin.ext (by show R.val % 256 = r.val; omega)
  have e3 : G11 m c (ix2 R n) = proj (m (c.tc.loc main_arg0)) (m (c.tc.loc main_arg1)) (m (c.tc.loc main_arg2)) (⟨R.val / 256, by omega⟩ : Fin 32) (⟨R.val % 256, by omega⟩ : Fin 256) (⟨3600 + n.val, by omega⟩ : Fin 5648) := rfl
  rw [e3, e1, e2]

/-- What a point stores is the closed form on its rows. -/
theorem step11 (t : Fin cfg0.N) (r : Fin 256) (R : Fin 8192) (hR : R.val = t.val * 256 + r.val) (n : Fin 2048) :
    k0_pay4 (k0_pay5 (iblk m c 0 t) (View.ld (iblk m c 1 t) r0_1) (View.ld (iblk m c 1 t) r0_2)) ((iblk m c 6 t)) (ix2 r n) = G11 m c (ix2 R n) := by
  refine (prod11 _ _ _ _).trans (Eq.trans ?_ (G11_at m c ⟨t.val, t.isLt⟩ r R hR n).symm)
  simp only [rows, blk6]
  unfold proj; rfl

/-- The array after the run is the closed form. -/
theorem final11 : (dats m 0 c).arrAt 11 cfg0.N = G11 m c := by
  refine (dats m 0 c).arrAt_eq_of_covers 11 (G11 m c) (by decide +kernel) fun t hf y => ?_
  blk_simp
  rw [after0_11]
  frame_out
  obtain ⟨r, n, rfl⟩ : ∃ (r : Fin 256) (n : Fin 2048), y = ix2 r n := ⟨y 0, y 1, eq_ix2 y⟩
  have he : ((View.whole main_v9_4).slice (win0_11.rect t)).emb (ix2 r n)
      = ix2 (⟨t.val * 256 + r.val, by have : t.val < 32 := t.isLt; omega⟩ : Fin 8192) n := by blk_ext [idx11 t]
  rw [he]
  unfold k0_pay8; simp only [View.ld_unit_zero (S := S256x1024) (show (![0, 0] : Fin 2 → ℕ) = fun _ => 0 by decide)]
  exact step11 m c t r _ rfl n

end Cert.InprojIdeal.Val

namespace Cert.InprojRefIdeal.Val

open Cert.InprojRefIdeal Cert.InprojRefIdeal.Read Cert.InprojIdeal.Val

variable (x0 : FVec Ideal S32x256x1024 .f32) (x1 : FVec Ideal S8x6x1x1024 .f32) (x2 : FVec Ideal S1x1024x5648 .f32)

/-- The reference's product at an index. -/
theorem refProd (e : Fin 32) (r : Fin 256) (n : Fin 5648) :
    val_main_v31 (F := Ideal) x0 x1 x2 (ix3 e r n) = proj x0 x1 x2 e r n := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_0, val_main_cst_1, val_main_cst_2, val_main_cst_3, val_main_cst_4]
  rfl

/-- The product by flattened rows. -/
theorem refFlat (R : Fin 8192) (n : Fin 5648) :
    val_main_v32 (F := Ideal) x0 x1 x2 (ix2 R n)
      = proj x0 x1 x2 (⟨R.val / 256, by omega⟩ : Fin 32) (⟨R.val % 256, by omega⟩ : Fin 256) n := by
  rw [← refProd]
  unfold val_main_v32
  generalize val_main_v31 (F := Ideal) x0 x1 x2 = y
  pointwise

/-- The reference's result that window 7 answers, at an index. -/
theorem ref7 (R : Fin 8192) (n : Fin 1536) :
    val_main_v33 (F := Ideal) x0 x1 x2 (ix2 R n) = proj x0 x1 x2 (⟨R.val / 256, by omega⟩ : Fin 32) (⟨R.val % 256, by omega⟩ : Fin 256) (⟨0 + n.val, by omega⟩ : Fin 5648) := by
  simp only [← refFlat]
  unfold val_main_v33
  generalize val_main_v32 (F := Ideal) x0 x1 x2 = y
  pointwise

/-- The reference's result that window 8 answers, at an index. -/
theorem ref8 (R : Fin 8192) (n : Fin 512) :
    val_main_v34 (F := Ideal) x0 x1 x2 (ix2 R n) = proj x0 x1 x2 (⟨R.val / 256, by omega⟩ : Fin 32) (⟨R.val % 256, by omega⟩ : Fin 256) (⟨1536 + n.val, by omega⟩ : Fin 5648) := by
  simp only [← refFlat]
  unfold val_main_v34
  generalize val_main_v32 (F := Ideal) x0 x1 x2 = y
  pointwise

/-- The reference's result that window 9 answers, at an index. -/
theorem ref9 (R : Fin 8192) (n : Fin 128) :
    val_main_v38 (F := Ideal) x0 x1 x2 (ix2 R n) = if h : n.val < 16 then proj x0 x1 x2 (⟨R.val / 256, by omega⟩ : Fin 32) (⟨R.val % 256, by omega⟩ : Fin 256) (⟨2048 + n.val, by omega⟩ : Fin 5648) else (0 : EReal) := by
  simp only [← refFlat]
  unfold val_main_v38 val_main_v35 val_main_call0_v0 val_main_c
  generalize val_main_v32 (F := Ideal) x0 x1 x2 = y
  pointwise
  rw [sit0]

/-- The reference's result that window 10 answers, at an index. -/
theorem ref10 (R : Fin 8192) (n : Fin 1536) :
    val_main_v36 (F := Ideal) x0 x1 x2 (ix2 R n) = proj x0 x1 x2 (⟨R.val / 256, by omega⟩ : Fin 32) (⟨R.val % 256, by omega⟩ : Fin 256) (⟨2064 + n.val, by omega⟩ : Fin 5648) := by
  simp only [← refFlat]
  unfold val_main_v36
  generalize val_main_v32 (F := Ideal) x0 x1 x2 = y
  pointwise

/-- The reference's result that window 11 answers, at an index. -/
theorem ref11 (R : Fin 8192) (n : Fin 2048) :
    val_main_v37 (F := Ideal) x0 x1 x2 (ix2 R n) = proj x0 x1 x2 (⟨R.val / 256, by omega⟩ : Fin 32) (⟨R.val % 256, by omega⟩ : Fin 256) (⟨3600 + n.val, by omega⟩ : Fin 5648) := by
  simp only [← refFlat]
  unfold val_main_v37
  generalize val_main_v32 (F := Ideal) x0 x1 x2 = y
  pointwise

end Cert.InprojRefIdeal.Val
-- ==== Proof.InprojClaim.lean ====
/-
  The claims about the projection kernel: the three frames, and the equality of its five results with the reference's.
-/
module

public import proofs.«01_k».proof.Defs
public import proofs.«01_k».proof.Proof.Gen.Inproj.Frame
public import proofs.«01_k».proof.Proof.Gen.InprojRefIdeal.Run
public import proofs.«01_k».proof.Proof.InprojValue

@[expose] public section

set_option maxRecDepth 16384

noncomputable section

open Idealize.ShloMosaic Idealize.ShloMosaic.TcCoe Idealize.SL.Sem

namespace Cert.InprojClaim

open Cert.InprojIdeal.Val

/-- The kernel at the machine's formats ends with its arguments unchanged and its counters at zero. -/
theorem frame_p : Cert.quiescent_Inproj := fun m ρ _ => Cert.Inproj.Gen.frame m ρ

/-- The same of the kernel over the extended reals. -/
theorem frame_pi : Cert.quiescent_InprojIdeal := fun m ρ _ => Cert.InprojIdeal.Gen.frame m ρ

/-- The same of the reference over the extended reals. -/
theorem frame_ri : Cert.quiescent_InprojRefIdeal := fun m ρ _ =>
  (θ_run Cert.InprojRefIdeal.defs _ _).mono
    (fun r h => ⟨fun c => (h c).2.2.2.2.2, Idealize.ShloMosaic.sem_eq_zero_of_no_sems (by decide) r.2⟩)
    (Cert.InprojRefIdeal.Value.run (F := Ideal) m ρ)

/-- No operation is replaced between the kernel and its reading over the extended reals. -/
theorem preserves : Cert.preserves_Inproj_InprojIdeal := trivial

/-- The reference's term for the result that window 7 answers is the window's closed form. -/
theorem tie7 (m : (ℓ : Loc Cert.InprojIdeal.nD Cert.InprojIdeal.τ Cert.InprojIdeal.sig) → Buf (Elt Ideal) ℓ)
    (c : Dev Cert.InprojIdeal.nD) :
    Cert.InprojRefIdeal.Read.val_main_v33 (F := Ideal) (m (c.tc.loc Cert.InprojIdeal.main_arg0))
      (m (c.tc.loc Cert.InprojIdeal.main_arg1)) (m (c.tc.loc Cert.InprojIdeal.main_arg2)) = G7 m c := by
  funext i
  obtain ⟨r, n, rfl⟩ : ∃ (r : Fin 8192) (n : Fin 1536), i = ix2 r n := ⟨i 0, i 1, eq_ix2 i⟩
  exact (Cert.InprojRefIdeal.Val.ref7 _ _ _ r n).trans rfl

/-- The reference's term for the result that window 8 answers is the window's closed form. -/
theorem tie8 (m : (ℓ : Loc Cert.InprojIdeal.nD Cert.InprojIdeal.τ Cert.InprojIdeal.sig) → Buf (Elt Ideal) ℓ)
    (c : Dev Cert.InprojIdeal.nD) :
    Cert.InprojRefIdeal.Read.val_main_v34 (F := Ideal) (m (c.tc.loc Cert.InprojIdeal.main_arg0))
      (m (c.tc.loc Cert.InprojIdeal.main_arg1)) (m (c.tc.loc Cert.InprojIdeal.main_arg2)) = G8 m c := by
  funext i
  obtain ⟨r, n, rfl⟩ : ∃ (r : Fin 8192) (n : Fin 512), i = ix2 r n := ⟨i 0, i 1, eq_ix2 i⟩
  exact (Cert.InprojRefIdeal.Val.ref8 _ _ _ r n).trans rfl

/-- The reference's term for the result that window 9 answers is the window's closed form. -/
theorem tie9 (m : (ℓ : Loc Cert.InprojIdeal.nD Cert.InprojIdeal.τ Cert.InprojIdeal.sig) → Buf (Elt Ideal) ℓ)
    (c : Dev Cert.InprojIdeal.nD) :
    Cert.InprojRefIdeal.Read.val_main_v38 (F := Ideal) (m (c.tc.loc Cert.InprojIdeal.main_arg0))
      (m (c.tc.loc Cert.InprojIdeal.main_arg1)) (m (c.tc.loc Cert.InprojIdeal.main_arg2)) = G9 m c := by
  funext i
  obtain ⟨r, n, rfl⟩ : ∃ (r : Fin 8192) (n : Fin 128), i = ix2 r n := ⟨i 0, i 1, eq_ix2 i⟩
  exact (Cert.InprojRefIdeal.Val.ref9 _ _ _ r n).trans rfl

/-- The reference's term for the result that window 10 answers is the window's closed form. -/
theorem tie10 (m : (ℓ : Loc Cert.InprojIdeal.nD Cert.InprojIdeal.τ Cert.InprojIdeal.sig) → Buf (Elt Ideal) ℓ)
    (c : Dev Cert.InprojIdeal.nD) :
    Cert.InprojRefIdeal.Read.val_main_v36 (F := Ideal) (m (c.tc.loc Cert.InprojIdeal.main_arg0))
      (m (c.tc.loc Cert.InprojIdeal.main_arg1)) (m (c.tc.loc Cert.InprojIdeal.main_arg2)) = G10 m c := by
  funext i
  obtain ⟨r, n, rfl⟩ : ∃ (r : Fin 8192) (n : Fin 1536), i = ix2 r n := ⟨i 0, i 1, eq_ix2 i⟩
  exact (Cert.InprojRefIdeal.Val.ref10 _ _ _ r n).trans rfl

/-- The reference's term for the result that window 11 answers is the window's closed form. -/
theorem tie11 (m : (ℓ : Loc Cert.InprojIdeal.nD Cert.InprojIdeal.τ Cert.InprojIdeal.sig) → Buf (Elt Ideal) ℓ)
    (c : Dev Cert.InprojIdeal.nD) :
    Cert.InprojRefIdeal.Read.val_main_v37 (F := Ideal) (m (c.tc.loc Cert.InprojIdeal.main_arg0))
      (m (c.tc.loc Cert.InprojIdeal.main_arg1)) (m (c.tc.loc Cert.InprojIdeal.main_arg2)) = G11 m c := by
  funext i
  obtain ⟨r, n, rfl⟩ : ∃ (r : Fin 8192) (n : Fin 2048), i = ix2 r n := ⟨i 0, i 1, eq_ix2 i⟩
  exact (Cert.InprojRefIdeal.Val.ref11 _ _ _ r n).trans rfl

/-- The kernel's five results are the reference's. -/
theorem algebraic : Cert.algebraic_InprojIdeal_InprojRefIdeal := by
  intro m ρ m' ρ' _ hagree
  refine ⟨fun c => G7 m c, fun c => G8 m c, fun c => G9 m c, fun c => G10 m c, fun c => G11 m c, ?_, ?_⟩
  · refine (θ_run Cert.InprojIdeal.defs _ _).mono (fun _ h c => ?_) (Cert.InprojIdeal.Value.run_blocks (F := Ideal) m ρ)
    obtain ⟨h7, h8, h9, h10, h11, hk⟩ := h c
    exact ⟨h7.trans (final7 m c), h8.trans (final8 m c), h9.trans (final9 m c), h10.trans (final10 m c),
      h11.trans (final11 m c), hk⟩
  · refine (θ_run Cert.InprojRefIdeal.defs _ _).mono (fun _ h c => ?_) (Cert.InprojRefIdeal.Value.run (F := Ideal) m' ρ')
    obtain ⟨a0, a1, a2⟩ := hagree c
    obtain ⟨h7, h8, h9, h10, h11, hk⟩ := h c
    refine ⟨h7.trans ?_, h8.trans ?_, h9.trans ?_, h10.trans ?_, h11.trans ?_, hk⟩
    · rw [a0, a1, a2]
      exact (Cert.InprojRefIdeal.Read.val_main_v33_eq _ _ _).trans (tie7 m c)
    · rw [a0, a1, a2]
      exact (Cert.InprojRefIdeal.Read.val_main_v34_eq _ _ _).trans (tie8 m c)
    · rw [a0, a1, a2]
      exact (Cert.InprojRefIdeal.Read.val_main_v38_eq _ _ _).trans (tie9 m c)
    · rw [a0, a1, a2]
      exact (Cert.InprojRefIdeal.Read.val_main_v36_eq _ _ _).trans (tie10 m c)
    · rw [a0, a1, a2]
      exact (Cert.InprojRefIdeal.Read.val_main_v37_eq _ _ _).trans (tie11 m c)

end Cert.InprojClaim

end
-- ==== Proof.MixValue.lean ====
/-
  The mixing kernel's three results at an index: the layer's normalised sum, its modulated norm, and the
  router's probabilities.
-/
module

public import proofs.«01_k».proof.Proof.Gen.MixIdeal.Frame
public import proofs.«01_k».proof.Proof.Gen.MixIdeal.Value
public import proofs.«01_k».proof.Proof.Gen.MixRefIdeal.Read
public import proofs.«01_k».proof.Proof.InprojValue
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MixIdeal.Val

open Cert.MixIdeal Cert.MixIdeal.Gen

open Cert.InprojIdeal.Val (mean modRow sit0)

/-- A row less its mean, over its standard deviation, scaled by `g` and moved by `b`. -/
def lnRow (x g b : Fin 1024 → EReal) (k : Fin 1024) : EReal :=
  (x k - mean x) * Ideal.rsqrt (mean (fun j => (x j - mean x) * (x j - mean x)) + Ideal.ofBits FTy.f32 925353388#32)
    * g k + b k

/-- The logistic function. -/
def logis (z : EReal) : EReal := Ideal.div 1 (1 + Ideal.exp (-z))

/-- The two gated heads of a row, each taken up to the model's width, summed and multiplied by the output weights. -/
def mixRow (a b : Fin 512 → EReal) (g : Fin 2048 → EReal) (wa wb : Fin 512 → Fin 1024 → EReal)
    (wo : Fin 1024 → Fin 1024 → EReal) (n : Fin 1024) : EReal :=
  ∑ k : Fin 1024, (logis (g ⟨k.val, by omega⟩) * (∑ j, a j * wa j k) + logis (g ⟨1024 + k.val, by omega⟩) * (∑ j, b j * wb j k))
    * wo k n

/-- The row that the first norm takes: the scaled input plus the gated mixture. -/
def sumRow (x g1 mx : Fin 1024 → EReal) (k : Fin 1024) : EReal :=
  Ideal.ofBits FTy.f32 1066940400#32 * x k + g1 k * mx k

/-- The largest of a row of 128 logits. -/
def top (l : Fin 128 → EReal) : EReal := Finset.fold max (Ideal.ofBits FTy.f32 4286578688#32) l Finset.univ

/-- A row's exponentials over their sum. -/
def soft (l : Fin 128 → EReal) (n : Fin 128) : EReal :=
  Ideal.div (Ideal.exp (l n - top l)) (∑ x, Ideal.exp (l x - top l))

/-- The logits of a row: the sixteen products with the router's columns, and minus infinity beyond. -/
def logit (u : Fin 1024 → EReal) (w : Fin 1024 → Fin 16 → EReal) (n : Fin 128) : EReal :=
  if h : n.val < 16 then ∑ k, u k * w k ⟨n.val, h⟩ else Ideal.ofBits FTy.f32 4286578688#32

/-! ## The kernel's payloads at an index -/

/-- The gated product at an index. -/
theorem mixed (v2 : Vec Ideal S256x2048 .f32) (v19 : Vec Ideal S256x512 .f32) (v21 : Vec Ideal S512x1024 .bf16)
    (v25 : Vec Ideal S256x512 .f32) (v27 : Vec Ideal S512x1024 .bf16) (v33 : Vec Ideal S1024x1024 .bf16)
    (r : Fin 256) (n : Fin 1024) :
    k0_pay2 v2 v19 v21 v25 v27 v33 (ix2 r n)
      = mixRow (fun j => v19 (ix2 r j)) (fun j => v25 (ix2 r j)) (fun j => v2 (ix2 r j)) (fun j k => v21 (ix2 j k))
          (fun j k => v27 (ix2 j k)) (fun j k => v33 (ix2 j k)) n := by
  pointwise [k0_pay2]
  simp only [zero_sub]
  rfl

/-- The first norm's row at an index. -/
theorem first (v0 v35 : FVec Ideal S256x1024 .f32) (v36 : Vec Ideal S1x1x1x1024 .f32) (v63 v67 : Vec Ideal S1x1024 .f32)
    (r : Fin 256) (n : Fin 1024) :
    k0_pay5 (k0_pay1 v0) v35 v36 v63 v67 (ix2 r n)
      = lnRow (sumRow (fun k => v0 (ix2 r k)) (fun k => v36 (ix4 0 0 0 k)) (fun k => v35 (ix2 r k)))
          (fun k => v63 (ix2 0 k)) (fun k => v67 (ix2 0 k)) n := by
  pointwise [k0_pay5, k0_pay1]
  rfl

/-- The second norm's row at an index. -/
theorem second (v38 v40 : Vec Ideal S1x1x1x1024 .f32) (x1 : FVec Ideal S256x1024 .f32) (r : Fin 256) (n : Fin 1024) :
    k0_pay6 (k0_pay3 v38) (k0_pay4 v40) x1 (ix2 r n)
      = modRow (fun k => x1 (ix2 r k)) (fun k => v38 (ix4 0 0 0 k)) (fun k => v40 (ix4 0 0 0 k)) n := by
  pointwise [k0_pay6, k0_pay3, k0_pay4]
  rfl

/-- The comparison with sixteen picks the router's columns. -/
theorem lane : ∀ n : Fin 128, IntOp.cmpi CmpIPredicate.slt (BitVec.ofNat 32 n.val) 16#32 = if n.val < 16 then 1#1 else 0#1 := by
  decide

/-- The masked logit. -/
theorem masked (n : Fin 128) (a b : EReal) :
    Scalar.select (IntOp.cmpi CmpIPredicate.slt (BitVec.ofNat 32 n.val) 16#32) a b = if n.val < 16 then a else b := by
  rw [lane n]
  by_cases h : n.val < 16
  · simp only [h, if_true]; rfl
  · simp only [h, if_false]; rfl

/-- The probabilities at an index. -/
theorem probs (v39 v41 : FVec Ideal S1x1024 .f32) (x1 : FVec Ideal S256x1024 .f32) (w : Vec Ideal S1024x128 .f32)
    (r : Fin 256) (n : Fin 128) :
    k0_pay8 v39 v41 x1 w (ix2 r n)
      = soft (fun l => if l.val < 16 then ∑ k : Fin 1024, k0_pay6 v39 v41 x1 (ix2 r k) * w (ix2 k l)
          else Ideal.ofBits FTy.f32 4286578688#32) n := by
  unfold k0_pay8
  generalize k0_pay6 v39 v41 x1 = u
  pointwise
  simp only [masked]
  rfl

/-! ## The operands' blocks -/

variable (m : (ℓ : Loc nD τ sig) → Buf (Elt Ideal) ℓ) (c : Dev nD)

/-- The flattened rows at the region's entry. -/
theorem V12 (R : Fin 8192) (k : Fin 1024) :
    V m c main_v12 (ix2 R k) = m (c.tc.loc main_arg0) (ix3 (⟨R.val / 256, by omega⟩ : Fin 32) (⟨R.val % 256, by omega⟩ : Fin 256) k) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  pointwise

/-- The first head's up-projection at the region's entry. -/
theorem V1 (r : Fin 512) (n : Fin 1024) :
    V m c main_v1 (ix2 r n) = m (c.tc.loc main_arg5) (ix3 (0 : Fin 1) r n) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  pointwise

/-- The second head's up-projection at the region's entry. -/
theorem V3 (r : Fin 512) (n : Fin 1024) :
    V m c main_v3 (ix2 r n) = m (c.tc.loc main_arg6) (ix3 (0 : Fin 1) r n) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  pointwise

/-- The output weights at the region's entry. -/
theorem V5 (r : Fin 1024) (n : Fin 1024) :
    V m c main_v5 (ix2 r n) = m (c.tc.loc main_arg7) (ix3 (0 : Fin 1) r n) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  pointwise

/-- The norm's scale at the region's entry. -/
theorem V9 (r : Fin 1) (n : Fin 1024) :
    V m c main_v9 (ix2 r n) = m (c.tc.loc main_arg8) (ix2 (0 : Fin 1) n) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  pointwise

/-- The norm's offset at the region's entry. -/
theorem V11 (r : Fin 1) (n : Fin 1024) :
    V m c main_v11 (ix2 r n) = m (c.tc.loc main_arg9) (ix2 (0 : Fin 1) n) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  pointwise

/-- The padded router at the region's entry. -/
theorem V7 (r : Fin 1024) (n : Fin 128) :
    V m c main_v7 (ix2 r n) = if h : n.val < 16 then m (c.tc.loc main_arg10) (ix3 (0 : Fin 1) r ⟨n.val, h⟩) else (0 : EReal) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  pointwise
  rw [sit0]

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![0, 0, 0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![t.val, 0] := by decide +kernel
theorem idx12 : ∀ t : Fin cfg0.N, win0_12.index t = ![t.val, 0] := by decide +kernel
theorem idx13 : ∀ t : Fin cfg0.N, win0_13.index t = ![t.val, 0] := by decide +kernel

/-- A block's input row is the row of its context. -/
theorem blk0 (t : Fin cfg0.N) (r : Fin 256) (R : Fin 8192) (hR : R.val = t.val * 256 + r.val) (k : Fin 1024) :
    iblk m c 0 t (ix2 r k) = m (c.tc.loc main_arg0) (ix3 (⟨R.val / 256, by omega⟩ : Fin 32) (⟨R.val % 256, by omega⟩ : Fin 256) k) := by
  refine Eq.trans ?_ (V12 m c R k)
  have ht : t.val < 32 := t.isLt
  have hb : t.val * 256 + r.val < 8192 := by clear hR; have := r.isLt; omega
  obtain rfl : R = ⟨t.val * 256 + r.val, hb⟩ := Fin.ext hR
  blk_ext [iblk, idx0 t]

/-- A block's row of argument 1. -/
theorem blk1 (t : Fin cfg0.N) (r : Fin 256) (R : Fin 8192) (hR : R.val = t.val * 256 + r.val) (k : Fin 512) :
    iblk m c 1 t (ix2 r k) = m (c.tc.loc main_arg1) (ix2 R k) := by
  have ht : t.val < 32 := t.isLt
  have hb : t.val * 256 + r.val < 8192 := by clear hR; have := r.isLt; omega
  obtain rfl : R = ⟨t.val * 256 + r.val, hb⟩ := Fin.ext hR
  rw [← V_main_arg1 m c]
  blk_ext [iblk, idx1 t]

/-- A block's row of argument 2. -/
theorem blk2 (t : Fin cfg0.N) (r : Fin 256) (R : Fin 8192) (hR : R.val = t.val * 256 + r.val) (k : Fin 512) :
    iblk m c 2 t (ix2 r k) = m (c.tc.loc main_arg2) (ix2 R k) := by
  have ht : t.val < 32 := t.isLt
  have hb : t.val * 256 + r.val < 8192 := by clear hR; have := r.isLt; omega
  obtain rfl : R = ⟨t.val * 256 + r.val, hb⟩ := Fin.ext hR
  rw [← V_main_arg2 m c]
  blk_ext [iblk, idx2 t]

/-- A block's row of argument 3. -/
theorem blk3 (t : Fin cfg0.N) (r : Fin 256) (R : Fin 8192) (hR : R.val = t.val * 256 + r.val) (k : Fin 2048) :
    iblk m c 3 t (ix2 r k) = m (c.tc.loc main_arg3) (ix2 R k) := by
  have ht : t.val < 32 := t.isLt
  have hb : t.val * 256 + r.val < 8192 := by clear hR; have := r.isLt; omega
  obtain rfl : R = ⟨t.val * 256 + r.val, hb⟩ := Fin.ext hR
  rw [← V_main_arg3 m c]
  blk_ext [iblk, idx3 t]

/-- Row 2 of the modulation. -/
theorem blk4a (t : Fin cfg0.N) (k : Fin 1024) :
    View.ld (iblk m c 4 t) r0_5 (ix4 0 0 0 k) = m (c.tc.loc main_arg4) (ix4 0 2 0 k) := by
  refine (congrArg (iblk m c 4 t) (?_ : _ = ix4 0 2 0 k)).trans ?_
  · funext a; match a with
      | ⟨0, _⟩ => rfl
      | ⟨1, _⟩ => rfl
      | ⟨2, _⟩ => rfl
      | ⟨3, _⟩ => apply Fin.ext; show 0 + 1 * k.val = k.val; omega
  · rw [← V_main_arg4 m c]; blk_ext [iblk, idx4 t]

/-- Row 3 of the modulation. -/
theorem blk4b (t : Fin cfg0.N) (k : Fin 1024) :
    View.ld (iblk m c 4 t) r0_6 (ix4 0 0 0 k) = m (c.tc.loc main_arg4) (ix4 0 3 0 k) := by
  refine (congrArg (iblk m c 4 t) (?_ : _ = ix4 0 3 0 k)).trans ?_
  · funext a; match a with
      | ⟨0, _⟩ => rfl
      | ⟨1, _⟩ => rfl
      | ⟨2, _⟩ => rfl
      | ⟨3, _⟩ => apply Fin.ext; show 0 + 1 * k.val = k.val; omega
  · rw [← V_main_arg4 m c]; blk_ext [iblk, idx4 t]

/-- Row 4 of the modulation. -/
theorem blk4c (t : Fin cfg0.N) (k : Fin 1024) :
    View.ld (iblk m c 4 t) r0_7 (ix4 0 0 0 k) = m (c.tc.loc main_arg4) (ix4 0 4 0 k) := by
  refine (congrArg (iblk m c 4 t) (?_ : _ = ix4 0 4 0 k)).trans ?_
  · funext a; match a with
      | ⟨0, _⟩ => rfl
      | ⟨1, _⟩ => rfl
      | ⟨2, _⟩ => rfl
      | ⟨3, _⟩ => apply Fin.ext; show 0 + 1 * k.val = k.val; omega
  · rw [← V_main_arg4 m c]; blk_ext [iblk, idx4 t]

theorem blk5 (t : Fin cfg0.N) (r : Fin 512) (n : Fin 1024) : iblk m c 5 t (ix2 r n) = m (c.tc.loc main_arg5) (ix3 (0 : Fin 1) r n) := by
  refine Eq.trans ?_ (V1 m c r n)
  blk_ext [iblk, idx5 t]

theorem blk6 (t : Fin cfg0.N) (r : Fin 512) (n : Fin 1024) : iblk m c 6 t (ix2 r n) = m (c.tc.loc main_arg6) (ix3 (0 : Fin 1) r n) := by
  refine Eq.trans ?_ (V3 m c r n)
  blk_ext [iblk, idx6 t]

theorem blk7 (t : Fin cfg0.N) (r : Fin 1024) (n : Fin 1024) : iblk m c 7 t (ix2 r n) = m (c.tc.loc main_arg7) (ix3 (0 : Fin 1) r n) := by
  refine Eq.trans ?_ (V5 m c r n)
  blk_ext [iblk, idx7 t]

theorem blk8 (t : Fin cfg0.N) (r : Fin 1) (n : Fin 1024) : iblk m c 8 t (ix2 r n) = m (c.tc.loc main_arg8) (ix2 (0 : Fin 1) n) := by
  refine Eq.trans ?_ (V9 m c r n)
  blk_ext [iblk, idx8 t]

theorem blk9 (t : Fin cfg0.N) (r : Fin 1) (n : Fin 1024) : iblk m c 9 t (ix2 r n) = m (c.tc.loc main_arg9) (ix2 (0 : Fin 1) n) := by
  refine Eq.trans ?_ (V11 m c r n)
  blk_ext [iblk, idx9 t]

theorem blk10 (t : Fin cfg0.N) (r : Fin 1024) (n : Fin 128) : iblk m c 10 t (ix2 r n) = if h : n.val < 16 then m (c.tc.loc main_arg10) (ix3 (0 : Fin 1) r ⟨n.val, h⟩) else (0 : EReal) := by
  refine Eq.trans ?_ (V7 m c r n)
  blk_ext [iblk, idx10 t]

/-! ## The results -/

/-- Row `R` of the first result, from the arguments. -/
def rowX (x : FVec Ideal S32x256x1024 .f32) (oa ob : FVec Ideal S8192x512 .f32) (g : FVec Ideal S8192x2048 .f32)
    (md : FVec Ideal S8x6x1x1024 .f32) (wa wb : FVec Ideal S1x512x1024 .f32) (wo : FVec Ideal S1x1024x1024 .f32)
    (lg lb : FVec Ideal S1x1024 .f32) (R : Fin 8192) : Fin 1024 → EReal :=
  lnRow (sumRow (fun k => x (ix3 (⟨R.val / 256, by omega⟩ : Fin 32) (⟨R.val % 256, by omega⟩ : Fin 256) k))
      (fun k => md (ix4 0 2 0 k))
      (mixRow (fun j => oa (ix2 R j)) (fun j => ob (ix2 R j)) (fun j => g (ix2 R j)) (fun j k => wa (ix3 0 j k))
        (fun j k => wb (ix3 0 j k)) (fun j k => wo (ix3 0 j k))))
    (fun k => lg (ix2 0 k)) (fun k => lb (ix2 0 k))

/-- Row `R` of the second result. -/
def rowU (x : FVec Ideal S32x256x1024 .f32) (oa ob : FVec Ideal S8192x512 .f32) (g : FVec Ideal S8192x2048 .f32)
    (md : FVec Ideal S8x6x1x1024 .f32) (wa wb : FVec Ideal S1x512x1024 .f32) (wo : FVec Ideal S1x1024x1024 .f32)
    (lg lb : FVec Ideal S1x1024 .f32) (R : Fin 8192) : Fin 1024 → EReal :=
  modRow (rowX x oa ob g md wa wb wo lg lb R) (fun k => md (ix4 0 3 0 k)) (fun k => md (ix4 0 4 0 k))

/-- Row `R` of the third result. -/
def rowP (x : FVec Ideal S32x256x1024 .f32) (oa ob : FVec Ideal S8192x512 .f32) (g : FVec Ideal S8192x2048 .f32)
    (md : FVec Ideal S8x6x1x1024 .f32) (wa wb : FVec Ideal S1x512x1024 .f32) (wo : FVec Ideal S1x1024x1024 .f32)
    (lg lb : FVec Ideal S1x1024 .f32) (wr : FVec Ideal S1x1024x16 .f32) (R : Fin 8192) : Fin 128 → EReal :=
  soft (logit (rowU x oa ob g md wa wb wo lg lb R) (fun k n => wr (ix3 0 k n)))

/-- The first result's array in closed form. -/
def G11 : S8192x1024.Idx → EReal := fun i =>
  rowX (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7))
    (m (c.tc.loc main_arg8)) (m (c.tc.loc main_arg9)) (i 0) (i 1)

/-- The second result's array in closed form. -/
def G12 : S8192x1024.Idx → EReal := fun i =>
  rowU (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7))
    (m (c.tc.loc main_arg8)) (m (c.tc.loc main_arg9)) (i 0) (i 1)

/-- The third result's array in closed form. -/
def G13 : S8192x128.Idx → EReal := fun i =>
  rowP (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7))
    (m (c.tc.loc main_arg8)) (m (c.tc.loc main_arg9)) (m (c.tc.loc main_arg10)) (i 0) (i 1)

/-- The block that a point stores in the first window. -/
def blkX (t : Fin cfg0.N) : FVec Ideal S256x1024 .f32 :=
  k0_pay5 (k0_pay1 (iblk m c 0 t)) (k0_pay2 (iblk m c 3 t) (iblk m c 1 t) (iblk m c 5 t) (iblk m c 2 t) (iblk m c 6 t)
    (iblk m c 7 t)) (View.ld (iblk m c 4 t) r0_5) (iblk m c 8 t) (iblk m c 9 t)

theorem step11 (t : Fin cfg0.N) (r : Fin 256) (R : Fin 8192) (hR : R.val = t.val * 256 + r.val) (n : Fin 1024) :
    blkX m c t (ix2 r n) = G11 m c (ix2 R n) := by
  unfold blkX
  rw [first]
  simp only [mixed, blk0 m c t r R hR, blk1 m c t r R hR, blk2 m c t r R hR, blk3 m c t r R hR, blk4a, blk5, blk6, blk7,
    blk8, blk9]
  rfl

theorem inner12 (t : Fin cfg0.N) (r : Fin 256) (R : Fin 8192) (hR : R.val = t.val * 256 + r.val) (n : Fin 1024) :
    k0_pay6 (k0_pay3 (View.ld (iblk m c 4 t) r0_6)) (k0_pay4 (View.ld (iblk m c 4 t) r0_7)) (blkX m c t) (ix2 r n)
      = G12 m c (ix2 R n) := by
  rw [second]
  simp only [step11 m c t r R hR, blk4b, blk4c]
  rfl

theorem step12 (t : Fin cfg0.N) (r : Fin 256) (R : Fin 8192) (hR : R.val = t.val * 256 + r.val) (n : Fin 1024) :
    k0_pay7 (k0_pay3 (View.ld (iblk m c 4 t) r0_6)) (k0_pay4 (View.ld (iblk m c 4 t) r0_7)) (blkX m c t) (ix2 r n)
      = G12 m c (ix2 R n) := by
  refine Eq.trans ?_ (inner12 m c t r R hR n)
  unfold k0_pay7
  rfl

theorem step13 (t : Fin cfg0.N) (r : Fin 256) (R : Fin 8192) (hR : R.val = t.val * 256 + r.val) (n : Fin 128) :
    k0_pay8 (k0_pay3 (View.ld (iblk m c 4 t) r0_6)) (k0_pay4 (View.ld (iblk m c 4 t) r0_7)) (blkX m c t) (iblk m c 10 t)
      (ix2 r n) = G13 m c (ix2 R n) := by
  rw [probs]
  simp only [inner12 m c t r R hR, blk10]
  refine congrArg (fun l => soft l n) (funext fun l => ?_)
  unfold logit
  by_cases h : l.val < 16
  · simp only [h, if_true, dite_true]; rfl
  · simp only [h, if_false, dite_false]

/-- The array after the run is the closed form. -/
theorem final11 : (dats m 0 c).arrAt 11 cfg0.N = G11 m c := by
  refine (dats m 0 c).arrAt_eq_of_covers 11 (G11 m c) (by decide +kernel) fun t hf y => ?_
  blk_simp
  rw [after0_11]
  frame_out
  obtain ⟨r, n, rfl⟩ : ∃ (r : Fin 256) (n : Fin 1024), y = ix2 r n := ⟨y 0, y 1, eq_ix2 y⟩
  have he : ((View.whole main_v13_0).slice (win0_11.rect t)).emb (ix2 r n)
      = ix2 (⟨t.val * 256 + r.val, by have : t.val < 32 := t.isLt; omega⟩ : Fin 8192) n := by blk_ext [idx11 t]
  rw [he]
  try unfold k0_pay9
  try unfold k0_pay10
  try unfold k0_pay11
  simp only [View.ld_unit_zero (S := S256x1024) (show (![0, 0] : Fin 2 → ℕ) = fun _ => 0 by decide),
    View.ld_unit_zero (S := S256x2048) (show (![0, 0] : Fin 2 → ℕ) = fun _ => 0 by decide),
    View.ld_unit_zero (S := S256x512) (show (![0, 0] : Fin 2 → ℕ) = fun _ => 0 by decide),
    View.ld_unit_zero (S := S512x1024) (show (![0, 0] : Fin 2 → ℕ) = fun _ => 0 by decide),
    View.ld_unit_zero (S := S1024x1024) (show (![0, 0] : Fin 2 → ℕ) = fun _ => 0 by decide),
    View.ld_unit_zero (S := S1024x128) (show (![0, 0] : Fin 2 → ℕ) = fun _ => 0 by decide),
    View.ld_unit_zero (S := S1x1024) (show (![0, 0] : Fin 2 → ℕ) = fun _ => 0 by decide)]
  exact step11 m c t r _ rfl n

/-- The array after the run is the closed form. -/
theorem final12 : (dats m 0 c).arrAt 12 cfg0.N = G12 m c := by
  refine (dats m 0 c).arrAt_eq_of_covers 12 (G12 m c) (by decide +kernel) fun t hf y => ?_
  blk_simp
  rw [after0_12]
  frame_out
  obtain ⟨r, n, rfl⟩ : ∃ (r : Fin 256) (n : Fin 1024), y = ix2 r n := ⟨y 0, y 1, eq_ix2 y⟩
  have he : ((View.whole main_v13_1).slice (win0_12.rect t)).emb (ix2 r n)
      = ix2 (⟨t.val * 256 + r.val, by have : t.val < 32 := t.isLt; omega⟩ : Fin 8192) n := by blk_ext [idx12 t]
  rw [he]
  try unfold k0_pay9
  try unfold k0_pay10
  try unfold k0_pay11
  simp only [View.ld_unit_zero (S := S256x1024) (show (![0, 0] : Fin 2 → ℕ) = fun _ => 0 by decide),
    View.ld_unit_zero (S := S256x2048) (show (![0, 0] : Fin 2 → ℕ) = fun _ => 0 by decide),
    View.ld_unit_zero (S := S256x512) (show (![0, 0] : Fin 2 → ℕ) = fun _ => 0 by decide),
    View.ld_unit_zero (S := S512x1024) (show (![0, 0] : Fin 2 → ℕ) = fun _ => 0 by decide),
    View.ld_unit_zero (S := S1024x1024) (show (![0, 0] : Fin 2 → ℕ) = fun _ => 0 by decide),
    View.ld_unit_zero (S := S1024x128) (show (![0, 0] : Fin 2 → ℕ) = fun _ => 0 by decide),
    View.ld_unit_zero (S := S1x1024) (show (![0, 0] : Fin 2 → ℕ) = fun _ => 0 by decide)]
  exact step12 m c t r _ rfl n

/-- The array after the run is the closed form. -/
theorem final13 : (dats m 0 c).arrAt 13 cfg0.N = G13 m c := by
  refine (dats m 0 c).arrAt_eq_of_covers 13 (G13 m c) (by decide +kernel) fun t hf y => ?_
  blk_simp
  rw [after0_13]
  frame_out
  obtain ⟨r, n, rfl⟩ : ∃ (r : Fin 256) (n : Fin 128), y = ix2 r n := ⟨y 0, y 1, eq_ix2 y⟩
  have he : ((View.whole main_v13_2).slice (win0_13.rect t)).emb (ix2 r n)
      = ix2 (⟨t.val * 256 + r.val, by have : t.val < 32 := t.isLt; omega⟩ : Fin 8192) n := by blk_ext [idx13 t]
  rw [he]
  try unfold k0_pay9
  try unfold k0_pay10
  try unfold k0_pay11
  simp only [View.ld_unit_zero (S := S256x1024) (show (![0, 0] : Fin 2 → ℕ) = fun _ => 0 by decide),
    View.ld_unit_zero (S := S256x2048) (show (![0, 0] : Fin 2 → ℕ) = fun _ => 0 by decide),
    View.ld_unit_zero (S := S256x512) (show (![0, 0] : Fin 2 → ℕ) = fun _ => 0 by decide),
    View.ld_unit_zero (S := S512x1024) (show (![0, 0] : Fin 2 → ℕ) = fun _ => 0 by decide),
    View.ld_unit_zero (S := S1024x1024) (show (![0, 0] : Fin 2 → ℕ) = fun _ => 0 by decide),
    View.ld_unit_zero (S := S1024x128) (show (![0, 0] : Fin 2 → ℕ) = fun _ => 0 by decide),
    View.ld_unit_zero (S := S1x1024) (show (![0, 0] : Fin 2 → ℕ) = fun _ => 0 by decide)]
  exact step13 m c t r _ rfl n

end Cert.MixIdeal.Val

namespace Cert.MixRefIdeal.Val

open Cert.MixRefIdeal Cert.MixRefIdeal.Read Cert.MixIdeal.Val

open Cert.InprojIdeal.Val (mean modRow)

variable (x0 : FVec Ideal S32x256x1024 .f32) (x1 x2 : FVec Ideal S8192x512 .f32) (x3 : FVec Ideal S8192x2048 .f32)
  (x4 : FVec Ideal S8x6x1x1024 .f32) (x5 x6 : FVec Ideal S1x512x1024 .f32) (x7 : FVec Ideal S1x1024x1024 .f32)
  (x8 x9 : FVec Ideal S1x1024 .f32) (x10 : FVec Ideal S1x1024x16 .f32)

/-- The reference's gated product at an index. -/
theorem refMix (R : Fin 8192) (n : Fin 1024) :
    val_main_v22 (F := Ideal) x1 x2 x3 x5 x6 x7 (ix2 R n)
      = mixRow (fun j => x1 (ix2 R j)) (fun j => x2 (ix2 R j)) (fun j => x3 (ix2 R j)) (fun j k => x5 (ix3 0 j k))
        (fun j k => x6 (ix3 0 j k)) (fun j k => x7 (ix3 0 j k)) n := by
  pointwise [val_main_v6, val_main_v7, val_main_v8, val_main_v9, val_main_v10, val_main_v11, val_main_v12, val_main_v13, val_main_v14, val_main_v15, val_main_v16, val_main_v17, val_main_v18, val_main_v19, val_main_v20, val_main_v21, val_main_v22, val_main_cst, val_main_cst_0]
  rfl

/-- The row that the reference's first norm takes. -/
theorem refSum (R : Fin 8192) (n : Fin 1024) :
    val_main_v28 (F := Ideal) x0 x1 x2 x3 x4 x5 x6 x7 (ix2 R n)
      = sumRow (fun k => x0 (ix3 (⟨R.val / 256, by omega⟩ : Fin 32) (⟨R.val % 256, by omega⟩ : Fin 256) k))
        (fun k => x4 (ix4 0 2 0 k)) (fun k => val_main_v22 (F := Ideal) x1 x2 x3 x5 x6 x7 (ix2 R k)) n := by
  unfold val_main_v28 val_main_v27
  generalize val_main_v22 (F := Ideal) x1 x2 x3 x5 x6 x7 = y
  pointwise [val_main_v0, val_main_v1, val_main_v23, val_main_v24, val_main_v25, val_main_v26, val_main_cst_1]
  rfl

/-- The reference's first result at an index, from the row it takes. -/
theorem refFirst (R : Fin 8192) (n : Fin 1024) :
    val_main_v54 (F := Ideal) x0 x1 x2 x3 x4 x5 x6 x7 x8 x9 (ix2 R n)
      = lnRow (fun k => val_main_v28 (F := Ideal) x0 x1 x2 x3 x4 x5 x6 x7 (ix2 R k)) (fun k => x8 (ix2 0 k)) (fun k => x9 (ix2 0 k)) n := by
  unfold val_main_v54 val_main_v50 val_main_v46 val_main_v45 val_main_v44 val_main_v43 val_main_v41 val_main_v40 val_main_v39 val_main_v37 val_main_v36 val_main_v35 val_main_v34 val_main_v33 val_main_v32 val_main_v30 val_main_v29
  generalize val_main_v28 (F := Ideal) x0 x1 x2 x3 x4 x5 x6 x7 = y
  pointwise [val_main_v31, val_main_v38, val_main_v42, val_main_v47, val_main_v48, val_main_v49, val_main_v51, val_main_v52, val_main_v53, val_main_cst_2, val_main_cst_3, val_main_cst_4, val_main_cst_5, val_main_cst_6]
  rfl

/-- The reference's first result at an index. -/
theorem ref11 (R : Fin 8192) (n : Fin 1024) :
    val_main_v54 (F := Ideal) x0 x1 x2 x3 x4 x5 x6 x7 x8 x9 (ix2 R n) = rowX x0 x1 x2 x3 x4 x5 x6 x7 x8 x9 R n := by
  rw [refFirst]
  simp only [refSum, refMix]
  rfl

/-- The reference's second norm at an index, from the first result. -/
theorem refSecond (R : Fin 8192) (n : Fin 1024) :
    val_main_v78 (F := Ideal) x0 x1 x2 x3 x4 x5 x6 x7 x8 x9 (ix2 R n)
      = modRow (fun k => val_main_v54 (F := Ideal) x0 x1 x2 x3 x4 x5 x6 x7 x8 x9 (ix2 R k)) (fun k => x4 (ix4 0 3 0 k)) (fun k => x4 (ix4 0 4 0 k)) n := by
  unfold val_main_v78 val_main_v76 val_main_v72 val_main_v71 val_main_v70 val_main_v69 val_main_v67 val_main_v66 val_main_v65 val_main_v63 val_main_v62 val_main_v61 val_main_v60 val_main_v59 val_main_v58 val_main_v56 val_main_v55
  generalize val_main_v54 (F := Ideal) x0 x1 x2 x3 x4 x5 x6 x7 x8 x9 = y
  pointwise [val_main_v2, val_main_v3, val_main_v4, val_main_v5, val_main_v57, val_main_v64, val_main_v68, val_main_v73, val_main_v74, val_main_v75, val_main_v77, val_main_cst_7, val_main_cst_8, val_main_cst_9, val_main_cst_10, val_main_cst_11, val_main_cst_12]
  rfl

theorem refU (R : Fin 8192) (n : Fin 1024) :
    val_main_v78 (F := Ideal) x0 x1 x2 x3 x4 x5 x6 x7 x8 x9 (ix2 R n) = rowU x0 x1 x2 x3 x4 x5 x6 x7 x8 x9 R n := by
  rw [refSecond]
  simp only [ref11]
  rfl

/-- The reference's second result at an index. -/
theorem ref12 (R : Fin 8192) (n : Fin 1024) :
    val_main_v82 (F := Ideal) x0 x1 x2 x3 x4 x5 x6 x7 x8 x9 (ix2 R n) = rowU x0 x1 x2 x3 x4 x5 x6 x7 x8 x9 R n := by
  rw [← refU]
  unfold val_main_v82
  rfl

/-- The reference's logits at an index. -/
theorem refLogit (R : Fin 8192) (n : Fin 128) :
    val_main_v81 (F := Ideal) x0 x1 x2 x3 x4 x5 x6 x7 x8 x9 x10 (ix2 R n)
      = logit (fun k => val_main_v78 (F := Ideal) x0 x1 x2 x3 x4 x5 x6 x7 x8 x9 (ix2 R k)) (fun k l => x10 (ix3 0 k l)) n := by
  unfold val_main_v81 val_main_v80
  generalize val_main_v78 (F := Ideal) x0 x1 x2 x3 x4 x5 x6 x7 x8 x9 = y
  pointwise [val_main_v79, val_main_call0_v0, val_main_cst_13]
  rfl

/-- The largest of a row is no less than the value the search starts from. -/
theorem max_top (l : Fin 128 → EReal) : max (Ideal.ofBits FTy.f32 4286578688#32) (top l) = top l :=
  max_eq_right (Finset.le_fold_max _ |>.2 (Or.inl le_rfl))

/-- The reference's probabilities at an index, from its logits. -/
theorem refSoft (R : Fin 8192) (n : Fin 128) :
    val_main_v93 (F := Ideal) x0 x1 x2 x3 x4 x5 x6 x7 x8 x9 x10 (ix2 R n)
      = soft (fun l => val_main_v81 (F := Ideal) x0 x1 x2 x3 x4 x5 x6 x7 x8 x9 x10 (ix2 R l)) n := by
  unfold val_main_v93 val_main_v92 val_main_v91 val_main_v90 val_main_v89 val_main_v88 val_main_v87 val_main_v86 val_main_v85 val_main_v83
  generalize val_main_v81 (F := Ideal) x0 x1 x2 x3 x4 x5 x6 x7 x8 x9 x10 = y
  pointwise [val_main_v84, val_main_cst_14, val_main_cst_15, val_main_cst_16]
  have h := max_top (fun l => y (ix2 R l))
  unfold top at h
  simp only [h]
  rfl

/-- The reference's third result at an index. -/
theorem ref13 (R : Fin 8192) (n : Fin 128) :
    val_main_v93 (F := Ideal) x0 x1 x2 x3 x4 x5 x6 x7 x8 x9 x10 (ix2 R n) = rowP x0 x1 x2 x3 x4 x5 x6 x7 x8 x9 x10 R n := by
  rw [refSoft]
  refine congrArg (fun l => soft l n) (funext fun l => ?_)
  rw [refLogit]
  simp only [refU]

end Cert.MixRefIdeal.Val

end
-- ==== Proof.MixClaim.lean ====
/-
  The claims about the mixing kernel: the three frames, and the equality of its three results with the reference's.
-/
module

public import proofs.«01_k».proof.Defs
public import proofs.«01_k».proof.Proof.Gen.Mix.Frame
public import proofs.«01_k».proof.Proof.Gen.MixRefIdeal.Run
public import proofs.«01_k».proof.Proof.MixValue

@[expose] public section

set_option maxRecDepth 16384

noncomputable section

open Idealize.ShloMosaic Idealize.ShloMosaic.TcCoe Idealize.SL.Sem

namespace Cert.MixClaim

open Cert.MixIdeal.Val

/-- The kernel at the machine's formats ends with its arguments unchanged and its counters at zero. -/
theorem frame_p : Cert.quiescent_Mix := fun m ρ _ => Cert.Mix.Gen.frame m ρ

/-- The same of the kernel over the extended reals. -/
theorem frame_pi : Cert.quiescent_MixIdeal := fun m ρ _ => Cert.MixIdeal.Gen.frame m ρ

/-- The same of the reference over the extended reals. -/
theorem frame_ri : Cert.quiescent_MixRefIdeal := fun m ρ _ =>
  (θ_run Cert.MixRefIdeal.defs _ _).mono
    (fun r h => ⟨fun c => (h c).2.2.2, Idealize.ShloMosaic.sem_eq_zero_of_no_sems (by decide) r.2⟩)
    (Cert.MixRefIdeal.Value.run (F := Ideal) m ρ)

/-- No operation is replaced between the kernel and its reading over the extended reals. -/
theorem preserves : Cert.preserves_Mix_MixIdeal := trivial

/-- The reference's stage 54, of arrays equal to the kernel's arguments, is the kernel's result. -/
theorem tie11 (m : (ℓ : Loc Cert.MixIdeal.nD Cert.MixIdeal.τ Cert.MixIdeal.sig) → Buf (Elt Ideal) ℓ) (c : Dev Cert.MixIdeal.nD)
    {y0 : FVec Ideal Cert.MixRefIdeal.S32x256x1024 .f32} (e0 : y0 = m (c.tc.loc Cert.MixIdeal.main_arg0))
    {y1 : FVec Ideal Cert.MixRefIdeal.S8192x512 .f32} (e1 : y1 = m (c.tc.loc Cert.MixIdeal.main_arg1))
    {y2 : FVec Ideal Cert.MixRefIdeal.S8192x512 .f32} (e2 : y2 = m (c.tc.loc Cert.MixIdeal.main_arg2))
    {y3 : FVec Ideal Cert.MixRefIdeal.S8192x2048 .f32} (e3 : y3 = m (c.tc.loc Cert.MixIdeal.main_arg3))
    {y4 : FVec Ideal Cert.MixRefIdeal.S8x6x1x1024 .f32} (e4 : y4 = m (c.tc.loc Cert.MixIdeal.main_arg4))
    {y5 : FVec Ideal Cert.MixRefIdeal.S1x512x1024 .f32} (e5 : y5 = m (c.tc.loc Cert.MixIdeal.main_arg5))
    {y6 : FVec Ideal Cert.MixRefIdeal.S1x512x1024 .f32} (e6 : y6 = m (c.tc.loc Cert.MixIdeal.main_arg6))
    {y7 : FVec Ideal Cert.MixRefIdeal.S1x1024x1024 .f32} (e7 : y7 = m (c.tc.loc Cert.MixIdeal.main_arg7))
    {y8 : FVec Ideal Cert.MixRefIdeal.S1x1024 .f32} (e8 : y8 = m (c.tc.loc Cert.MixIdeal.main_arg8))
    {y9 : FVec Ideal Cert.MixRefIdeal.S1x1024 .f32} (e9 : y9 = m (c.tc.loc Cert.MixIdeal.main_arg9)) :
    Cert.MixRefIdeal.Read.val_main_v54 (F := Ideal) y0 y1 y2 y3 y4 y5 y6 y7 y8 y9 = G11 m c := by
  funext i
  obtain ⟨r, n, rfl⟩ : ∃ (r : Fin 8192) (n : Fin 1024), i = ix2 r n := ⟨i 0, i 1, eq_ix2 i⟩
  rw [Cert.MixRefIdeal.Val.ref11, e0, e1, e2, e3, e4, e5, e6, e7, e8, e9]
  rfl

/-- The reference's stage 82, of arrays equal to the kernel's arguments, is the kernel's result. -/
theorem tie12 (m : (ℓ : Loc Cert.MixIdeal.nD Cert.MixIdeal.τ Cert.MixIdeal.sig) → Buf (Elt Ideal) ℓ) (c : Dev Cert.MixIdeal.nD)
    {y0 : FVec Ideal Cert.MixRefIdeal.S32x256x1024 .f32} (e0 : y0 = m (c.tc.loc Cert.MixIdeal.main_arg0))
    {y1 : FVec Ideal Cert.MixRefIdeal.S8192x512 .f32} (e1 : y1 = m (c.tc.loc Cert.MixIdeal.main_arg1))
    {y2 : FVec Ideal Cert.MixRefIdeal.S8192x512 .f32} (e2 : y2 = m (c.tc.loc Cert.MixIdeal.main_arg2))
    {y3 : FVec Ideal Cert.MixRefIdeal.S8192x2048 .f32} (e3 : y3 = m (c.tc.loc Cert.MixIdeal.main_arg3))
    {y4 : FVec Ideal Cert.MixRefIdeal.S8x6x1x1024 .f32} (e4 : y4 = m (c.tc.loc Cert.MixIdeal.main_arg4))
    {y5 : FVec Ideal Cert.MixRefIdeal.S1x512x1024 .f32} (e5 : y5 = m (c.tc.loc Cert.MixIdeal.main_arg5))
    {y6 : FVec Ideal Cert.MixRefIdeal.S1x512x1024 .f32} (e6 : y6 = m (c.tc.loc Cert.MixIdeal.main_arg6))
    {y7 : FVec Ideal Cert.MixRefIdeal.S1x1024x1024 .f32} (e7 : y7 = m (c.tc.loc Cert.MixIdeal.main_arg7))
    {y8 : FVec Ideal Cert.MixRefIdeal.S1x1024 .f32} (e8 : y8 = m (c.tc.loc Cert.MixIdeal.main_arg8))
    {y9 : FVec Ideal Cert.MixRefIdeal.S1x1024 .f32} (e9 : y9 = m (c.tc.loc Cert.MixIdeal.main_arg9)) :
    Cert.MixRefIdeal.Read.val_main_v82 (F := Ideal) y0 y1 y2 y3 y4 y5 y6 y7 y8 y9 = G12 m c := by
  funext i
  obtain ⟨r, n, rfl⟩ : ∃ (r : Fin 8192) (n : Fin 1024), i = ix2 r n := ⟨i 0, i 1, eq_ix2 i⟩
  rw [Cert.MixRefIdeal.Val.ref12, e0, e1, e2, e3, e4, e5, e6, e7, e8, e9]
  rfl

/-- The reference's stage 93, of arrays equal to the kernel's arguments, is the kernel's result. -/
theorem tie13 (m : (ℓ : Loc Cert.MixIdeal.nD Cert.MixIdeal.τ Cert.MixIdeal.sig) → Buf (Elt Ideal) ℓ) (c : Dev Cert.MixIdeal.nD)
    {y0 : FVec Ideal Cert.MixRefIdeal.S32x256x1024 .f32} (e0 : y0 = m (c.tc.loc Cert.MixIdeal.main_arg0))
    {y1 : FVec Ideal Cert.MixRefIdeal.S8192x512 .f32} (e1 : y1 = m (c.tc.loc Cert.MixIdeal.main_arg1))
    {y2 : FVec Ideal Cert.MixRefIdeal.S8192x512 .f32} (e2 : y2 = m (c.tc.loc Cert.MixIdeal.main_arg2))
    {y3 : FVec Ideal Cert.MixRefIdeal.S8192x2048 .f32} (e3 : y3 = m (c.tc.loc Cert.MixIdeal.main_arg3))
    {y4 : FVec Ideal Cert.MixRefIdeal.S8x6x1x1024 .f32} (e4 : y4 = m (c.tc.loc Cert.MixIdeal.main_arg4))
    {y5 : FVec Ideal Cert.MixRefIdeal.S1x512x1024 .f32} (e5 : y5 = m (c.tc.loc Cert.MixIdeal.main_arg5))
    {y6 : FVec Ideal Cert.MixRefIdeal.S1x512x1024 .f32} (e6 : y6 = m (c.tc.loc Cert.MixIdeal.main_arg6))
    {y7 : FVec Ideal Cert.MixRefIdeal.S1x1024x1024 .f32} (e7 : y7 = m (c.tc.loc Cert.MixIdeal.main_arg7))
    {y8 : FVec Ideal Cert.MixRefIdeal.S1x1024 .f32} (e8 : y8 = m (c.tc.loc Cert.MixIdeal.main_arg8))
    {y9 : FVec Ideal Cert.MixRefIdeal.S1x1024 .f32} (e9 : y9 = m (c.tc.loc Cert.MixIdeal.main_arg9))
    {y10 : FVec Ideal Cert.MixRefIdeal.S1x1024x16 .f32} (e10 : y10 = m (c.tc.loc Cert.MixIdeal.main_arg10)) :
    Cert.MixRefIdeal.Read.val_main_v93 (F := Ideal) y0 y1 y2 y3 y4 y5 y6 y7 y8 y9 y10 = G13 m c := by
  funext i
  obtain ⟨r, n, rfl⟩ : ∃ (r : Fin 8192) (n : Fin 128), i = ix2 r n := ⟨i 0, i 1, eq_ix2 i⟩
  rw [Cert.MixRefIdeal.Val.ref13, e0, e1, e2, e3, e4, e5, e6, e7, e8, e9, e10]
  rfl

/-- The kernel's three results are the reference's. -/
theorem algebraic : Cert.algebraic_MixIdeal_MixRefIdeal := by
  intro m ρ m' ρ' _ hagree
  refine ⟨fun c => G11 m c, fun c => G12 m c, fun c => G13 m c, ?_, ?_⟩
  · refine (θ_run Cert.MixIdeal.defs _ _).mono (fun _ h c => ?_) (Cert.MixIdeal.Value.run_blocks (F := Ideal) m ρ)
    obtain ⟨h11, h12, h13, hk⟩ := h c
    exact ⟨h11.trans (final11 m c), h12.trans (final12 m c), h13.trans (final13 m c), hk⟩
  · refine (θ_run Cert.MixRefIdeal.defs _ _).mono (fun _ h c => ?_) (Cert.MixRefIdeal.Value.run (F := Ideal) m' ρ')
    obtain ⟨a0, a1, a2, a3, a4, a5, a6, a7, a8, a9, a10⟩ := hagree c
    obtain ⟨h11, h12, h13, hk⟩ := h c
    refine ⟨h11.trans ?_, h12.trans ?_, h13.trans ?_, hk⟩
    · exact (Cert.MixRefIdeal.Read.val_main_v54_eq _).trans (tie11 m c a0 a1 a2 a3 a4 a5 a6 a7 a8 a9)
    · exact (Cert.MixRefIdeal.Read.val_main_v82_eq _).trans (tie12 m c a0 a1 a2 a3 a4 a5 a6 a7 a8 a9)
    · exact (Cert.MixRefIdeal.Read.val_main_v93_eq _).trans (tie13 m c a0 a1 a2 a3 a4 a5 a6 a7 a8 a9 a10)

end Cert.MixClaim

end
-- ==== Proof.FinalBody.lean ====
/-
  The last call's body at an index: the scratch that the sixteen experts' weighted outputs fill, and the row that the
  norm takes from it.
-/
module

public import proofs.«01_k».proof.Proof.Gen.FinalIdeal.Frame
public import proofs.«01_k».proof.Proof.MixValue
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.Tactic Idealize.SL.Sem

namespace Cert.FinalIdeal.Val

open Cert.FinalIdeal Cert.FinalIdeal.Gen

open Cert.MixIdeal.Val (lnRow sumRow)

theorem z2 : (![0, 0] : Fin 2 → ℕ) = fun _ => 0 := by decide
theorem z3 : (![0, 0, 0] : Fin 3 → ℕ) = fun _ => 0 := by decide

/-- Row `r` of the scratch: the row's expert output, times the probability its one-hot row picks. -/
def wrow (x1 : Vec Ideal S16x32x1024 .bf16) (x2 : Vec Ideal S1x512x256 .bf16) (x3 : Vec Ideal S1x16x256 .f32) (r : Fin 512)
    (n : Fin 1024) : EReal :=
  x1 (ix3 (⟨r.val / 32, by omega⟩ : Fin 16) (⟨r.val % 32, by omega⟩ : Fin 32) n)
    * ∑ k : Fin 256, x2 (ix3 (0 : Fin 1) r k) * x3 (ix3 (0 : Fin 1) (⟨r.val / 32, by omega⟩ : Fin 16) k)

/-! ## The sixteen payloads at an index -/

variable (v0 : Vec Ideal S1x16x256 .f32) (a : Vec Ideal S1x32x256 .bf16) (y : Vec Ideal S1x32x1024 .bf16) (p : Fin 32)
  (n : Fin 1024)

theorem pay_e0 : k0_pay3 v0 a y (ix2 p n) = y (ix3 0 p n) * ∑ k : Fin 256, a (ix3 0 p k) * v0 (ix3 0 0 k) := by
  pointwise [k0_pay3, k0_pay2]
  try rfl

theorem pay_e1 : k0_pay4 v0 a y (ix2 p n) = y (ix3 0 p n) * ∑ k : Fin 256, a (ix3 0 p k) * v0 (ix3 0 1 k) := by
  pointwise [k0_pay4, k0_pay2]
  try rfl

theorem pay_e2 : k0_pay5 (k0_pay2 v0) a y (ix2 p n) = y (ix3 0 p n) * ∑ k : Fin 256, a (ix3 0 p k) * v0 (ix3 0 2 k) := by
  pointwise [k0_pay5, k0_pay2]
  try rfl

theorem pay_e3 : k0_pay6 (k0_pay2 v0) a y (ix2 p n) = y (ix3 0 p n) * ∑ k : Fin 256, a (ix3 0 p k) * v0 (ix3 0 3 k) := by
  pointwise [k0_pay6, k0_pay2]
  try rfl

theorem pay_e4 : k0_pay8 (k0_pay2 v0) (k0_pay7 a) y (ix2 p n) = y (ix3 0 p n) * ∑ k : Fin 256, a (ix3 0 p k) * v0 (ix3 0 4 k) := by
  pointwise [k0_pay8, k0_pay2, k0_pay7]
  try rfl

theorem pay_e5 : k0_pay9 (k0_pay2 v0) a y (ix2 p n) = y (ix3 0 p n) * ∑ k : Fin 256, a (ix3 0 p k) * v0 (ix3 0 5 k) := by
  pointwise [k0_pay9, k0_pay2]
  try rfl

theorem pay_e6 : k0_pay11 (k0_pay10 (k0_pay2 v0) a) y (ix2 p n) = y (ix3 0 p n) * ∑ k : Fin 256, a (ix3 0 p k) * v0 (ix3 0 6 k) := by
  pointwise [k0_pay11, k0_pay10, k0_pay2]
  try rfl

theorem pay_e7 : k0_pay12 (k0_pay2 v0) a y (ix2 p n) = y (ix3 0 p n) * ∑ k : Fin 256, a (ix3 0 p k) * v0 (ix3 0 7 k) := by
  pointwise [k0_pay12, k0_pay2]
  try rfl

theorem pay_e8 : k0_pay15 (k0_pay13 (k0_pay2 v0) a) (k0_pay14 y) (ix2 p n) = y (ix3 0 p n) * ∑ k : Fin 256, a (ix3 0 p k) * v0 (ix3 0 8 k) := by
  pointwise [k0_pay15, k0_pay13, k0_pay2, k0_pay14]
  try rfl

theorem pay_e9 : k0_pay16 (k0_pay2 v0) a y (ix2 p n) = y (ix3 0 p n) * ∑ k : Fin 256, a (ix3 0 p k) * v0 (ix3 0 9 k) := by
  pointwise [k0_pay16, k0_pay2]
  try rfl

theorem pay_e10 : k0_pay18 (k0_pay17 (k0_pay2 v0) a y) (ix2 p n) = y (ix3 0 p n) * ∑ k : Fin 256, a (ix3 0 p k) * v0 (ix3 0 10 k) := by
  pointwise [k0_pay18, k0_pay17, k0_pay2]
  try rfl

theorem pay_e11 : k0_pay19 (k0_pay2 v0) a y (ix2 p n) = y (ix3 0 p n) * ∑ k : Fin 256, a (ix3 0 p k) * v0 (ix3 0 11 k) := by
  pointwise [k0_pay19, k0_pay2]
  try rfl

theorem pay_e12 : k0_pay20 (k0_pay2 v0) a y (ix2 p n) = y (ix3 0 p n) * ∑ k : Fin 256, a (ix3 0 p k) * v0 (ix3 0 12 k) := by
  pointwise [k0_pay20, k0_pay2]
  try rfl

theorem pay_e13 : k0_pay21 (k0_pay2 v0) a y (ix2 p n) = y (ix3 0 p n) * ∑ k : Fin 256, a (ix3 0 p k) * v0 (ix3 0 13 k) := by
  pointwise [k0_pay21, k0_pay2]
  try rfl

theorem pay_e14 : k0_pay22 (k0_pay2 v0) a y (ix2 p n) = y (ix3 0 p n) * ∑ k : Fin 256, a (ix3 0 p k) * v0 (ix3 0 14 k) := by
  pointwise [k0_pay22, k0_pay2]
  try rfl

theorem pay_e15 : k0_pay24 (k0_pay23 (k0_pay2 v0) a) y (ix2 p n) = y (ix3 0 p n) * ∑ k : Fin 256, a (ix3 0 p k) * v0 (ix3 0 15 k) := by
  pointwise [k0_pay24, k0_pay23, k0_pay2]
  try rfl

/-- The norm of the row that the scratch gives. -/
theorem norm (g : Vec Ideal S1x512x256 .bf16) (w : Vec Ideal S512x1024 .bf16) (md : Vec Ideal S1x1x1x1024 .f32)
    (x : Vec Ideal S256x1024 .f32) (lg lb : Vec Ideal S1x1024 .f32) (r : Fin 256) (n : Fin 1024) :
    k0_pay1 (k0_pay25 g w md x) (k0_pay26 g w md x) k0_pay27 lg lb (ix2 r n)
      = lnRow (sumRow (fun k => x (ix2 r k)) (fun k => md (ix4 0 0 0 k)) (fun k => ∑ s : Fin 512, g (ix3 0 s r) * w (ix2 s k)))
          (fun k => lg (ix2 0 k)) (fun k => lb (ix2 0 k)) n := by
  pointwise [k0_pay1, k0_pay25, k0_pay26, k0_pay27]
  rfl

/-! ## The scratch read back -/

/-- A piece of the scratch whose payload is an expert's weighted output agrees with the rows' formula. -/
theorem tile (x1 : Vec Ideal S16x32x1024 .bf16) (x2 : Vec Ideal S1x512x256 .bf16) (x3 : Vec Ideal S1x16x256 .f32)
    (r : Fin 512) (n : Fin 1024) (E : Fin 16) (o e : ℕ) (ho : o = 32 * E.val) (he : e = E.val)
    (inb1 : ∀ a, ![e, 0, 0] a + ![1, 32, 1024] a ≤ S16x32x1024.size a)
    (inb2 : ∀ a, ![0, o, 0] a + ![1, 32, 256] a ≤ S1x512x256.size a)
    (P : (⟨S512x1024.rank, ![32, 1024]⟩ : Shape).Idx → EReal)
    (hP : ∀ (p : Fin 32) (d : Fin 1024), P (ix2 p d)
      = View.ld x1 (Rect.unit ![e, 0, 0] ![1, 32, 1024] inb1) (ix3 0 p d)
        * ∑ k : Fin 256, View.ld x2 (Rect.unit ![0, o, 0] ![1, 32, 256] inb2) (ix3 0 p k) * x3 (ix3 0 E k)) :
    View.TileAt (Val := Elt Ideal) (S := S512x1024) (e := .bf16) (ix2 r n) ![o, 0] ![32, 1024] P (wrow x1 x2 x3 r n) := by
  intro x hx
  subst ho he
  obtain ⟨p, d, rfl⟩ : ∃ (p : Fin 32) (d : Fin 1024), x = ix2 p d := ⟨x 0, x 1, eq_ix2 x⟩
  have h0 : r.val = 32 * E.val + p.val := hx 0
  have h1 : n.val = 0 + d.val := hx 1
  have hd : n = d := Fin.ext (by omega)
  subst hd
  rw [hP]
  have hp := p.isLt
  have hE : (⟨r.val / 32, by omega⟩ : Fin 16) = E := Fin.ext (by show r.val / 32 = E.val; omega)
  have hq : (⟨r.val % 32, by omega⟩ : Fin 32) = p := Fin.ext (by show r.val % 32 = p.val; omega)
  have e1 : View.ld x1 (Rect.unit ![E.val, 0, 0] ![1, 32, 1024] inb1) (ix3 0 p n) = x1 (ix3 E p n) := by
    refine congrArg x1 (funext fun a => Fin.ext ?_)
    match a with
    | ⟨0, _⟩ => show E.val + 1 * 0 = E.val; omega
    | ⟨1, _⟩ => show 0 + 1 * p.val = p.val; omega
    | ⟨2, _⟩ => show 0 + 1 * n.val = n.val; omega
  have e2 : ∀ k : Fin 256, View.ld x2 (Rect.unit ![0, 32 * E.val, 0] ![1, 32, 256] inb2) (ix3 0 p k) = x2 (ix3 0 r k) := by
    intro k
    refine congrArg x2 (funext fun a => Fin.ext ?_)
    match a with
    | ⟨0, _⟩ => show 0 + 1 * 0 = 0; omega
    | ⟨1, _⟩ => show 32 * E.val + 1 * p.val = r.val; omega
    | ⟨2, _⟩ => show 0 + 1 * k.val = k.val; omega
  unfold wrow
  rw [hE, hq]
  simp only [e1, e2]

/-- The result's block at an index. -/
theorem out7 (c : Dev nD) (i : grid0.Coords) (arg1 : Memref sig .tc .vmem S256x1024 .f32) (harg1 : arg1.IsWhole)
    (arg2 : Memref sig .tc .vmem S16x32x1024 .bf16) (harg2 : arg2.IsWhole) (arg3 : Memref sig .tc .vmem S1x512x256 .bf16)
    (harg3 : arg3.IsWhole) (arg4 : Memref sig .tc .vmem S1x16x256 .f32) (harg4 : arg4.IsWhole)
    (arg5 : Memref sig .tc .vmem S1x6x1x1024 .f32) (harg5 : arg5.IsWhole) (arg6 : Memref sig .tc .vmem S1x1024 .f32)
    (harg6 : arg6.IsWhole) (arg7 : Memref sig .tc .vmem S1x1024 .f32) (harg7 : arg7.IsWhole)
    (arg8 : Memref sig .tc .vmem S256x1024 .f32) (harg8 : arg8.IsWhole) (arg9 : Memref sig .tc .vmem S512x1024 .bf16)
    (harg9 : arg9.IsWhole)
    (x0 : Vec Ideal S256x1024 .f32) (x1 : Vec Ideal S16x32x1024 .bf16) (x2 : Vec Ideal S1x512x256 .bf16)
    (x3 : Vec Ideal S1x16x256 .f32) (x4 : Vec Ideal S1x6x1x1024 .f32) (x5 x6 : Vec Ideal S1x1024 .f32) (r : Fin 256) (n : Fin 1024) :
    out0_A_7 (F := Ideal) c i arg1 harg1 arg2 harg2 arg3 harg3 arg4 harg4 arg5 harg5 arg6 harg6 arg7 harg7 arg8 harg8 arg9 harg9
      x0 x1 x2 x3 x4 x5 x6 (ix2 r n)
      = lnRow (sumRow (fun k => x0 (ix2 r k)) (fun k => View.ld x4 (Rect.unit ![0, 5, 0, 0] ![1, 1, 1, 1024] inb_S1x6x1x1024_S1x1x1x1024_0_5_0_0) (ix4 0 0 0 k))
          (fun k => ∑ s : Fin 512, x2 (ix3 0 s r) * wrow x1 x2 x3 s k))
          (fun k => x5 (ix2 0 k)) (fun k => x6 (ix2 0 k)) n := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  rw [View.canon_unit_zero z2]
  simp only [View.readCov_eq_canon', View.readAt_eq_ld, harg1.read_unread, harg2.read_unread, harg3.read_unread, harg4.read_unread,
    harg5.read_unread, harg6.read_unread, harg7.read_unread, View.ld_unit_zero (S := S1x16x256) z3,
    View.ld_unit_zero (S := S1x512x256) z3, View.ld_unit_zero (S := S256x1024) z2, View.ld_unit_zero (S := S1x1024) z2]
  refine (norm _ _ _ _ _ _ _ _).trans ?_
  refine congrArg (fun z => lnRow (sumRow _ _ z) _ _ n) (funext fun k => Finset.sum_congr rfl fun s _ =>
    congrArg (x2 (ix3 0 s r) * ·) ?_)
  have hi : (Rect.unit (s := S512x1024) ![0, 0] ![512, 1024] inb_S512x1024_S512x1024_0_0).toLoadRect.idx (ix2 s k) = ix2 s k := by
    funext a; apply Fin.ext
    match a with
    | ⟨0, _⟩ => show 0 + 1 * s.val = s.val; omega
    | ⟨1, _⟩ => show 0 + 1 * k.val = k.val; omega
  refine (congrArg (View.canon _) hi).trans ?_
  refine View.canon_eq_of_allAt _ _ _ (View.cover_of_tiled_head _ _ _ (by rfl) _) ?_
  refine View.allAt_cons_unit _ _ _ _ _ (tile x1 x2 x3 s k 15 _ _ (by decide) (by decide) _ _ _ fun p d => pay_e15 _ _ _ p d) ?_
  refine View.allAt_cons_unit _ _ _ _ _ (tile x1 x2 x3 s k 14 _ _ (by decide) (by decide) _ _ _ fun p d => pay_e14 _ _ _ p d) ?_
  refine View.allAt_cons_unit _ _ _ _ _ (tile x1 x2 x3 s k 13 _ _ (by decide) (by decide) _ _ _ fun p d => pay_e13 _ _ _ p d) ?_
  refine View.allAt_cons_unit _ _ _ _ _ (tile x1 x2 x3 s k 12 _ _ (by decide) (by decide) _ _ _ fun p d => pay_e12 _ _ _ p d) ?_
  refine View.allAt_cons_unit _ _ _ _ _ (tile x1 x2 x3 s k 11 _ _ (by decide) (by decide) _ _ _ fun p d => pay_e11 _ _ _ p d) ?_
  refine View.allAt_cons_unit _ _ _ _ _ (tile x1 x2 x3 s k 10 _ _ (by decide) (by decide) _ _ _ fun p d => pay_e10 _ _ _ p d) ?_
  refine View.allAt_cons_unit _ _ _ _ _ (tile x1 x2 x3 s k 9 _ _ (by decide) (by decide) _ _ _ fun p d => pay_e9 _ _ _ p d) ?_
  refine View.allAt_cons_unit _ _ _ _ _ (tile x1 x2 x3 s k 8 _ _ (by decide) (by decide) _ _ _ fun p d => pay_e8 _ _ _ p d) ?_
  refine View.allAt_cons_unit _ _ _ _ _ (tile x1 x2 x3 s k 7 _ _ (by decide) (by decide) _ _ _ fun p d => pay_e7 _ _ _ p d) ?_
  refine View.allAt_cons_unit _ _ _ _ _ (tile x1 x2 x3 s k 6 _ _ (by decide) (by decide) _ _ _ fun p d => pay_e6 _ _ _ p d) ?_
  refine View.allAt_cons_unit _ _ _ _ _ (tile x1 x2 x3 s k 5 _ _ (by decide) (by decide) _ _ _ fun p d => pay_e5 _ _ _ p d) ?_
  refine View.allAt_cons_unit _ _ _ _ _ (tile x1 x2 x3 s k 4 _ _ (by decide) (by decide) _ _ _ fun p d => pay_e4 _ _ _ p d) ?_
  refine View.allAt_cons_unit _ _ _ _ _ (tile x1 x2 x3 s k 3 _ _ (by decide) (by decide) _ _ _ fun p d => pay_e3 _ _ _ p d) ?_
  refine View.allAt_cons_unit _ _ _ _ _ (tile x1 x2 x3 s k 2 _ _ (by decide) (by decide) _ _ _ fun p d => pay_e2 _ _ _ p d) ?_
  refine View.allAt_cons_unit _ _ _ _ _ (tile x1 x2 x3 s k 1 _ _ (by decide) (by decide) _ _ _ fun p d => pay_e1 _ _ _ p d) ?_
  refine View.allAt_cons_unit _ _ _ _ _ (tile x1 x2 x3 s k 0 _ _ (by decide) (by decide) _ _ _ fun p d => pay_e0 _ _ _ p d) ?_
  exact View.allAt_nil _ _

end Cert.FinalIdeal.Val

end
-- ==== Proof.FinalRef.lean ====
/-
  The last call's reference at an index.
-/
module

public import proofs.«01_k».proof.Proof.Gen.FinalRefIdeal.Read
public import proofs.«01_k».proof.Proof.MixValue
public import Idealize.ShloMosaic.Lib.Pipeline.ValueKit
public import Idealize.ShloMosaic.Lib.Pointwise
public import Idealize.ShloMosaic.Lib.TwoAxisContraction

@[expose] public section

set_option maxRecDepth 16384

noncomputable section

open Idealize.ShloMosaic Idealize.ShloMosaic.TcCoe Idealize.SL.Sem

namespace Cert.FinalRefIdeal.Val

open Cert.FinalRefIdeal Cert.FinalRefIdeal.Read

open Cert.MixIdeal.Val (lnRow sumRow)

variable (x0 : FVec Ideal S8192x1024 .f32) (x1 : FVec Ideal S16x1024x1024 .bf16) (x2 : FVec Ideal S32x512x256 .bf16)
  (x3 : FVec Ideal S32x16x256 .f32) (x4 : FVec Ideal S8x6x1x1024 .f32) (x5 x6 : FVec Ideal S1x1024 .f32)

/-- An expert's output for the row `s` of a request, weighted. -/
def gated (b : Fin 32) (s : Fin 512) (n : Fin 1024) : EReal :=
  x1 (ix3 (⟨s.val / 32, by omega⟩ : Fin 16) (⟨b.val * 32 + s.val % 32, by omega⟩ : Fin 1024) n)
    * ∑ k : Fin 256, x2 (ix3 b s k) * x3 (ix3 b (⟨s.val / 32, by omega⟩ : Fin 16) k)

/-- The rows put back at their tokens and summed. -/
def placed (b : Fin 32) (t : Fin 256) (n : Fin 1024) : EReal :=
  ∑ s : Fin 512, x2 (ix3 b s t) * gated x1 x2 x3 b s n

/-- The row that the norm takes. -/
def rowOf (R : Fin 8192) (n : Fin 1024) : EReal :=
  lnRow (sumRow (fun k => x0 (ix2 R k)) (fun k => x4 (ix4 0 5 0 k))
      (placed x1 x2 x3 (⟨R.val / 256, by omega⟩ : Fin 32) (⟨R.val % 256, by omega⟩ : Fin 256)))
    (fun k => x5 (ix2 0 k)) (fun k => x6 (ix2 0 k)) n

/-- The row of a request that an expert and a place of its take name. -/
def at2 (e : Fin 16) (p : Fin 32) : Fin 512 := ⟨e.val * 32 + p.val, by omega⟩

theorem refOne (b : Fin 32) (e : Fin 16) (p : Fin 32) (k : Fin 256) :
    val_main_v1 (F := Ideal) x2 (ix4 b e p k) = x2 (ix3 b (at2 e p) k) := by
  pointwise [val_main_v0, val_main_v1]
  try rfl

theorem refGated (b : Fin 32) (e : Fin 16) (p : Fin 32) (n : Fin 1024) :
    val_main_v8 (F := Ideal) x1 x2 x3 (ix4 b e p n) = gated x1 x2 x3 b (at2 e p) n := by
  have h1 : (⟨(at2 e p).val / 32, by omega⟩ : Fin 16) = e := Fin.ext (by show (e.val * 32 + p.val) / 32 = e.val; omega)
  have h2 : (⟨b.val * 32 + (at2 e p).val % 32, by omega⟩ : Fin 1024) = ⟨b.val * 32 + p.val, by omega⟩ :=
    Fin.ext (by show b.val * 32 + (e.val * 32 + p.val) % 32 = b.val * 32 + p.val; omega)
  unfold gated
  rw [h1, h2]
  pointwise [val_main_v0, val_main_v1, val_main_v2, val_main_v3, val_main_v4, val_main_v5, val_main_v6, val_main_v7, val_main_v8]
  try rfl

theorem refPlaced (b : Fin 32) (t : Fin 256) (n : Fin 1024) :
    val_main_v9 (F := Ideal) x1 x2 x3 (ix3 b t n) = placed x1 x2 x3 b t n := by
  unfold val_main_v9
  generalize hA : val_main_v1 (F := Ideal) x2 = A
  generalize hB : val_main_v8 (F := Ideal) x1 x2 x3 = B
  simp only [Host.dotGeneral]
  rw [Ideal.dotGeneral_apply, ValueIdx.sum_contr2 dot_S32x16x32x256_S32x16x32x1024_S32x256x1024_21_21_3_3_0_0 32 16 rfl rfl rfl]
  have el : ∀ (p : Fin 32) (e : Fin 16), dot_S32x16x32x256_S32x16x32x1024_S32x256x1024_21_21_3_3_0_0.lhsIdx (ix3 b t n)
      ((ValueIdx.contrEquiv2 dot_S32x16x32x256_S32x16x32x1024_S32x256x1024_21_21_3_3_0_0 32 16 rfl rfl rfl).symm (p, e)) = ix4 b e p t := by
    intro p e
    funext a; apply Fin.ext
    match a with
    | ⟨0, _⟩ => rfl
    | ⟨1, _⟩ => rfl
    | ⟨2, _⟩ => rfl
    | ⟨3, _⟩ => rfl
  have er : ∀ (p : Fin 32) (e : Fin 16), dot_S32x16x32x256_S32x16x32x1024_S32x256x1024_21_21_3_3_0_0.rhsIdx (ix3 b t n)
      ((ValueIdx.contrEquiv2 dot_S32x16x32x256_S32x16x32x1024_S32x256x1024_21_21_3_3_0_0 32 16 rfl rfl rfl).symm (p, e)) = ix4 b e p n := by
    intro p e
    funext a; apply Fin.ext
    match a with
    | ⟨0, _⟩ => rfl
    | ⟨1, _⟩ => rfl
    | ⟨2, _⟩ => rfl
    | ⟨3, _⟩ => rfl
  simp only [el, er]
  subst hA hB
  simp only [refOne, refGated]
  rw [Finset.sum_comm]
  unfold placed
  rw [← Fintype.sum_prod_type']
  refine Fintype.sum_equiv finProdFinEquiv _ _ fun q => ?_
  have hq : finProdFinEquiv q = at2 q.1 q.2 := Fin.ext (by
    show q.2.val + 32 * q.1.val = q.1.val * 32 + q.2.val; omega)
  rw [hq]

/-- The row that the reference's norm takes. -/
theorem refSum (b : Fin 32) (t : Fin 256) (n : Fin 1024) :
    val_main_v18 (F := Ideal) x0 x1 x2 x3 x4 (ix3 b t n)
      = sumRow (fun k => x0 (ix2 (⟨b.val * 256 + t.val, by omega⟩ : Fin 8192) k)) (fun k => x4 (ix4 0 5 0 k))
          (fun k => val_main_v9 (F := Ideal) x1 x2 x3 (ix3 b t k)) n := by
  unfold val_main_v18 val_main_v17
  generalize val_main_v9 (F := Ideal) x1 x2 x3 = y
  pointwise [val_main_v10, val_main_v11, val_main_v12, val_main_v13, val_main_v14, val_main_v15, val_main_v16, val_main_cst]
  rfl

/-- The reference's result at an index, from the row its norm takes. -/
theorem refLast (R : Fin 8192) (n : Fin 1024) :
    val_main_v45 (F := Ideal) x0 x1 x2 x3 x4 x5 x6 (ix2 R n)
      = lnRow (fun k => val_main_v18 (F := Ideal) x0 x1 x2 x3 x4 (ix3 (⟨R.val / 256, by omega⟩ : Fin 32) (⟨R.val % 256, by omega⟩ : Fin 256) k))
          (fun k => x5 (ix2 0 k)) (fun k => x6 (ix2 0 k)) n := by
  unfold val_main_v45 val_main_v44 val_main_v40 val_main_v36 val_main_v35 val_main_v34 val_main_v33 val_main_v31 val_main_v30 val_main_v29 val_main_v27 val_main_v26 val_main_v25 val_main_v24 val_main_v23 val_main_v22 val_main_v20 val_main_v19
  generalize val_main_v18 (F := Ideal) x0 x1 x2 x3 x4 = y
  pointwise [val_main_v21, val_main_v28, val_main_v32, val_main_v37, val_main_v38, val_main_v39, val_main_v41, val_main_v42, val_main_v43, val_main_cst_0, val_main_cst_1, val_main_cst_2, val_main_cst_3, val_main_cst_4]
  rfl

/-- The reference's result at an index. -/
theorem ref7 (R : Fin 8192) (n : Fin 1024) :
    val_main_v45 (F := Ideal) x0 x1 x2 x3 x4 x5 x6 (ix2 R n) = rowOf x0 x1 x2 x3 x4 x5 x6 R n := by
  rw [refLast]
  have hR : (⟨R.val / 256 * 256 + R.val % 256, by omega⟩ : Fin 8192) = R :=
    Fin.ext (by show R.val / 256 * 256 + R.val % 256 = R.val; omega)
  simp only [refSum, refPlaced, hR]
  rfl

end Cert.FinalRefIdeal.Val

end
-- ==== Proof.FinalValue.lean ====
/-
  The last call's result at an index: the experts' outputs, each weighted by its probability and put back at its token,
  added to the row and normalised.
-/
module

public import proofs.«01_k».proof.Proof.Gen.FinalIdeal.Frame
public import proofs.«01_k».proof.Proof.Gen.FinalIdeal.Value
public import proofs.«01_k».proof.Proof.FinalBody
public import proofs.«01_k».proof.Proof.FinalRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FinalIdeal.Val

open Cert.FinalIdeal Cert.FinalIdeal.Gen

open Cert.MixIdeal.Val (lnRow sumRow)

variable (m : (ℓ : Loc nD τ sig) → Buf (Elt Ideal) ℓ) (c : Dev nD)

/-- The norm's scale at the region's entry. -/
theorem V1 (r : Fin 1) (n : Fin 1024) : V m c main_v1 (ix2 r n) = m (c.tc.loc main_arg5) (ix2 (0 : Fin 1) n) := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp
  pointwise

/-- The norm's offset at the region's entry. -/
theorem V3 (r : Fin 1) (n : Fin 1024) : V m c main_v3 (ix2 r n) = m (c.tc.loc main_arg6) (ix2 (0 : Fin 1) n) := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp
  pointwise

theorem idx0 : ∀ t : Fin cfg0.N, win0_0.index t = ![t.val, 0] := by decide +kernel
theorem idx1 : ∀ t : Fin cfg0.N, win0_1.index t = ![0, t.val, 0] := by decide +kernel
theorem idx2 : ∀ t : Fin cfg0.N, win0_2.index t = ![t.val, 0, 0] := by decide +kernel
theorem idx3 : ∀ t : Fin cfg0.N, win0_3.index t = ![t.val, 0, 0] := by decide +kernel
theorem idx4 : ∀ t : Fin cfg0.N, win0_4.index t = ![0, 0, 0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![t.val, 0] := by decide +kernel

/-- A block's input row. -/
theorem blk0 (t : Fin cfg0.N) (r : Fin 256) (R : Fin 8192) (hR : R.val = t.val * 256 + r.val) (k : Fin 1024) :
    iblk m c 0 t (ix2 r k) = m (c.tc.loc main_arg0) (ix2 R k) := by
  have ht : t.val < 32 := t.isLt
  have hb : t.val * 256 + r.val < 8192 := by clear hR; have := r.isLt; omega
  obtain rfl : R = ⟨t.val * 256 + r.val, hb⟩ := Fin.ext hR
  rw [← V_main_arg0 m c]
  blk_ext [iblk, idx0 t]

/-- A block's rows of an expert's outputs. -/
theorem blk1 (t : Fin cfg0.N) (e : Fin 16) (p : Fin 32) (k : Fin 1024) :
    iblk m c 1 t (ix3 e p k)
      = m (c.tc.loc main_arg1) (ix3 e (⟨t.val * 32 + p.val, by have : t.val < 32 := t.isLt; omega⟩ : Fin 1024) k) := by
  rw [← V_main_arg1 m c]
  blk_ext [iblk, idx1 t]

/-- A request's choices. -/
theorem blk2 (t : Fin cfg0.N) (s : Fin 512) (k : Fin 256) :
    iblk m c 2 t (ix3 (0 : Fin 1) s k) = m (c.tc.loc main_arg2) (ix3 (⟨t.val, t.isLt⟩ : Fin 32) s k) := by
  rw [← V_main_arg2 m c]
  blk_ext [iblk, idx2 t]

/-- A request's probabilities. -/
theorem blk3 (t : Fin cfg0.N) (e : Fin 16) (k : Fin 256) :
    iblk m c 3 t (ix3 (0 : Fin 1) e k) = m (c.tc.loc main_arg3) (ix3 (⟨t.val, t.isLt⟩ : Fin 32) e k) := by
  rw [← V_main_arg3 m c]
  blk_ext [iblk, idx3 t]

/-- The gate's row of the modulation. -/
theorem blk4 (t : Fin cfg0.N) (k : Fin 1024) :
    View.ld (iblk m c 4 t) (Rect.unit ![0, 5, 0, 0] ![1, 1, 1, 1024] inb_S1x6x1x1024_S1x1x1x1024_0_5_0_0) (ix4 0 0 0 k)
      = m (c.tc.loc main_arg4) (ix4 0 5 0 k) := by
  refine (congrArg (iblk m c 4 t) (?_ : _ = ix4 0 5 0 k)).trans ?_
  · funext a; match a with
      | ⟨0, _⟩ => rfl
      | ⟨1, _⟩ => rfl
      | ⟨2, _⟩ => rfl
      | ⟨3, _⟩ => apply Fin.ext; show 0 + 1 * k.val = k.val; omega
  · rw [← V_main_arg4 m c]; blk_ext [iblk, idx4 t]

theorem blk5 (t : Fin cfg0.N) (r : Fin 1) (n : Fin 1024) : iblk m c 5 t (ix2 r n) = m (c.tc.loc main_arg5) (ix2 (0 : Fin 1) n) := by
  refine Eq.trans ?_ (V1 m c r n)
  blk_ext [iblk, idx5 t]

theorem blk6 (t : Fin cfg0.N) (r : Fin 1) (n : Fin 1024) : iblk m c 6 t (ix2 r n) = m (c.tc.loc main_arg6) (ix2 (0 : Fin 1) n) := by
  refine Eq.trans ?_ (V3 m c r n)
  blk_ext [iblk, idx6 t]

/-- The result's array in closed form. -/
def G7 : S8192x1024.Idx → EReal := fun i =>
  Cert.FinalRefIdeal.Val.rowOf (m (c.tc.loc main_arg0)) (m (c.tc.loc main_arg1)) (m (c.tc.loc main_arg2))
    (m (c.tc.loc main_arg3)) (m (c.tc.loc main_arg4)) (m (c.tc.loc main_arg5)) (m (c.tc.loc main_arg6)) (i 0) (i 1)

/-- A row of the scratch at a point is the reference's weighted row. -/
theorem weighed (t : Fin cfg0.N) (s : Fin 512) (n : Fin 1024) :
    wrow (iblk m c 1 t) (iblk m c 2 t) (iblk m c 3 t) s n
      = Cert.FinalRefIdeal.Val.gated (m (c.tc.loc main_arg1)) (m (c.tc.loc main_arg2)) (m (c.tc.loc main_arg3))
          (⟨t.val, t.isLt⟩ : Fin 32) s n := by
  unfold wrow
  simp only [blk1, blk2, blk3]
  rfl

theorem step7 (t : Fin cfg0.N) (r : Fin 256) (R : Fin 8192) (hR : R.val = t.val * 256 + r.val) (n : Fin 1024) :
    outsAt0 m c t (ix2 r n) = G7 m c (ix2 R n) := by
  unfold outsAt0
  rw [out7]
  simp only [weighed, blk0 m c t r R hR, blk2, blk4, blk5, blk6]
  have ht : t.val < 32 := t.isLt
  have h1 : (⟨R.val / 256, by omega⟩ : Fin 32) = ⟨t.val, ht⟩ := Fin.ext (by show R.val / 256 = t.val; have := r.isLt; omega)
  have h2 : (⟨R.val % 256, by omega⟩ : Fin 256) = r := Fin.ext (by show R.val % 256 = r.val; have := r.isLt; omega)
  show _ = Cert.FinalRefIdeal.Val.rowOf _ _ _ _ _ _ _ R n
  unfold Cert.FinalRefIdeal.Val.rowOf
  rw [h1, h2]
  rfl

/-- The array after the run is the closed form. -/
theorem final7 : (dats m 0 c).arrAt 7 cfg0.N = G7 m c := by
  refine (dats m 0 c).arrAt_eq_of_covers 7 (G7 m c) (by decide +kernel) fun t hf y => ?_
  blk_simp
  rw [after0_7]
  obtain ⟨r, n, rfl⟩ : ∃ (r : Fin 256) (n : Fin 1024), y = ix2 r n := ⟨y 0, y 1, eq_ix2 y⟩
  have he : ((View.whole main_v4).slice (win0_7.rect t)).emb (ix2 r n)
      = ix2 (⟨t.val * 256 + r.val, by have : t.val < 32 := t.isLt; omega⟩ : Fin 8192) n := by blk_ext [idx7 t]
  rw [he]
  exact step7 m c t r _ rfl n

end Cert.FinalIdeal.Val

end
-- ==== Proof.FinalClaim.lean ====
/-
  The claims about the last call: the three frames, and the equality of its result with the reference's.
-/
module

public import proofs.«01_k».proof.Defs
public import proofs.«01_k».proof.Proof.Gen.Final.Frame
public import proofs.«01_k».proof.Proof.Gen.FinalRefIdeal.Run
public import proofs.«01_k».proof.Proof.FinalValue

@[expose] public section

set_option maxRecDepth 16384

noncomputable section

open Idealize.ShloMosaic Idealize.ShloMosaic.TcCoe Idealize.SL.Sem

namespace Cert.FinalClaim

open Cert.FinalIdeal.Val

/-- The kernel at the machine's formats ends with its arguments unchanged and its counters at zero. -/
theorem frame_p : Cert.quiescent_Final := fun m ρ _ => Cert.Final.Gen.frame m ρ

/-- The same of the kernel over the extended reals. -/
theorem frame_pi : Cert.quiescent_FinalIdeal := fun m ρ _ => Cert.FinalIdeal.Gen.frame m ρ

/-- The same of the reference over the extended reals. -/
theorem frame_ri : Cert.quiescent_FinalRefIdeal := fun m ρ _ =>
  (θ_run Cert.FinalRefIdeal.defs _ _).mono
    (fun r h => ⟨fun c => (h c).2, Idealize.ShloMosaic.sem_eq_zero_of_no_sems (by decide) r.2⟩)
    (Cert.FinalRefIdeal.Value.run (F := Ideal) m ρ)

/-- No operation is replaced between the kernel and its reading over the extended reals. -/
theorem preserves : Cert.preserves_Final_FinalIdeal := trivial

/-- The reference's result, of arrays equal to the kernel's arguments, is the kernel's. -/
theorem tie7 (m : (ℓ : Loc Cert.FinalIdeal.nD Cert.FinalIdeal.τ Cert.FinalIdeal.sig) → Buf (Elt Ideal) ℓ) (c : Dev Cert.FinalIdeal.nD)
    {y0 : FVec Ideal Cert.FinalRefIdeal.S8192x1024 .f32} (e0 : y0 = m (c.tc.loc Cert.FinalIdeal.main_arg0))
    {y1 : FVec Ideal Cert.FinalRefIdeal.S16x1024x1024 .bf16} (e1 : y1 = m (c.tc.loc Cert.FinalIdeal.main_arg1))
    {y2 : FVec Ideal Cert.FinalRefIdeal.S32x512x256 .bf16} (e2 : y2 = m (c.tc.loc Cert.FinalIdeal.main_arg2))
    {y3 : FVec Ideal Cert.FinalRefIdeal.S32x16x256 .f32} (e3 : y3 = m (c.tc.loc Cert.FinalIdeal.main_arg3))
    {y4 : FVec Ideal Cert.FinalRefIdeal.S8x6x1x1024 .f32} (e4 : y4 = m (c.tc.loc Cert.FinalIdeal.main_arg4))
    {y5 : FVec Ideal Cert.FinalRefIdeal.S1x1024 .f32} (e5 : y5 = m (c.tc.loc Cert.FinalIdeal.main_arg5))
    {y6 : FVec Ideal Cert.FinalRefIdeal.S1x1024 .f32} (e6 : y6 = m (c.tc.loc Cert.FinalIdeal.main_arg6)) :
    Cert.FinalRefIdeal.Read.val_main_v45 (F := Ideal) y0 y1 y2 y3 y4 y5 y6 = G7 m c := by
  funext i
  obtain ⟨r, n, rfl⟩ : ∃ (r : Fin 8192) (n : Fin 1024), i = ix2 r n := ⟨i 0, i 1, eq_ix2 i⟩
  rw [Cert.FinalRefIdeal.Val.ref7, e0, e1, e2, e3, e4, e5, e6]
  rfl

/-- The kernel's result is the reference's. -/
theorem algebraic : Cert.algebraic_FinalIdeal_FinalRefIdeal := by
  intro m ρ m' ρ' _ hagree
  refine ⟨fun c => G7 m c, ?_, ?_⟩
  · refine (θ_run Cert.FinalIdeal.defs _ _).mono (fun _ h c => ?_) (Cert.FinalIdeal.Value.run_blocks (F := Ideal) m ρ)
    obtain ⟨h7, hk⟩ := h c
    exact ⟨h7.trans (final7 m c), hk⟩
  · refine (θ_run Cert.FinalRefIdeal.defs _ _).mono (fun _ h c => ?_) (Cert.FinalRefIdeal.Value.run (F := Ideal) m' ρ')
    obtain ⟨a0, a1, a2, a3, a4, a5, a6⟩ := hagree c
    obtain ⟨h7, hk⟩ := h c
    exact ⟨h7.trans ((Cert.FinalRefIdeal.Read.val_main_v45_eq _ _).trans (tie7 m c a0 a1 a2 a3 a4 a5 a6)), hk⟩

end Cert.FinalClaim

end
-- ==== Proof.lean ====
/-
  The certificate's claim, assembled from the modules that prove it call by call.
-/
module

public import proofs.«01_k».proof.Defs
public import proofs.«01_k».proof.Proof.Gen.Pre_finite
public import proofs.«01_k».proof.Proof.ExpertsClaim
public import proofs.«01_k».proof.Proof.DeltaClaim
public import proofs.«01_k».proof.Proof.InprojClaim
public import proofs.«01_k».proof.Proof.MixClaim
public import proofs.«01_k».proof.Proof.FinalClaim

@[expose] public section

noncomputable section

namespace Cert.Proof

open Idealize.ShloMosaic Idealize.SL.Sem

/-- Every claim of the certificate. -/
theorem claim : Cert.Claim :=
  ⟨Cert.Experts.Gen.facts, Cert.ExpertsIdeal.Gen.facts, Cert.ExpertsRefIdeal.Gen.facts, Cert.Delta.Gen.facts, Cert.DeltaIdeal.Gen.facts, Cert.DeltaRefIdeal.Gen.facts, Cert.Inproj.Gen.facts, Cert.InprojIdeal.Gen.facts, Cert.InprojRefIdeal.Gen.facts, Cert.Mix.Gen.facts, Cert.MixIdeal.Gen.facts, Cert.MixRefIdeal.Gen.facts, Cert.Final.Gen.facts, Cert.FinalIdeal.Gen.facts, Cert.FinalRefIdeal.Gen.facts, Cert.Pre_finite.Gen.facts,
    Cert.ExpertsClaim.frame_p, Cert.ExpertsClaim.frame_pi, Cert.ExpertsClaim.frame_ri, Cert.DeltaClaim.frame_p, Cert.DeltaClaim.frame_pi, Cert.DeltaClaim.frame_pi_pre, Cert.DeltaClaim.frame_ri, Cert.DeltaClaim.frame_ri_pre, Cert.InprojClaim.frame_p, Cert.InprojClaim.frame_pi, Cert.InprojClaim.frame_ri, Cert.MixClaim.frame_p, Cert.MixClaim.frame_pi, Cert.MixClaim.frame_ri, Cert.FinalClaim.frame_p, Cert.FinalClaim.frame_pi, Cert.FinalClaim.frame_ri, Cert.ExpertsClaim.preserves, Cert.ExpertsClaim.algebraic, Cert.DeltaClaim.preserves, Cert.DeltaClaim.algebraic, Cert.InprojClaim.preserves, Cert.InprojClaim.algebraic, Cert.MixClaim.preserves, Cert.MixClaim.algebraic, Cert.FinalClaim.preserves, Cert.FinalClaim.algebraic⟩

end Cert.Proof

end
